-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok_KernelIdeal [hPre_inputs_ok_KernelIdeal : Cert.Pre_inputs_ok_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_inputs_ok_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_inputs_ok_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_inputs_ok_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok_ReferenceIdeal [hPre_inputs_ok_ReferenceIdeal : Cert.Pre_inputs_ok_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_inputs_ok_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_inputs_ok_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_inputs_ok_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_ok_KernelIdeal [hKernelIdeal : Cert.KernelIdeal.Facts] [hPre_inputs_ok_KernelIdeal : Cert.Pre_inputs_ok_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_ok_ReferenceIdeal [hReferenceIdeal : Cert.ReferenceIdeal.Facts] [hPre_inputs_ok_ReferenceIdeal : Cert.Pre_inputs_ok_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_inputs_ok_KernelIdeal [hKernelIdeal : Cert.KernelIdeal.Facts] [hReferenceIdeal : Cert.ReferenceIdeal.Facts] [hPre_inputs_ok_KernelIdeal : Cert.Pre_inputs_ok_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![256, 32, 16, 128]⟩ ⟨4, ![512, 32, 16, 128]⟩ (Layout.meshBlock [2, 2, 4] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![256, 32, 16, 128]⟩ ⟨4, ![512, 32, 16, 128]⟩ (Layout.meshBlock [2, 2, 4] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_ok_KernelIdeal : Cert.Pre_inputs_ok_KernelIdeal.Facts) (hPre_inputs_ok_ReferenceIdeal : Cert.Pre_inputs_ok_ReferenceIdeal.Facts),
    quiescent_Kernel (hKernel := hKernel)
    ∧ quiescent_KernelIdeal (hKernelIdeal := hKernelIdeal)
    ∧ quiescent_KernelIdeal_pre_inputs_ok_KernelIdeal (hKernelIdeal := hKernelIdeal) (hPre_inputs_ok_KernelIdeal := hPre_inputs_ok_KernelIdeal)
    ∧ quiescent_ReferenceIdeal (hReferenceIdeal := hReferenceIdeal)
    ∧ quiescent_ReferenceIdeal_pre_inputs_ok_ReferenceIdeal (hReferenceIdeal := hReferenceIdeal) (hPre_inputs_ok_ReferenceIdeal := hPre_inputs_ok_ReferenceIdeal)
    ∧ preserves_Kernel_KernelIdeal
    ∧ algebraic_KernelIdeal_ReferenceIdeal_pre_inputs_ok_KernelIdeal (hKernelIdeal := hKernelIdeal) (hReferenceIdeal := hReferenceIdeal) (hPre_inputs_ok_KernelIdeal := hPre_inputs_ok_KernelIdeal)
-- ==== Pre_inputs_ok_KernelIdeal.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩

class Facts : Prop where
  bcast_S256_S1x256_1 : S256.BroadcastsInDim S1x256 (![1] : Fin 1 → Fin S1x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x1x16x128 : S_.BroadcastsInDim S32x1x16x128 (![] : Fin 0 → Fin S32x1x16x128.rank)
  bcast_S_S256x32x16x128 : S_.BroadcastsInDim S256x32x16x128 (![] : Fin 0 → Fin S256x32x16x128.rank)
  bcast_S_S32 : S_.BroadcastsInDim S32 (![] : Fin 0 → Fin S32.rank)
  bcast_S_S32x256 : S_.BroadcastsInDim S32x256 (![] : Fin 0 → Fin S32x256.rank)

variable [Facts]

def fn_part1 {F : FTy → Type} [FloatOps F] (main_v8 : IVec S32x1x16x128 1) (main_v11 : IVec S256x32x16x128 1) (main_v13 : IVec S32 1) (main_v14 : IVec S32x256 1) (main_v16 : IVec S32x256 1) (main_v18 : IVec S32x256 1) : IVec S32x1x16x128 1 × IVec S256x32x16x128 1 × IVec S32 1 × IVec S32x256 1 :=
  let main_v19 : IVec S32x256 1 := andi main_v16 main_v18
  let main_v20 : IVec S32x256 1 := ori main_v14 main_v19
  (main_v8, main_v11, main_v13, main_v20)

def fn {F : FTy → Type} [FloatOps F] (main_arg0 : FVec F S32x1x16x128 .f32) (main_arg1 : FVec F S256x32x16x128 .f32) (main_arg2 : FVec F S256x32x16x128 .f32) (main_arg3 : IVec S32x256 32) (main_arg4 : IVec S32 32) : IVec S32x1x16x128 1 × IVec S256x32x16x128 1 × IVec S32 1 × IVec S32x256 1 :=
  let main_v0 : IVec S256 32 := iotaInDim S256 32 0
  let main_v1 : IVec S1x256 32 := broadcastInDim S1x256 ![1] bcast_S256_S1x256_1 main_v0
  let main_v2 : IVec S32x1 32 := broadcastInDim S32x1 ![0] bcast_S32_S32x1_0 main_arg4
  let main_v3 : IVec S32x256 32 := broadcastInDim S32x256 ![0, 1] bcast_S1x256_S32x256_0_1 main_v1
  let main_v4 : IVec S32x256 32 := broadcastInDim S32x256 ![0, 1] bcast_S32x1_S32x256_0_1 main_v2
  let main_v5 : IVec S32x256 1 := cmpi .slt main_v3 main_v4
  let main_v6 : FVec F S32x1x16x128 .f32 := Host.absf main_arg0
  let main_cst : FVec F S_ .f32 := constant S_ .f32 0x7F800000#32
  let main_v7 : FVec F S32x1x16x128 .f32 := broadcastInDim S32x1x16x128 ![] bcast_S_S32x1x16x128 main_cst
  let main_v8 : IVec S32x1x16x128 1 := cmpf .olt main_v6 main_v7
  let main_v9 : FVec F S256x32x16x128 .f32 := Host.absf main_arg1
  let main_cst_0 : FVec F S_ .f32 := constant S_ .f32 0x7F800000#32
  let main_v10 : FVec F S256x32x16x128 .f32 := broadcastInDim S256x32x16x128 ![] bcast_S_S256x32x16x128 main_cst_0
  let main_v11 : IVec S256x32x16x128 1 := cmpf .olt main_v9 main_v10
  let main_c : IVec S_ 32 := constantI S_ 32 1#32
  let main_v12 : IVec S32 32 := broadcastInDim S32 ![] bcast_S_S32 main_c
  let main_v13 : IVec S32 1 := cmpi .sge main_arg4 main_v12
  let main_v14 : IVec S32x256 1 := noti main_v5
  let main_c_1 : IVec S_ 32 := constantI S_ 32 0#32
  let main_v15 : IVec S32x256 32 := broadcastInDim S32x256 ![] bcast_S_S32x256 main_c_1
  let main_v16 : IVec S32x256 1 := cmpi .sge main_arg3 main_v15
  let main_c_2 : IVec S_ 32 := constantI S_ 32 512#32
  let main_v17 : IVec S32x256 32 := broadcastInDim S32x256 ![] bcast_S_S32x256 main_c_2
  let main_v18 : IVec S32x256 1 := cmpi .slt main_arg3 main_v17
  fn_part1 (F := F) main_v8 main_v11 main_v13 main_v14 main_v16 main_v18
-- ==== Pre_inputs_ok_ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩

class Facts : Prop where
  bcast_S256_S1x256_1 : S256.BroadcastsInDim S1x256 (![1] : Fin 1 → Fin S1x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x1x16x128 : S_.BroadcastsInDim S32x1x16x128 (![] : Fin 0 → Fin S32x1x16x128.rank)
  bcast_S_S512x32x16x128 : S_.BroadcastsInDim S512x32x16x128 (![] : Fin 0 → Fin S512x32x16x128.rank)
  bcast_S_S32 : S_.BroadcastsInDim S32 (![] : Fin 0 → Fin S32.rank)
  bcast_S_S32x256 : S_.BroadcastsInDim S32x256 (![] : Fin 0 → Fin S32x256.rank)

variable [Facts]

def fn_part1 {F : FTy → Type} [FloatOps F] (main_v8 : IVec S32x1x16x128 1) (main_v11 : IVec S512x32x16x128 1) (main_v13 : IVec S32 1) (main_v14 : IVec S32x256 1) (main_v16 : IVec S32x256 1) (main_v18 : IVec S32x256 1) : IVec S32x1x16x128 1 × IVec S512x32x16x128 1 × IVec S32 1 × IVec S32x256 1 :=
  let main_v19 : IVec S32x256 1 := andi main_v16 main_v18
  let main_v20 : IVec S32x256 1 := ori main_v14 main_v19
  (main_v8, main_v11, main_v13, main_v20)

def fn {F : FTy → Type} [FloatOps F] (main_arg0 : FVec F S32x1x16x128 .f32) (main_arg1 : FVec F S512x32x16x128 .f32) (main_arg2 : FVec F S512x32x16x128 .f32) (main_arg3 : IVec S32x256 32) (main_arg4 : IVec S32 32) : IVec S32x1x16x128 1 × IVec S512x32x16x128 1 × IVec S32 1 × IVec S32x256 1 :=
  let main_v0 : IVec S256 32 := iotaInDim S256 32 0
  let main_v1 : IVec S1x256 32 := broadcastInDim S1x256 ![1] bcast_S256_S1x256_1 main_v0
  let main_v2 : IVec S32x1 32 := broadcastInDim S32x1 ![0] bcast_S32_S32x1_0 main_arg4
  let main_v3 : IVec S32x256 32 := broadcastInDim S32x256 ![0, 1] bcast_S1x256_S32x256_0_1 main_v1
  let main_v4 : IVec S32x256 32 := broadcastInDim S32x256 ![0, 1] bcast_S32x1_S32x256_0_1 main_v2
  let main_v5 : IVec S32x256 1 := cmpi .slt main_v3 main_v4
  let main_v6 : FVec F S32x1x16x128 .f32 := Host.absf main_arg0
  let main_cst : FVec F S_ .f32 := constant S_ .f32 0x7F800000#32
  let main_v7 : FVec F S32x1x16x128 .f32 := broadcastInDim S32x1x16x128 ![] bcast_S_S32x1x16x128 main_cst
  let main_v8 : IVec S32x1x16x128 1 := cmpf .olt main_v6 main_v7
  let main_v9 : FVec F S512x32x16x128 .f32 := Host.absf main_arg1
  let main_cst_0 : FVec F S_ .f32 := constant S_ .f32 0x7F800000#32
  let main_v10 : FVec F S512x32x16x128 .f32 := broadcastInDim S512x32x16x128 ![] bcast_S_S512x32x16x128 main_cst_0
  let main_v11 : IVec S512x32x16x128 1 := cmpf .olt main_v9 main_v10
  let main_c : IVec S_ 32 := constantI S_ 32 1#32
  let main_v12 : IVec S32 32 := broadcastInDim S32 ![] bcast_S_S32 main_c
  let main_v13 : IVec S32 1 := cmpi .sge main_arg4 main_v12
  let main_v14 : IVec S32x256 1 := noti main_v5
  let main_c_1 : IVec S_ 32 := constantI S_ 32 0#32
  let main_v15 : IVec S32x256 32 := broadcastInDim S32x256 ![] bcast_S_S32x256 main_c_1
  let main_v16 : IVec S32x256 1 := cmpi .sge main_arg3 main_v15
  let main_c_2 : IVec S_ 32 := constantI S_ 32 512#32
  let main_v17 : IVec S32x256 32 := broadcastInDim S32x256 ![] bcast_S_S32x256 main_c_2
  let main_v18 : IVec S32x256 1 := cmpi .slt main_arg3 main_v17
  fn_part1 (F := F) main_v8 main_v11 main_v13 main_v14 main_v16 main_v18
-- ==== Kernel.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S_ : Shape := ⟨0, ![]⟩
abbrev S256 : Shape := ⟨1, ![256]⟩
abbrev S1x256 : Shape := ⟨2, ![1, 256]⟩
abbrev S32x1 : Shape := ⟨2, ![32, 1]⟩
abbrev S32x256x1 : Shape := ⟨3, ![32, 256, 1]⟩
abbrev S1 : Shape := ⟨1, ![1]⟩
abbrev S1x1x1 : Shape := ⟨3, ![1, 1, 1]⟩
abbrev S1x1x16x128 : Shape := ⟨4, ![1, 1, 16, 128]⟩
abbrev S2x256x16x128 : Shape := ⟨4, ![2, 256, 16, 128]⟩
abbrev S32x16x128 : Shape := ⟨3, ![32, 16, 128]⟩
abbrev S32x16 : Shape := ⟨2, ![32, 16]⟩
abbrev S2 : Shape := ⟨1, ![2]⟩
abbrev S1x1 : Shape := ⟨2, ![1, 1]⟩
abbrev S1x32x16x128 : Shape := ⟨4, ![1, 32, 16, 128]⟩
abbrev S16x128 : Shape := ⟨2, ![16, 128]⟩
abbrev S1x16 : Shape := ⟨2, ![1, 16]⟩
abbrev S1x256x16x128 : Shape := ⟨4, ![1, 256, 16, 128]⟩
abbrev S256x16x128 : Shape := ⟨3, ![256, 16, 128]⟩
abbrev S1x16x128 : Shape := ⟨3, ![1, 16, 128]⟩
abbrev S256x16 : Shape := ⟨2, ![256, 16]⟩
abbrev S256x1 : Shape := ⟨2, ![256, 1]⟩
abbrev S16 : Shape := ⟨1, ![16]⟩
abbrev S256x16x1 : Shape := ⟨3, ![256, 16, 1]⟩
abbrev S32x16x1 : Shape := ⟨3, ![32, 16, 1]⟩

abbrev nBuf : Space → Nat
  | .hbm => 61
  | .vmem => 9
  | .smem => 2
  | _ => 0

abbrev bufTy : (tb : Table) → Fin (tcTables nBuf tb) → BufTy
  | .hbm, ⟨0, _⟩ => ⟨S32x1x16x128, .f32⟩
  | .hbm, ⟨1, _⟩ => ⟨S256x32x16x128, .f32⟩
  | .hbm, ⟨2, _⟩ => ⟨S256x32x16x128, .f32⟩
  | .hbm, ⟨3, _⟩ => ⟨S32x256, .i32⟩
  | .hbm, ⟨4, _⟩ => ⟨S32, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S32x256, .i32⟩
  | .hbm, ⟨14, _⟩ => ⟨S32x256, .i32⟩
  | .hbm, ⟨15, _⟩ => ⟨S256, .i32⟩
  | .hbm, ⟨16, _⟩ => ⟨S1x256, .i32⟩
  | .hbm, ⟨17, _⟩ => ⟨S_, .i32⟩
  | .hbm, ⟨18, _⟩ => ⟨S32x256, .i32⟩
  | .hbm, ⟨19, _⟩ => ⟨S32x256, .i1⟩
  | .hbm, ⟨20, _⟩ => ⟨S_, .i32⟩
  | .hbm, ⟨21, _⟩ => ⟨S32x256, .i32⟩
  | .hbm, ⟨22, _⟩ => ⟨S32x256, .i1⟩
  | .hbm, ⟨23, _⟩ => ⟨S32x256, .i1⟩
  | .hbm, ⟨24, _⟩ => ⟨S32x1, .i32⟩
  | .hbm, ⟨25, _⟩ => ⟨S32x256, .i32⟩
  | .hbm, ⟨26, _⟩ => ⟨S32x256, .i32⟩
  | .hbm, ⟨27, _⟩ => ⟨S32x256, .i1⟩
  | .hbm, ⟨28, _⟩ => ⟨S32x256, .i1⟩
  | .hbm, ⟨29, _⟩ => ⟨S32x256, .i1⟩
  | .hbm, ⟨30, _⟩ => ⟨S32x256, .i32⟩
  | .hbm, ⟨31, _⟩ => ⟨S32x256, .i1⟩
  | .hbm, ⟨32, _⟩ => ⟨S32x256, .i32⟩
  | .hbm, ⟨33, _⟩ => ⟨S_, .i32⟩
  | .hbm, ⟨34, _⟩ => ⟨S_, .i32⟩
  | .hbm, ⟨35, _⟩ => ⟨S32x256, .i32⟩
  | .hbm, ⟨36, _⟩ => ⟨S32x256, .i32⟩
  | .hbm, ⟨37, _⟩ => ⟨S_, .i32⟩
  | .hbm, ⟨38, _⟩ => ⟨S32x256, .i32⟩
  | .hbm, ⟨39, _⟩ => ⟨S32x256, .i1⟩
  | .hbm, ⟨40, _⟩ => ⟨S_, .i32⟩
  | .hbm, ⟨41, _⟩ => ⟨S32x256, .i32⟩
  | .hbm, ⟨42, _⟩ => ⟨S32x256, .i32⟩
  | .hbm, ⟨43, _⟩ => ⟨S32x256, .i32⟩
  | .hbm, ⟨44, _⟩ => ⟨S32x256x1, .i32⟩
  | .hbm, ⟨45, _⟩ => ⟨S1, .i32⟩
  | .hbm, ⟨46, _⟩ => ⟨S_, .i32⟩
  | .hbm, ⟨47, _⟩ => ⟨S32x256x1, .i32⟩
  | .hbm, ⟨48, _⟩ => ⟨S32x256x1, .i1⟩
  | .hbm, ⟨49, _⟩ => ⟨S1x1x1, .i32⟩
  | .hbm, ⟨50, _⟩ => ⟨S32x256x1, .i32⟩
  | .hbm, ⟨51, _⟩ => ⟨S32x256x1, .i1⟩
  | .hbm, ⟨52, _⟩ => ⟨S32x256x1, .i1⟩
  | .hbm, ⟨53, _⟩ => ⟨S_, .i1⟩
  | .hbm, ⟨54, _⟩ => ⟨S32x256, .i1⟩
  | .hbm, ⟨55, _⟩ => ⟨S32x256, .i32⟩
  | .hbm, ⟨56, _⟩ => ⟨S_, .i32⟩
  | .hbm, ⟨57, _⟩ => ⟨S32x256, .i32⟩
  | .hbm, ⟨58, _⟩ => ⟨S32x256, .i32⟩
  | .hbm, ⟨59, _⟩ => ⟨S_, .i32⟩
  | .hbm, ⟨60, _⟩ => ⟨S32x1x16x128, .f32⟩
  | .local _ .vmem, ⟨0, _⟩ => ⟨S1x1x16x128, .f32⟩
  | .local _ .vmem, ⟨1, _⟩ => ⟨S1x1x16x128, .f32⟩
  | .local _ .vmem, ⟨2, _⟩ => ⟨S32x1x16x128, .f32⟩
  | .local _ .vmem, ⟨3, _⟩ => ⟨S2x256x16x128, .f32⟩
  | .local _ .vmem, ⟨4, _⟩ => ⟨S2x256x16x128, .f32⟩
  | .local _ .vmem, ⟨5, _⟩ => ⟨S32x16x128, .f32⟩
  | .local _ .vmem, ⟨6, _⟩ => ⟨S32x16, .f32⟩
  | .local _ .vmem, ⟨7, _⟩ => ⟨S32x16x128, .f32⟩
  | .local _ .vmem, ⟨8, _⟩ => ⟨S32x16, .f32⟩
  | .local _ .smem, ⟨0, _⟩ => ⟨S32x256, .i32⟩
  | .local _ .smem, ⟨1, _⟩ => ⟨S32, .i32⟩
  | _, _ => ⟨S32x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1_0 : Ref sig .tc := ⟨.hbm, 31, rfl⟩
abbrev main_v21 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_c_4 : Ref sig .tc := ⟨.hbm, 56, rfl⟩
abbrev main_call2_v14 : Ref sig .tc := ⟨.hbm, 57, rfl⟩
abbrev main_v24 : Ref sig .tc := ⟨.hbm, 58, rfl⟩
abbrev main_c_5 : Ref sig .tc := ⟨.hbm, 59, rfl⟩
abbrev main_v26 : Ref sig .tc := ⟨.hbm, 60, rfl⟩
abbrev main_v23 : Ref sig .tc := ⟨.smem, 0, rfl⟩
abbrev main_v25 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem0_1 : DmaSem sig := 1
abbrev cc0_sem1_0 : DmaSem sig := 2
abbrev barrier0 : Sem sig := 0

abbrev nD : Nat := 16
abbrev τ : Topo := Topo.v7x

variable {F : FTy → Type} [FloatOps F]

abbrev grid0 : Pipeline.Grid := ⟨1, ![32], ![false]⟩

abbrev pre0 : Pipeline.Prefetch sig := ⟨2, ![main_v23.idx, main_v25.idx], fun | 0 => main_v23.names | 1 => main_v25.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_3 : BitVec 32 := 0#32
  let v13 : BitVec 1 := Scalar.cmpi .ne v12 c0_i32_3
  v13

def k0_dev1 (d0 : Dev nD) : Nat :=
  let c0_i32_29 : BitVec 32 := 0#32
  let c1_i32 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3 : BitVec 32 := Scalar.subi c1_i32 v2
  let c8_i32_28 : BitVec 32 := 8#32
  let v61 : BitVec 32 := Scalar.muli v3 c8_i32_28
  let v62 : BitVec 32 := Scalar.addi c0_i32_29 v61
  let v4 : BitVec 32 := Dev.word d0
  let c4_i32 : BitVec 32 := 4#32
  let v5 : BitVec 32 := Scalar.divsi v4 c4_i32
  let c2_i32_0 : BitVec 32 := 2#32
  let v6 : BitVec 32 := Scalar.remsi v5 c2_i32_0
  let c4_i32_30 : BitVec 32 := 4#32
  let v63 : BitVec 32 := Scalar.muli v6 c4_i32_30
  let v64 : BitVec 32 := Scalar.addi v62 v63
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_31 : BitVec 32 := 1#32
  let v65 : BitVec 32 := Scalar.muli v9 c1_i32_31
  let v66 : BitVec 32 := Scalar.addi v64 v65
  v66.toNat
def k0_off1 (i : grid0.Coords) : Fin 1 → Nat :=
  let arg0 : BitVec 32 := BitVec.ofNat 32 (i 0).val
  let v14 : Index := Scalar.indexCast arg0
  ![v14.toNat]
def k0_off2 (i : grid0.Coords) : Fin 2 → Nat :=
  let arg0 : BitVec 32 := BitVec.ofNat 32 (i 0).val
  let v61 : Index := Scalar.indexCast arg0
  let c0_27 : Index := 0#32
  ![v61.toNat, 0]
def k0_off3 (v62 : BitVec 32) : Fin 4 → Nat :=
  let c0_i32_33 : BitVec 32 := 0#32
  let c0_i32_34 : BitVec 32 := 0#32
  let c0_i32_35 : BitVec 32 := 0#32
  ![v62.toNat, 0, 0, 0]
def k0_cond2 (v15 : BitVec 32) : BitVec 1 :=
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let c0_i32_13 : BitVec 32 := 0#32
  let v35 : BitVec 1 := Scalar.cmpi .sgt v34 c0_i32_13
  let v36 : BitVec 32 := Scalar.extui v35
  let c0_i32_14 : BitVec 32 := 0#32
  let v37 : BitVec 1 := Scalar.cmpi .ne v36 c0_i32_14
  v37

def k0_chk1 (v15 : BitVec 32) (v62 : BitVec 32) : Prop :=
  (∀ (k0_h2 : k0_cond2 v15 = 1#1), ∀ a, (k0_off3 v62) a + S1x32x16x128.size a ≤ S256x32x16x128.size a)
theorem k0_off3_inb : ∀ (v15 : BitVec 32) (v62 : BitVec 32) (k0_hw1 : k0_chk1 v15 v62), ∀ (k0_h2 : k0_cond2 v15 = 1#1), ∀ a, (k0_off3 v62) a + S1x32x16x128.size a ≤ S256x32x16x128.size a := fun v15 v62 k0_hw1 k0_h2 => k0_hw1 k0_h2

def k0_off4 (i : grid0.Coords) : Fin 2 → Nat :=
  let arg0 : BitVec 32 := BitVec.ofNat 32 (i 0).val
  let v75 : Index := Scalar.indexCast arg0
  let c1 : Index := 1#32
  ![v75.toNat, 1]
def k0_off5 (v76 : BitVec 32) : Fin 4 → Nat :=
  let c0_i32_48 : BitVec 32 := 0#32
  let c0_i32_49 : BitVec 32 := 0#32
  let c0_i32_50 : BitVec 32 := 0#32
  ![v76.toNat, 0, 0, 0]

def k0_chk2 (v15 : BitVec 32) (v76 : BitVec 32) : Prop :=
  (∀ (k0_h2 : k0_cond2 v15 = 1#1), ∀ a, (k0_off5 v76) a + S1x32x16x128.size a ≤ S256x32x16x128.size a)
theorem k0_off5_inb : ∀ (v15 : BitVec 32) (v76 : BitVec 32) (k0_hw2 : k0_chk2 v15 v76), ∀ (k0_h2 : k0_cond2 v15 = 1#1), ∀ a, (k0_off5 v76) a + S1x32x16x128.size a ≤ S256x32x16x128.size a := fun v15 v76 k0_hw2 k0_h2 => k0_hw2 k0_h2

def k0_off6 (i : grid0.Coords) : Fin 2 → Nat :=
  let arg0 : BitVec 32 := BitVec.ofNat 32 (i 0).val
  let v89 : Index := Scalar.indexCast arg0
  let c2 : Index := 2#32
  ![v89.toNat, 2]
def k0_off7 (v90 : BitVec 32) : Fin 4 → Nat :=
  let c0_i32_63 : BitVec 32 := 0#32
  let c0_i32_64 : BitVec 32 := 0#32
  let c0_i32_65 : BitVec 32 := 0#32
  ![v90.toNat, 0, 0, 0]

def k0_chk3 (v15 : BitVec 32) (v90 : BitVec 32) : Prop :=
  (∀ (k0_h2 : k0_cond2 v15 = 1#1), ∀ a, (k0_off7 v90) a + S1x32x16x128.size a ≤ S256x32x16x128.size a)
theorem k0_off7_inb : ∀ (v15 : BitVec 32) (v90 : BitVec 32) (k0_hw3 : k0_chk3 v15 v90), ∀ (k0_h2 : k0_cond2 v15 = 1#1), ∀ a, (k0_off7 v90) a + S1x32x16x128.size a ≤ S256x32x16x128.size a := fun v15 v90 k0_hw3 k0_h2 => k0_hw3 k0_h2

def k0_off8 (i : grid0.Coords) : Fin 2 → Nat :=
  let arg0 : BitVec 32 := BitVec.ofNat 32 (i 0).val
  let v103 : Index := Scalar.indexCast arg0
  let c3 : Index := 3#32
  ![v103.toNat, 3]
def k0_off9 (v104 : BitVec 32) : Fin 4 → Nat :=
  let c0_i32_78 : BitVec 32 := 0#32
  let c0_i32_79 : BitVec 32 := 0#32
  let c0_i32_80 : BitVec 32 := 0#32
  ![v104.toNat, 0, 0, 0]

def k0_chk4 (v15 : BitVec 32) (v104 : BitVec 32) : Prop :=
  (∀ (k0_h2 : k0_cond2 v15 = 1#1), ∀ a, (k0_off9 v104) a + S1x32x16x128.size a ≤ S256x32x16x128.size a)
theorem k0_off9_inb : ∀ (v15 : BitVec 32) (v104 : BitVec 32) (k0_hw4 : k0_chk4 v15 v104), ∀ (k0_h2 : k0_cond2 v15 = 1#1), ∀ a, (k0_off9 v104) a + S1x32x16x128.size a ≤ S256x32x16x128.size a := fun v15 v104 k0_hw4 k0_h2 => k0_hw4 k0_h2

def k0_off10 (i : grid0.Coords) : Fin 2 → Nat :=
  let arg0 : BitVec 32 := BitVec.ofNat 32 (i 0).val
  let v117 : Index := Scalar.indexCast arg0
  let c4 : Index := 4#32
  ![v117.toNat, 4]
def k0_off11 (v118 : BitVec 32) : Fin 4 → Nat :=
  let c0_i32_93 : BitVec 32 := 0#32
  let c0_i32_94 : BitVec 32 := 0#32
  let c0_i32_95 : BitVec 32 := 0#32
  ![v118.toNat, 0, 0, 0]

def k0_chk5 (v15 : BitVec 32) (v118 : BitVec 32) : Prop :=
  (∀ (k0_h2 : k0_cond2 v15 = 1#1), ∀ a, (k0_off11 v118) a + S1x32x16x128.size a ≤ S256x32x16x128.size a)
theorem k0_off11_inb : ∀ (v15 : BitVec 32) (v118 : BitVec 32) (k0_hw5 : k0_chk5 v15 v118), ∀ (k0_h2 : k0_cond2 v15 = 1#1), ∀ a, (k0_off11 v118) a + S1x32x16x128.size a ≤ S256x32x16x128.size a := fun v15 v118 k0_hw5 k0_h2 => k0_hw5 k0_h2

def k0_off12 (i : grid0.Coords) : Fin 2 → Nat :=
  let arg0 : BitVec 32 := BitVec.ofNat 32 (i 0).val
  let v131 : Index := Scalar.indexCast arg0
  let c5 : Index := 5#32
  ![v131.toNat, 5]
def k0_off13 (v132 : BitVec 32) : Fin 4 → Nat :=
  let c0_i32_108 : BitVec 32 := 0#32
  let c0_i32_109 : BitVec 32 := 0#32
  let c0_i32_110 : BitVec 32 := 0#32
  ![v132.toNat, 0, 0, 0]

def k0_chk6 (v15 : BitVec 32) (v132 : BitVec 32) : Prop :=
  (∀ (k0_h2 : k0_cond2 v15 = 1#1), ∀ a, (k0_off13 v132) a + S1x32x16x128.size a ≤ S256x32x16x128.size a)
theorem k0_off13_inb : ∀ (v15 : BitVec 32) (v132 : BitVec 32) (k0_hw6 : k0_chk6 v15 v132), ∀ (k0_h2 : k0_cond2 v15 = 1#1), ∀ a, (k0_off13 v132) a + S1x32x16x128.size a ≤ S256x32x16x128.size a := fun v15 v132 k0_hw6 k0_h2 => k0_hw6 k0_h2

def k0_off14 (i : grid0.Coords) : Fin 2 → Nat :=
  let arg0 : BitVec 32 := BitVec.ofNat 32 (i 0).val
  let v145 : Index := Scalar.indexCast arg0
  let c6 : Index := 6#32
  ![v145.toNat, 6]
def k0_off15 (v146 : BitVec 32) : Fin 4 → Nat :=
  let c0_i32_123 : BitVec 32 := 0#32
  let c0_i32_124 : BitVec 32 := 0#32
  let c0_i32_125 : BitVec 32 := 0#32
  ![v146.toNat, 0, 0, 0]

def k0_chk7 (v15 : BitVec 32) (v146 : BitVec 32) : Prop :=
  (∀ (k0_h2 : k0_cond2 v15 = 1#1), ∀ a, (k0_off15 v146) a + S1x32x16x128.size a ≤ S256x32x16x128.size a)
theorem k0_off15_inb : ∀ (v15 : BitVec 32) (v146 : BitVec 32) (k0_hw7 : k0_chk7 v15 v146), ∀ (k0_h2 : k0_cond2 v15 = 1#1), ∀ a, (k0_off15 v146) a + S1x32x16x128.size a ≤ S256x32x16x128.size a := fun v15 v146 k0_hw7 k0_h2 => k0_hw7 k0_h2

def k0_off16 (i : grid0.Coords) : Fin 2 → Nat :=
  let arg0 : BitVec 32 := BitVec.ofNat 32 (i 0).val
  let v159 : Index := Scalar.indexCast arg0
  let c7 : Index := 7#32
  ![v159.toNat, 7]
def k0_off17 (v160 : BitVec 32) : Fin 4 → Nat :=
  let c0_i32_138 : BitVec 32 := 0#32
  let c0_i32_139 : BitVec 32 := 0#32
  let c0_i32_140 : BitVec 32 := 0#32
  ![v160.toNat, 0, 0, 0]

def k0_chk8 (v15 : BitVec 32) (v160 : BitVec 32) : Prop :=
  (∀ (k0_h2 : k0_cond2 v15 = 1#1), ∀ a, (k0_off17 v160) a + S1x32x16x128.size a ≤ S256x32x16x128.size a)
theorem k0_off17_inb : ∀ (v15 : BitVec 32) (v160 : BitVec 32) (k0_hw8 : k0_chk8 v15 v160), ∀ (k0_h2 : k0_cond2 v15 = 1#1), ∀ a, (k0_off17 v160) a + S1x32x16x128.size a ≤ S256x32x16x128.size a := fun v15 v160 k0_hw8 k0_h2 => k0_hw8 k0_h2

@[reducible] def k0_t1_loop (v15 : BitVec 32) : Scf.Loop 32 :=
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_21 : BitVec 32 := 1#32
  ⟨c0_i32_19, v46, c1_i32_21⟩

def k0_off18 (i : grid0.Coords) (v15 : BitVec 32) (k0_t1 : Fin (k0_t1_loop v15).trips) : Fin 2 → Nat :=
  let arg0 : BitVec 32 := BitVec.ofNat 32 (i 0).val
  let v198 : Index := Scalar.indexCast arg0
  let c0_i32_19 : BitVec 32 := 0#32
  let c1_i32_21 : BitVec 32 := 1#32
  let arg16 : BitVec 32 := Scf.iv c0_i32_19 c1_i32_21 k0_t1
  let c1_i32_147 : BitVec 32 := 1#32
  let v194 : BitVec 32 := Scalar.addi arg16 c1_i32_147
  let c8_i32_149 : BitVec 32 := 8#32
  let v196 : BitVec 32 := Scalar.muli v194 c8_i32_149
  let c0_i32_150 : BitVec 32 := 0#32
  let v197 : BitVec 32 := Scalar.addi v196 c0_i32_150
  let v199 : Index := Scalar.indexCast v197
  ![v198.toNat, v199.toNat]
def k0_cond3 (v15 : BitVec 32) (k0_t1 : Fin (k0_t1_loop v15).trips) : BitVec 1 :=
  let c0_i32_19 : BitVec 32 := 0#32
  let c1_i32_21 : BitVec 32 := 1#32
  let arg16 : BitVec 32 := Scf.iv c0_i32_19 c1_i32_21 k0_t1
  let c1_i32_28 : BitVec 32 := 1#32
  let v62 : BitVec 32 := Scalar.addi arg16 c1_i32_28
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v63 : BitVec 1 := Scalar.cmpi .slt v62 v34
  let v64 : BitVec 32 := Scalar.extui v63
  let c0_i32_29 : BitVec 32 := 0#32
  let v65 : BitVec 1 := Scalar.cmpi .ne v64 c0_i32_29
  v65

def k0_off19 (v15 : BitVec 32) (k0_t1 : Fin (k0_t1_loop v15).trips) : Fin 1 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  ![v195.toNat]
def k0_off20 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c0_i32_151 : BitVec 32 := 0#32
  let c0_i32_152 : BitVec 32 := 0#32
  let c0_i32_153 : BitVec 32 := 0#32
  ![v195.toNat, 0, 0, 0]
def k0_off21 (v200 : BitVec 32) : Fin 4 → Nat :=
  let c0_i32_154 : BitVec 32 := 0#32
  let c0_i32_155 : BitVec 32 := 0#32
  let c0_i32_156 : BitVec 32 := 0#32
  ![v200.toNat, 0, 0, 0]

def k0_chk10 (v15 : BitVec 32) (k0_t1 : Fin (k0_t1_loop v15).trips) (v200 : BitVec 32) : Prop :=
  (∀ (k0_h3 : k0_cond3 v15 k0_t1 = 1#1), ∀ a, (k0_off21 v200) a + S1x32x16x128.size a ≤ S256x32x16x128.size a)
theorem k0_off21_inb : ∀ (v15 : BitVec 32) (k0_t1 : Fin (k0_t1_loop v15).trips) (v200 : BitVec 32) (k0_hw10 : k0_chk10 v15 k0_t1 v200), ∀ (k0_h3 : k0_cond3 v15 k0_t1 = 1#1), ∀ a, (k0_off21 v200) a + S1x32x16x128.size a ≤ S256x32x16x128.size a := fun v15 k0_t1 v200 k0_hw10 k0_h3 => k0_hw10 k0_h3

def k0_off22 (v15 : BitVec 32) (k0_t1 : Fin (k0_t1_loop v15).trips) : Fin 1 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  ![v195.toNat]
def k0_off23 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c0_i32_157 : BitVec 32 := 0#32
  let c0_i32_158 : BitVec 32 := 0#32
  let c0_i32_159 : BitVec 32 := 0#32
  ![v195.toNat, 0, 0, 0]
def k0_off24 (i : grid0.Coords) (v15 : BitVec 32) (k0_t1 : Fin (k0_t1_loop v15).trips) : Fin 2 → Nat :=
  let arg0 : BitVec 32 := BitVec.ofNat 32 (i 0).val
  let v215 : Index := Scalar.indexCast arg0
  let c0_i32_19 : BitVec 32 := 0#32
  let c1_i32_21 : BitVec 32 := 1#32
  let arg16 : BitVec 32 := Scf.iv c0_i32_19 c1_i32_21 k0_t1
  let c1_i32_147 : BitVec 32 := 1#32
  let v194 : BitVec 32 := Scalar.addi arg16 c1_i32_147
  let c8_i32_163 : BitVec 32 := 8#32
  let v213 : BitVec 32 := Scalar.muli v194 c8_i32_163
  let c1_i32_164 : BitVec 32 := 1#32
  let v214 : BitVec 32 := Scalar.addi v213 c1_i32_164
  let v216 : Index := Scalar.indexCast v214
  ![v215.toNat, v216.toNat]
def k0_off25 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c32_i32_165 : BitVec 32 := 32#32
  let c0_i32_166 : BitVec 32 := 0#32
  let c0_i32_167 : BitVec 32 := 0#32
  ![v195.toNat, 32, 0, 0]
def k0_off26 (v217 : BitVec 32) : Fin 4 → Nat :=
  let c0_i32_168 : BitVec 32 := 0#32
  let c0_i32_169 : BitVec 32 := 0#32
  let c0_i32_170 : BitVec 32 := 0#32
  ![v217.toNat, 0, 0, 0]

def k0_chk11 (v15 : BitVec 32) (k0_t1 : Fin (k0_t1_loop v15).trips) (v217 : BitVec 32) : Prop :=
  (∀ (k0_h3 : k0_cond3 v15 k0_t1 = 1#1), ∀ a, (k0_off26 v217) a + S1x32x16x128.size a ≤ S256x32x16x128.size a)
theorem k0_off26_inb : ∀ (v15 : BitVec 32) (k0_t1 : Fin (k0_t1_loop v15).trips) (v217 : BitVec 32) (k0_hw11 : k0_chk11 v15 k0_t1 v217), ∀ (k0_h3 : k0_cond3 v15 k0_t1 = 1#1), ∀ a, (k0_off26 v217) a + S1x32x16x128.size a ≤ S256x32x16x128.size a := fun v15 k0_t1 v217 k0_hw11 k0_h3 => k0_hw11 k0_h3

def k0_off27 (v15 : BitVec 32) (k0_t1 : Fin (k0_t1_loop v15).trips) : Fin 1 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  ![v195.toNat]
def k0_off28 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c32_i32_171 : BitVec 32 := 32#32
  let c0_i32_172 : BitVec 32 := 0#32
  let c0_i32_173 : BitVec 32 := 0#32
  ![v195.toNat, 32, 0, 0]
def k0_off29 (i : grid0.Coords) (v15 : BitVec 32) (k0_t1 : Fin (k0_t1_loop v15).trips) : Fin 2 → Nat :=
  let arg0 : BitVec 32 := BitVec.ofNat 32 (i 0).val
  let v232 : Index := Scalar.indexCast arg0
  let c0_i32_19 : BitVec 32 := 0#32
  let c1_i32_21 : BitVec 32 := 1#32
  let arg16 : BitVec 32 := Scf.iv c0_i32_19 c1_i32_21 k0_t1
  let c1_i32_147 : BitVec 32 := 1#32
  let v194 : BitVec 32 := Scalar.addi arg16 c1_i32_147
  let c8_i32_177 : BitVec 32 := 8#32
  let v230 : BitVec 32 := Scalar.muli v194 c8_i32_177
  let c2_i32_178 : BitVec 32 := 2#32
  let v231 : BitVec 32 := Scalar.addi v230 c2_i32_178
  let v233 : Index := Scalar.indexCast v231
  ![v232.toNat, v233.toNat]
def k0_off30 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c64_i32_179 : BitVec 32 := 64#32
  let c0_i32_180 : BitVec 32 := 0#32
  let c0_i32_181 : BitVec 32 := 0#32
  ![v195.toNat, 64, 0, 0]
def k0_off31 (v234 : BitVec 32) : Fin 4 → Nat :=
  let c0_i32_182 : BitVec 32 := 0#32
  let c0_i32_183 : BitVec 32 := 0#32
  let c0_i32_184 : BitVec 32 := 0#32
  ![v234.toNat, 0, 0, 0]

def k0_chk12 (v15 : BitVec 32) (k0_t1 : Fin (k0_t1_loop v15).trips) (v234 : BitVec 32) : Prop :=
  (∀ (k0_h3 : k0_cond3 v15 k0_t1 = 1#1), ∀ a, (k0_off31 v234) a + S1x32x16x128.size a ≤ S256x32x16x128.size a)
theorem k0_off31_inb : ∀ (v15 : BitVec 32) (k0_t1 : Fin (k0_t1_loop v15).trips) (v234 : BitVec 32) (k0_hw12 : k0_chk12 v15 k0_t1 v234), ∀ (k0_h3 : k0_cond3 v15 k0_t1 = 1#1), ∀ a, (k0_off31 v234) a + S1x32x16x128.size a ≤ S256x32x16x128.size a := fun v15 k0_t1 v234 k0_hw12 k0_h3 => k0_hw12 k0_h3

def k0_off32 (v15 : BitVec 32) (k0_t1 : Fin (k0_t1_loop v15).trips) : Fin 1 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  ![v195.toNat]
def k0_off33 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c64_i32_185 : BitVec 32 := 64#32
  let c0_i32_186 : BitVec 32 := 0#32
  let c0_i32_187 : BitVec 32 := 0#32
  ![v195.toNat, 64, 0, 0]
def k0_off34 (i : grid0.Coords) (v15 : BitVec 32) (k0_t1 : Fin (k0_t1_loop v15).trips) : Fin 2 → Nat :=
  let arg0 : BitVec 32 := BitVec.ofNat 32 (i 0).val
  let v249 : Index := Scalar.indexCast arg0
  let c0_i32_19 : BitVec 32 := 0#32
  let c1_i32_21 : BitVec 32 := 1#32
  let arg16 : BitVec 32 := Scf.iv c0_i32_19 c1_i32_21 k0_t1
  let c1_i32_147 : BitVec 32 := 1#32
  let v194 : BitVec 32 := Scalar.addi arg16 c1_i32_147
  let c8_i32_191 : BitVec 32 := 8#32
  let v247 : BitVec 32 := Scalar.muli v194 c8_i32_191
  let c3_i32 : BitVec 32 := 3#32
  let v248 : BitVec 32 := Scalar.addi v247 c3_i32
  let v250 : Index := Scalar.indexCast v248
  ![v249.toNat, v250.toNat]
def k0_off35 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c96_i32_192 : BitVec 32 := 96#32
  let c0_i32_193 : BitVec 32 := 0#32
  let c0_i32_194 : BitVec 32 := 0#32
  ![v195.toNat, 96, 0, 0]
def k0_off36 (v251 : BitVec 32) : Fin 4 → Nat :=
  let c0_i32_195 : BitVec 32 := 0#32
  let c0_i32_196 : BitVec 32 := 0#32
  let c0_i32_197 : BitVec 32 := 0#32
  ![v251.toNat, 0, 0, 0]

def k0_chk13 (v15 : BitVec 32) (k0_t1 : Fin (k0_t1_loop v15).trips) (v251 : BitVec 32) : Prop :=
  (∀ (k0_h3 : k0_cond3 v15 k0_t1 = 1#1), ∀ a, (k0_off36 v251) a + S1x32x16x128.size a ≤ S256x32x16x128.size a)
theorem k0_off36_inb : ∀ (v15 : BitVec 32) (k0_t1 : Fin (k0_t1_loop v15).trips) (v251 : BitVec 32) (k0_hw13 : k0_chk13 v15 k0_t1 v251), ∀ (k0_h3 : k0_cond3 v15 k0_t1 = 1#1), ∀ a, (k0_off36 v251) a + S1x32x16x128.size a ≤ S256x32x16x128.size a := fun v15 k0_t1 v251 k0_hw13 k0_h3 => k0_hw13 k0_h3

def k0_off37 (v15 : BitVec 32) (k0_t1 : Fin (k0_t1_loop v15).trips) : Fin 1 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  ![v195.toNat]
def k0_off38 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c96_i32_198 : BitVec 32 := 96#32
  let c0_i32_199 : BitVec 32 := 0#32
  let c0_i32_200 : BitVec 32 := 0#32
  ![v195.toNat, 96, 0, 0]
def k0_off39 (i : grid0.Coords) (v15 : BitVec 32) (k0_t1 : Fin (k0_t1_loop v15).trips) : Fin 2 → Nat :=
  let arg0 : BitVec 32 := BitVec.ofNat 32 (i 0).val
  let v266 : Index := Scalar.indexCast arg0
  let c0_i32_19 : BitVec 32 := 0#32
  let c1_i32_21 : BitVec 32 := 1#32
  let arg16 : BitVec 32 := Scf.iv c0_i32_19 c1_i32_21 k0_t1
  let c1_i32_147 : BitVec 32 := 1#32
  let v194 : BitVec 32 := Scalar.addi arg16 c1_i32_147
  let c8_i32_204 : BitVec 32 := 8#32
  let v264 : BitVec 32 := Scalar.muli v194 c8_i32_204
  let c4_i32_205 : BitVec 32 := 4#32
  let v265 : BitVec 32 := Scalar.addi v264 c4_i32_205
  let v267 : Index := Scalar.indexCast v265
  ![v266.toNat, v267.toNat]
def k0_off40 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c128_i32_206 : BitVec 32 := 128#32
  let c0_i32_207 : BitVec 32 := 0#32
  let c0_i32_208 : BitVec 32 := 0#32
  ![v195.toNat, 128, 0, 0]
def k0_off41 (v268 : BitVec 32) : Fin 4 → Nat :=
  let c0_i32_209 : BitVec 32 := 0#32
  let c0_i32_210 : BitVec 32 := 0#32
  let c0_i32_211 : BitVec 32 := 0#32
  ![v268.toNat, 0, 0, 0]

def k0_chk14 (v15 : BitVec 32) (k0_t1 : Fin (k0_t1_loop v15).trips) (v268 : BitVec 32) : Prop :=
  (∀ (k0_h3 : k0_cond3 v15 k0_t1 = 1#1), ∀ a, (k0_off41 v268) a + S1x32x16x128.size a ≤ S256x32x16x128.size a)
theorem k0_off41_inb : ∀ (v15 : BitVec 32) (k0_t1 : Fin (k0_t1_loop v15).trips) (v268 : BitVec 32) (k0_hw14 : k0_chk14 v15 k0_t1 v268), ∀ (k0_h3 : k0_cond3 v15 k0_t1 = 1#1), ∀ a, (k0_off41 v268) a + S1x32x16x128.size a ≤ S256x32x16x128.size a := fun v15 k0_t1 v268 k0_hw14 k0_h3 => k0_hw14 k0_h3

def k0_off42 (v15 : BitVec 32) (k0_t1 : Fin (k0_t1_loop v15).trips) : Fin 1 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  ![v195.toNat]
def k0_off43 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c128_i32_212 : BitVec 32 := 128#32
  let c0_i32_213 : BitVec 32 := 0#32
  let c0_i32_214 : BitVec 32 := 0#32
  ![v195.toNat, 128, 0, 0]
def k0_off44 (i : grid0.Coords) (v15 : BitVec 32) (k0_t1 : Fin (k0_t1_loop v15).trips) : Fin 2 → Nat :=
  let arg0 : BitVec 32 := BitVec.ofNat 32 (i 0).val
  let v283 : Index := Scalar.indexCast arg0
  let c0_i32_19 : BitVec 32 := 0#32
  let c1_i32_21 : BitVec 32 := 1#32
  let arg16 : BitVec 32 := Scf.iv c0_i32_19 c1_i32_21 k0_t1
  let c1_i32_147 : BitVec 32 := 1#32
  let v194 : BitVec 32 := Scalar.addi arg16 c1_i32_147
  let c8_i32_218 : BitVec 32 := 8#32
  let v281 : BitVec 32 := Scalar.muli v194 c8_i32_218
  let c5_i32 : BitVec 32 := 5#32
  let v282 : BitVec 32 := Scalar.addi v281 c5_i32
  let v284 : Index := Scalar.indexCast v282
  ![v283.toNat, v284.toNat]
def k0_off45 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c160_i32_219 : BitVec 32 := 160#32
  let c0_i32_220 : BitVec 32 := 0#32
  let c0_i32_221 : BitVec 32 := 0#32
  ![v195.toNat, 160, 0, 0]
def k0_off46 (v285 : BitVec 32) : Fin 4 → Nat :=
  let c0_i32_222 : BitVec 32 := 0#32
  let c0_i32_223 : BitVec 32 := 0#32
  let c0_i32_224 : BitVec 32 := 0#32
  ![v285.toNat, 0, 0, 0]

def k0_chk15 (v15 : BitVec 32) (k0_t1 : Fin (k0_t1_loop v15).trips) (v285 : BitVec 32) : Prop :=
  (∀ (k0_h3 : k0_cond3 v15 k0_t1 = 1#1), ∀ a, (k0_off46 v285) a + S1x32x16x128.size a ≤ S256x32x16x128.size a)
theorem k0_off46_inb : ∀ (v15 : BitVec 32) (k0_t1 : Fin (k0_t1_loop v15).trips) (v285 : BitVec 32) (k0_hw15 : k0_chk15 v15 k0_t1 v285), ∀ (k0_h3 : k0_cond3 v15 k0_t1 = 1#1), ∀ a, (k0_off46 v285) a + S1x32x16x128.size a ≤ S256x32x16x128.size a := fun v15 k0_t1 v285 k0_hw15 k0_h3 => k0_hw15 k0_h3

def k0_off47 (v15 : BitVec 32) (k0_t1 : Fin (k0_t1_loop v15).trips) : Fin 1 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  ![v195.toNat]
def k0_off48 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c160_i32_225 : BitVec 32 := 160#32
  let c0_i32_226 : BitVec 32 := 0#32
  let c0_i32_227 : BitVec 32 := 0#32
  ![v195.toNat, 160, 0, 0]
def k0_off49 (i : grid0.Coords) (v15 : BitVec 32) (k0_t1 : Fin (k0_t1_loop v15).trips) : Fin 2 → Nat :=
  let arg0 : BitVec 32 := BitVec.ofNat 32 (i 0).val
  let v300 : Index := Scalar.indexCast arg0
  let c0_i32_19 : BitVec 32 := 0#32
  let c1_i32_21 : BitVec 32 := 1#32
  let arg16 : BitVec 32 := Scf.iv c0_i32_19 c1_i32_21 k0_t1
  let c1_i32_147 : BitVec 32 := 1#32
  let v194 : BitVec 32 := Scalar.addi arg16 c1_i32_147
  let c8_i32_231 : BitVec 32 := 8#32
  let v298 : BitVec 32 := Scalar.muli v194 c8_i32_231
  let c6_i32 : BitVec 32 := 6#32
  let v299 : BitVec 32 := Scalar.addi v298 c6_i32
  let v301 : Index := Scalar.indexCast v299
  ![v300.toNat, v301.toNat]
def k0_off50 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c192_i32_232 : BitVec 32 := 192#32
  let c0_i32_233 : BitVec 32 := 0#32
  let c0_i32_234 : BitVec 32 := 0#32
  ![v195.toNat, 192, 0, 0]
def k0_off51 (v302 : BitVec 32) : Fin 4 → Nat :=
  let c0_i32_235 : BitVec 32 := 0#32
  let c0_i32_236 : BitVec 32 := 0#32
  let c0_i32_237 : BitVec 32 := 0#32
  ![v302.toNat, 0, 0, 0]

def k0_chk16 (v15 : BitVec 32) (k0_t1 : Fin (k0_t1_loop v15).trips) (v302 : BitVec 32) : Prop :=
  (∀ (k0_h3 : k0_cond3 v15 k0_t1 = 1#1), ∀ a, (k0_off51 v302) a + S1x32x16x128.size a ≤ S256x32x16x128.size a)
theorem k0_off51_inb : ∀ (v15 : BitVec 32) (k0_t1 : Fin (k0_t1_loop v15).trips) (v302 : BitVec 32) (k0_hw16 : k0_chk16 v15 k0_t1 v302), ∀ (k0_h3 : k0_cond3 v15 k0_t1 = 1#1), ∀ a, (k0_off51 v302) a + S1x32x16x128.size a ≤ S256x32x16x128.size a := fun v15 k0_t1 v302 k0_hw16 k0_h3 => k0_hw16 k0_h3

def k0_off52 (v15 : BitVec 32) (k0_t1 : Fin (k0_t1_loop v15).trips) : Fin 1 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  ![v195.toNat]
def k0_off53 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c192_i32_238 : BitVec 32 := 192#32
  let c0_i32_239 : BitVec 32 := 0#32
  let c0_i32_240 : BitVec 32 := 0#32
  ![v195.toNat, 192, 0, 0]
def k0_off54 (i : grid0.Coords) (v15 : BitVec 32) (k0_t1 : Fin (k0_t1_loop v15).trips) : Fin 2 → Nat :=
  let arg0 : BitVec 32 := BitVec.ofNat 32 (i 0).val
  let v317 : Index := Scalar.indexCast arg0
  let c0_i32_19 : BitVec 32 := 0#32
  let c1_i32_21 : BitVec 32 := 1#32
  let arg16 : BitVec 32 := Scf.iv c0_i32_19 c1_i32_21 k0_t1
  let c1_i32_147 : BitVec 32 := 1#32
  let v194 : BitVec 32 := Scalar.addi arg16 c1_i32_147
  let c8_i32_244 : BitVec 32 := 8#32
  let v315 : BitVec 32 := Scalar.muli v194 c8_i32_244
  let c7_i32 : BitVec 32 := 7#32
  let v316 : BitVec 32 := Scalar.addi v315 c7_i32
  let v318 : Index := Scalar.indexCast v316
  ![v317.toNat, v318.toNat]
def k0_off55 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c224_i32_245 : BitVec 32 := 224#32
  let c0_i32_246 : BitVec 32 := 0#32
  let c0_i32_247 : BitVec 32 := 0#32
  ![v195.toNat, 224, 0, 0]
def k0_off56 (v319 : BitVec 32) : Fin 4 → Nat :=
  let c0_i32_248 : BitVec 32 := 0#32
  let c0_i32_249 : BitVec 32 := 0#32
  let c0_i32_250 : BitVec 32 := 0#32
  ![v319.toNat, 0, 0, 0]

def k0_chk17 (v15 : BitVec 32) (k0_t1 : Fin (k0_t1_loop v15).trips) (v319 : BitVec 32) : Prop :=
  (∀ (k0_h3 : k0_cond3 v15 k0_t1 = 1#1), ∀ a, (k0_off56 v319) a + S1x32x16x128.size a ≤ S256x32x16x128.size a)
theorem k0_off56_inb : ∀ (v15 : BitVec 32) (k0_t1 : Fin (k0_t1_loop v15).trips) (v319 : BitVec 32) (k0_hw17 : k0_chk17 v15 k0_t1 v319), ∀ (k0_h3 : k0_cond3 v15 k0_t1 = 1#1), ∀ a, (k0_off56 v319) a + S1x32x16x128.size a ≤ S256x32x16x128.size a := fun v15 k0_t1 v319 k0_hw17 k0_h3 => k0_hw17 k0_h3

def k0_off57 (v15 : BitVec 32) (k0_t1 : Fin (k0_t1_loop v15).trips) : Fin 1 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  ![v195.toNat]
def k0_off58 (v15 : BitVec 32) (k0_t1 : Fin (k0_t1_loop v15).trips) : Fin 4 → Nat :=
  let c1_i32_148 : BitVec 32 := 1#32
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v195 : BitVec 32 := Scalar.subi c1_i32_148 v61
  let c224_i32_251 : BitVec 32 := 224#32
  let c0_i32_252 : BitVec 32 := 0#32
  let c0_i32_253 : BitVec 32 := 0#32
  ![v195.toNat, 224, 0, 0]
def k0_off59 (v15 : BitVec 32) (k0_t1 : Fin (k0_t1_loop v15).trips) : Fin 1 → Nat :=
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  ![v61.toNat]
def k0_off60 (v15 : BitVec 32) (k0_t1 : Fin (k0_t1_loop v15).trips) : Fin 4 → Nat :=
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let c0_i32_31 : BitVec 32 := 0#32
  let c0_i32_32 : BitVec 32 := 0#32
  let c0_i32_33 : BitVec 32 := 0#32
  ![v61.toNat, 0, 0, 0]
def k0_off61 (v15 : BitVec 32) (k0_t1 : Fin (k0_t1_loop v15).trips) : Fin 4 → Nat :=
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let c32_i32 : BitVec 32 := 32#32
  let c0_i32_45 : BitVec 32 := 0#32
  let c0_i32_46 : BitVec 32 := 0#32
  ![v61.toNat, 32, 0, 0]
def k0_off62 (v15 : BitVec 32) (k0_t1 : Fin (k0_t1_loop v15).trips) : Fin 4 → Nat :=
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let c64_i32 : BitVec 32 := 64#32
  let c0_i32_58 : BitVec 32 := 0#32
  let c0_i32_59 : BitVec 32 := 0#32
  ![v61.toNat, 64, 0, 0]
def k0_off63 (v15 : BitVec 32) (k0_t1 : Fin (k0_t1_loop v15).trips) : Fin 4 → Nat :=
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let c96_i32 : BitVec 32 := 96#32
  let c0_i32_71 : BitVec 32 := 0#32
  let c0_i32_72 : BitVec 32 := 0#32
  ![v61.toNat, 96, 0, 0]
def k0_off64 (v15 : BitVec 32) (k0_t1 : Fin (k0_t1_loop v15).trips) : Fin 4 → Nat :=
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let c128_i32 : BitVec 32 := 128#32
  let c0_i32_84 : BitVec 32 := 0#32
  let c0_i32_85 : BitVec 32 := 0#32
  ![v61.toNat, 128, 0, 0]
def k0_off65 (v15 : BitVec 32) (k0_t1 : Fin (k0_t1_loop v15).trips) : Fin 4 → Nat :=
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let c160_i32 : BitVec 32 := 160#32
  let c0_i32_97 : BitVec 32 := 0#32
  let c0_i32_98 : BitVec 32 := 0#32
  ![v61.toNat, 160, 0, 0]
def k0_off66 (v15 : BitVec 32) (k0_t1 : Fin (k0_t1_loop v15).trips) : Fin 4 → Nat :=
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let c192_i32 : BitVec 32 := 192#32
  let c0_i32_110 : BitVec 32 := 0#32
  let c0_i32_111 : BitVec 32 := 0#32
  ![v61.toNat, 192, 0, 0]
def k0_off67 (v15 : BitVec 32) (k0_t1 : Fin (k0_t1_loop v15).trips) : Fin 4 → Nat :=
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let c224_i32 : BitVec 32 := 224#32
  let c0_i32_123 : BitVec 32 := 0#32
  let c0_i32_124 : BitVec 32 := 0#32
  ![v61.toNat, 224, 0, 0]
def k0_off68 (v15 : BitVec 32) (k0_t1 : Fin (k0_t1_loop v15).trips) : Fin 4 → Nat :=
  let c0_i32_19 : BitVec 32 := 0#32
  let c1_i32_21 : BitVec 32 := 1#32
  let arg16 : BitVec 32 := Scf.iv c0_i32_19 c1_i32_21 k0_t1
  let c2_i32_27 : BitVec 32 := 2#32
  let v61 : BitVec 32 := Scalar.remsi arg16 c2_i32_27
  let v162 : Index := Scalar.indexCast v61
  let c0_135 : Index := 0#32
  let c0_136 : Index := 0#32
  let c0_137 : Index := 0#32
  ![v162.toNat, 0, 0, 0]
@[reducible] def k0_t2_loop (v15 : BitVec 32) : Scf.Loop 32 :=
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let v43 : BitVec 32 := Scalar.addi c0_i32_19 v42
  let c1_i32_22 : BitVec 32 := 1#32
  ⟨v46, v43, c1_i32_22⟩
def k0_off69 (i : grid0.Coords) (v15 : BitVec 32) (k0_t2 : Fin (k0_t2_loop v15).trips) : Fin 2 → Nat :=
  let arg0 : BitVec 32 := BitVec.ofNat 32 (i 0).val
  let v198 : Index := Scalar.indexCast arg0
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c1_i32_147 : BitVec 32 := 1#32
  let v194 : BitVec 32 := Scalar.addi arg16 c1_i32_147
  let c8_i32_149 : BitVec 32 := 8#32
  let v196 : BitVec 32 := Scalar.muli v194 c8_i32_149
  let c0_i32_150 : BitVec 32 := 0#32
  let v197 : BitVec 32 := Scalar.addi v196 c0_i32_150
  let v199 : Index := Scalar.indexCast v197
  ![v198.toNat, v199.toNat]
def k0_cond4 (v15 : BitVec 32) (k0_t2 : Fin (k0_t2_loop v15).trips) : BitVec 1 :=
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c1_i32_28 : BitVec 32 := 1#32
  let v62 : BitVec 32 := Scalar.addi arg16 c1_i32_28
  let v63 : BitVec 1 := Scalar.cmpi .slt v62 v34
  let v64 : BitVec 32 := Scalar.extui v63
  let c0_i32_29 : BitVec 32 := 0#32
  let v65 : BitVec 1 := Scalar.cmpi .ne v64 c0_i32_29
  v65

def k0_off70 (v15 : BitVec 32) (k0_t2 : Fin (k0_t2_loop v15).trips) : Fin 1 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  ![v195.toNat]
def k0_off71 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c0_i32_151 : BitVec 32 := 0#32
  let c0_i32_152 : BitVec 32 := 0#32
  let c0_i32_153 : BitVec 32 := 0#32
  ![v195.toNat, 0, 0, 0]
def k0_off72 (v200 : BitVec 32) : Fin 4 → Nat :=
  let c0_i32_154 : BitVec 32 := 0#32
  let c0_i32_155 : BitVec 32 := 0#32
  let c0_i32_156 : BitVec 32 := 0#32
  ![v200.toNat, 0, 0, 0]

def k0_chk18 (v15 : BitVec 32) (k0_t2 : Fin (k0_t2_loop v15).trips) (v200 : BitVec 32) : Prop :=
  (∀ (k0_h4 : k0_cond4 v15 k0_t2 = 1#1), ∀ a, (k0_off72 v200) a + S1x32x16x128.size a ≤ S256x32x16x128.size a)
theorem k0_off72_inb : ∀ (v15 : BitVec 32) (k0_t2 : Fin (k0_t2_loop v15).trips) (v200 : BitVec 32) (k0_hw18 : k0_chk18 v15 k0_t2 v200), ∀ (k0_h4 : k0_cond4 v15 k0_t2 = 1#1), ∀ a, (k0_off72 v200) a + S1x32x16x128.size a ≤ S256x32x16x128.size a := fun v15 k0_t2 v200 k0_hw18 k0_h4 => k0_hw18 k0_h4

def k0_off73 (v15 : BitVec 32) (k0_t2 : Fin (k0_t2_loop v15).trips) : Fin 1 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  ![v195.toNat]
def k0_off74 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c0_i32_157 : BitVec 32 := 0#32
  let c0_i32_158 : BitVec 32 := 0#32
  let c0_i32_159 : BitVec 32 := 0#32
  ![v195.toNat, 0, 0, 0]
def k0_off75 (i : grid0.Coords) (v15 : BitVec 32) (k0_t2 : Fin (k0_t2_loop v15).trips) : Fin 2 → Nat :=
  let arg0 : BitVec 32 := BitVec.ofNat 32 (i 0).val
  let v215 : Index := Scalar.indexCast arg0
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c1_i32_147 : BitVec 32 := 1#32
  let v194 : BitVec 32 := Scalar.addi arg16 c1_i32_147
  let c8_i32_163 : BitVec 32 := 8#32
  let v213 : BitVec 32 := Scalar.muli v194 c8_i32_163
  let c1_i32_164 : BitVec 32 := 1#32
  let v214 : BitVec 32 := Scalar.addi v213 c1_i32_164
  let v216 : Index := Scalar.indexCast v214
  ![v215.toNat, v216.toNat]
def k0_off76 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c32_i32_165 : BitVec 32 := 32#32
  let c0_i32_166 : BitVec 32 := 0#32
  let c0_i32_167 : BitVec 32 := 0#32
  ![v195.toNat, 32, 0, 0]
def k0_off77 (v217 : BitVec 32) : Fin 4 → Nat :=
  let c0_i32_168 : BitVec 32 := 0#32
  let c0_i32_169 : BitVec 32 := 0#32
  let c0_i32_170 : BitVec 32 := 0#32
  ![v217.toNat, 0, 0, 0]

def k0_chk19 (v15 : BitVec 32) (k0_t2 : Fin (k0_t2_loop v15).trips) (v217 : BitVec 32) : Prop :=
  (∀ (k0_h4 : k0_cond4 v15 k0_t2 = 1#1), ∀ a, (k0_off77 v217) a + S1x32x16x128.size a ≤ S256x32x16x128.size a)
theorem k0_off77_inb : ∀ (v15 : BitVec 32) (k0_t2 : Fin (k0_t2_loop v15).trips) (v217 : BitVec 32) (k0_hw19 : k0_chk19 v15 k0_t2 v217), ∀ (k0_h4 : k0_cond4 v15 k0_t2 = 1#1), ∀ a, (k0_off77 v217) a + S1x32x16x128.size a ≤ S256x32x16x128.size a := fun v15 k0_t2 v217 k0_hw19 k0_h4 => k0_hw19 k0_h4

def k0_off78 (v15 : BitVec 32) (k0_t2 : Fin (k0_t2_loop v15).trips) : Fin 1 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  ![v195.toNat]
def k0_off79 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c32_i32_171 : BitVec 32 := 32#32
  let c0_i32_172 : BitVec 32 := 0#32
  let c0_i32_173 : BitVec 32 := 0#32
  ![v195.toNat, 32, 0, 0]
def k0_off80 (i : grid0.Coords) (v15 : BitVec 32) (k0_t2 : Fin (k0_t2_loop v15).trips) : Fin 2 → Nat :=
  let arg0 : BitVec 32 := BitVec.ofNat 32 (i 0).val
  let v232 : Index := Scalar.indexCast arg0
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c1_i32_147 : BitVec 32 := 1#32
  let v194 : BitVec 32 := Scalar.addi arg16 c1_i32_147
  let c8_i32_177 : BitVec 32 := 8#32
  let v230 : BitVec 32 := Scalar.muli v194 c8_i32_177
  let c2_i32_178 : BitVec 32 := 2#32
  let v231 : BitVec 32 := Scalar.addi v230 c2_i32_178
  let v233 : Index := Scalar.indexCast v231
  ![v232.toNat, v233.toNat]
def k0_off81 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c64_i32_179 : BitVec 32 := 64#32
  let c0_i32_180 : BitVec 32 := 0#32
  let c0_i32_181 : BitVec 32 := 0#32
  ![v195.toNat, 64, 0, 0]
def k0_off82 (v234 : BitVec 32) : Fin 4 → Nat :=
  let c0_i32_182 : BitVec 32 := 0#32
  let c0_i32_183 : BitVec 32 := 0#32
  let c0_i32_184 : BitVec 32 := 0#32
  ![v234.toNat, 0, 0, 0]

def k0_chk20 (v15 : BitVec 32) (k0_t2 : Fin (k0_t2_loop v15).trips) (v234 : BitVec 32) : Prop :=
  (∀ (k0_h4 : k0_cond4 v15 k0_t2 = 1#1), ∀ a, (k0_off82 v234) a + S1x32x16x128.size a ≤ S256x32x16x128.size a)
theorem k0_off82_inb : ∀ (v15 : BitVec 32) (k0_t2 : Fin (k0_t2_loop v15).trips) (v234 : BitVec 32) (k0_hw20 : k0_chk20 v15 k0_t2 v234), ∀ (k0_h4 : k0_cond4 v15 k0_t2 = 1#1), ∀ a, (k0_off82 v234) a + S1x32x16x128.size a ≤ S256x32x16x128.size a := fun v15 k0_t2 v234 k0_hw20 k0_h4 => k0_hw20 k0_h4

def k0_off83 (v15 : BitVec 32) (k0_t2 : Fin (k0_t2_loop v15).trips) : Fin 1 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  ![v195.toNat]
def k0_off84 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c64_i32_185 : BitVec 32 := 64#32
  let c0_i32_186 : BitVec 32 := 0#32
  let c0_i32_187 : BitVec 32 := 0#32
  ![v195.toNat, 64, 0, 0]
def k0_off85 (i : grid0.Coords) (v15 : BitVec 32) (k0_t2 : Fin (k0_t2_loop v15).trips) : Fin 2 → Nat :=
  let arg0 : BitVec 32 := BitVec.ofNat 32 (i 0).val
  let v249 : Index := Scalar.indexCast arg0
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c1_i32_147 : BitVec 32 := 1#32
  let v194 : BitVec 32 := Scalar.addi arg16 c1_i32_147
  let c8_i32_191 : BitVec 32 := 8#32
  let v247 : BitVec 32 := Scalar.muli v194 c8_i32_191
  let c3_i32 : BitVec 32 := 3#32
  let v248 : BitVec 32 := Scalar.addi v247 c3_i32
  let v250 : Index := Scalar.indexCast v248
  ![v249.toNat, v250.toNat]
def k0_off86 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c96_i32_192 : BitVec 32 := 96#32
  let c0_i32_193 : BitVec 32 := 0#32
  let c0_i32_194 : BitVec 32 := 0#32
  ![v195.toNat, 96, 0, 0]
def k0_off87 (v251 : BitVec 32) : Fin 4 → Nat :=
  let c0_i32_195 : BitVec 32 := 0#32
  let c0_i32_196 : BitVec 32 := 0#32
  let c0_i32_197 : BitVec 32 := 0#32
  ![v251.toNat, 0, 0, 0]

def k0_chk21 (v15 : BitVec 32) (k0_t2 : Fin (k0_t2_loop v15).trips) (v251 : BitVec 32) : Prop :=
  (∀ (k0_h4 : k0_cond4 v15 k0_t2 = 1#1), ∀ a, (k0_off87 v251) a + S1x32x16x128.size a ≤ S256x32x16x128.size a)
theorem k0_off87_inb : ∀ (v15 : BitVec 32) (k0_t2 : Fin (k0_t2_loop v15).trips) (v251 : BitVec 32) (k0_hw21 : k0_chk21 v15 k0_t2 v251), ∀ (k0_h4 : k0_cond4 v15 k0_t2 = 1#1), ∀ a, (k0_off87 v251) a + S1x32x16x128.size a ≤ S256x32x16x128.size a := fun v15 k0_t2 v251 k0_hw21 k0_h4 => k0_hw21 k0_h4

def k0_off88 (v15 : BitVec 32) (k0_t2 : Fin (k0_t2_loop v15).trips) : Fin 1 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  ![v195.toNat]
def k0_off89 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c96_i32_198 : BitVec 32 := 96#32
  let c0_i32_199 : BitVec 32 := 0#32
  let c0_i32_200 : BitVec 32 := 0#32
  ![v195.toNat, 96, 0, 0]
def k0_off90 (i : grid0.Coords) (v15 : BitVec 32) (k0_t2 : Fin (k0_t2_loop v15).trips) : Fin 2 → Nat :=
  let arg0 : BitVec 32 := BitVec.ofNat 32 (i 0).val
  let v266 : Index := Scalar.indexCast arg0
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c1_i32_147 : BitVec 32 := 1#32
  let v194 : BitVec 32 := Scalar.addi arg16 c1_i32_147
  let c8_i32_204 : BitVec 32 := 8#32
  let v264 : BitVec 32 := Scalar.muli v194 c8_i32_204
  let c4_i32_205 : BitVec 32 := 4#32
  let v265 : BitVec 32 := Scalar.addi v264 c4_i32_205
  let v267 : Index := Scalar.indexCast v265
  ![v266.toNat, v267.toNat]
def k0_off91 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c128_i32_206 : BitVec 32 := 128#32
  let c0_i32_207 : BitVec 32 := 0#32
  let c0_i32_208 : BitVec 32 := 0#32
  ![v195.toNat, 128, 0, 0]
def k0_off92 (v268 : BitVec 32) : Fin 4 → Nat :=
  let c0_i32_209 : BitVec 32 := 0#32
  let c0_i32_210 : BitVec 32 := 0#32
  let c0_i32_211 : BitVec 32 := 0#32
  ![v268.toNat, 0, 0, 0]

def k0_chk22 (v15 : BitVec 32) (k0_t2 : Fin (k0_t2_loop v15).trips) (v268 : BitVec 32) : Prop :=
  (∀ (k0_h4 : k0_cond4 v15 k0_t2 = 1#1), ∀ a, (k0_off92 v268) a + S1x32x16x128.size a ≤ S256x32x16x128.size a)
theorem k0_off92_inb : ∀ (v15 : BitVec 32) (k0_t2 : Fin (k0_t2_loop v15).trips) (v268 : BitVec 32) (k0_hw22 : k0_chk22 v15 k0_t2 v268), ∀ (k0_h4 : k0_cond4 v15 k0_t2 = 1#1), ∀ a, (k0_off92 v268) a + S1x32x16x128.size a ≤ S256x32x16x128.size a := fun v15 k0_t2 v268 k0_hw22 k0_h4 => k0_hw22 k0_h4

def k0_off93 (v15 : BitVec 32) (k0_t2 : Fin (k0_t2_loop v15).trips) : Fin 1 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  ![v195.toNat]
def k0_off94 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c128_i32_212 : BitVec 32 := 128#32
  let c0_i32_213 : BitVec 32 := 0#32
  let c0_i32_214 : BitVec 32 := 0#32
  ![v195.toNat, 128, 0, 0]
def k0_off95 (i : grid0.Coords) (v15 : BitVec 32) (k0_t2 : Fin (k0_t2_loop v15).trips) : Fin 2 → Nat :=
  let arg0 : BitVec 32 := BitVec.ofNat 32 (i 0).val
  let v283 : Index := Scalar.indexCast arg0
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c1_i32_147 : BitVec 32 := 1#32
  let v194 : BitVec 32 := Scalar.addi arg16 c1_i32_147
  let c8_i32_218 : BitVec 32 := 8#32
  let v281 : BitVec 32 := Scalar.muli v194 c8_i32_218
  let c5_i32 : BitVec 32 := 5#32
  let v282 : BitVec 32 := Scalar.addi v281 c5_i32
  let v284 : Index := Scalar.indexCast v282
  ![v283.toNat, v284.toNat]
def k0_off96 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c160_i32_219 : BitVec 32 := 160#32
  let c0_i32_220 : BitVec 32 := 0#32
  let c0_i32_221 : BitVec 32 := 0#32
  ![v195.toNat, 160, 0, 0]
def k0_off97 (v285 : BitVec 32) : Fin 4 → Nat :=
  let c0_i32_222 : BitVec 32 := 0#32
  let c0_i32_223 : BitVec 32 := 0#32
  let c0_i32_224 : BitVec 32 := 0#32
  ![v285.toNat, 0, 0, 0]

def k0_chk23 (v15 : BitVec 32) (k0_t2 : Fin (k0_t2_loop v15).trips) (v285 : BitVec 32) : Prop :=
  (∀ (k0_h4 : k0_cond4 v15 k0_t2 = 1#1), ∀ a, (k0_off97 v285) a + S1x32x16x128.size a ≤ S256x32x16x128.size a)
theorem k0_off97_inb : ∀ (v15 : BitVec 32) (k0_t2 : Fin (k0_t2_loop v15).trips) (v285 : BitVec 32) (k0_hw23 : k0_chk23 v15 k0_t2 v285), ∀ (k0_h4 : k0_cond4 v15 k0_t2 = 1#1), ∀ a, (k0_off97 v285) a + S1x32x16x128.size a ≤ S256x32x16x128.size a := fun v15 k0_t2 v285 k0_hw23 k0_h4 => k0_hw23 k0_h4

def k0_off98 (v15 : BitVec 32) (k0_t2 : Fin (k0_t2_loop v15).trips) : Fin 1 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  ![v195.toNat]
def k0_off99 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c160_i32_225 : BitVec 32 := 160#32
  let c0_i32_226 : BitVec 32 := 0#32
  let c0_i32_227 : BitVec 32 := 0#32
  ![v195.toNat, 160, 0, 0]
def k0_off100 (i : grid0.Coords) (v15 : BitVec 32) (k0_t2 : Fin (k0_t2_loop v15).trips) : Fin 2 → Nat :=
  let arg0 : BitVec 32 := BitVec.ofNat 32 (i 0).val
  let v300 : Index := Scalar.indexCast arg0
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c1_i32_147 : BitVec 32 := 1#32
  let v194 : BitVec 32 := Scalar.addi arg16 c1_i32_147
  let c8_i32_231 : BitVec 32 := 8#32
  let v298 : BitVec 32 := Scalar.muli v194 c8_i32_231
  let c6_i32 : BitVec 32 := 6#32
  let v299 : BitVec 32 := Scalar.addi v298 c6_i32
  let v301 : Index := Scalar.indexCast v299
  ![v300.toNat, v301.toNat]
def k0_off101 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c192_i32_232 : BitVec 32 := 192#32
  let c0_i32_233 : BitVec 32 := 0#32
  let c0_i32_234 : BitVec 32 := 0#32
  ![v195.toNat, 192, 0, 0]
def k0_off102 (v302 : BitVec 32) : Fin 4 → Nat :=
  let c0_i32_235 : BitVec 32 := 0#32
  let c0_i32_236 : BitVec 32 := 0#32
  let c0_i32_237 : BitVec 32 := 0#32
  ![v302.toNat, 0, 0, 0]

def k0_chk24 (v15 : BitVec 32) (k0_t2 : Fin (k0_t2_loop v15).trips) (v302 : BitVec 32) : Prop :=
  (∀ (k0_h4 : k0_cond4 v15 k0_t2 = 1#1), ∀ a, (k0_off102 v302) a + S1x32x16x128.size a ≤ S256x32x16x128.size a)
theorem k0_off102_inb : ∀ (v15 : BitVec 32) (k0_t2 : Fin (k0_t2_loop v15).trips) (v302 : BitVec 32) (k0_hw24 : k0_chk24 v15 k0_t2 v302), ∀ (k0_h4 : k0_cond4 v15 k0_t2 = 1#1), ∀ a, (k0_off102 v302) a + S1x32x16x128.size a ≤ S256x32x16x128.size a := fun v15 k0_t2 v302 k0_hw24 k0_h4 => k0_hw24 k0_h4

def k0_off103 (v15 : BitVec 32) (k0_t2 : Fin (k0_t2_loop v15).trips) : Fin 1 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  ![v195.toNat]
def k0_off104 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c192_i32_238 : BitVec 32 := 192#32
  let c0_i32_239 : BitVec 32 := 0#32
  let c0_i32_240 : BitVec 32 := 0#32
  ![v195.toNat, 192, 0, 0]
def k0_off105 (i : grid0.Coords) (v15 : BitVec 32) (k0_t2 : Fin (k0_t2_loop v15).trips) : Fin 2 → Nat :=
  let arg0 : BitVec 32 := BitVec.ofNat 32 (i 0).val
  let v317 : Index := Scalar.indexCast arg0
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c1_i32_147 : BitVec 32 := 1#32
  let v194 : BitVec 32 := Scalar.addi arg16 c1_i32_147
  let c8_i32_244 : BitVec 32 := 8#32
  let v315 : BitVec 32 := Scalar.muli v194 c8_i32_244
  let c7_i32 : BitVec 32 := 7#32
  let v316 : BitVec 32 := Scalar.addi v315 c7_i32
  let v318 : Index := Scalar.indexCast v316
  ![v317.toNat, v318.toNat]
def k0_off106 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c224_i32_245 : BitVec 32 := 224#32
  let c0_i32_246 : BitVec 32 := 0#32
  let c0_i32_247 : BitVec 32 := 0#32
  ![v195.toNat, 224, 0, 0]
def k0_off107 (v319 : BitVec 32) : Fin 4 → Nat :=
  let c0_i32_248 : BitVec 32 := 0#32
  let c0_i32_249 : BitVec 32 := 0#32
  let c0_i32_250 : BitVec 32 := 0#32
  ![v319.toNat, 0, 0, 0]

def k0_chk25 (v15 : BitVec 32) (k0_t2 : Fin (k0_t2_loop v15).trips) (v319 : BitVec 32) : Prop :=
  (∀ (k0_h4 : k0_cond4 v15 k0_t2 = 1#1), ∀ a, (k0_off107 v319) a + S1x32x16x128.size a ≤ S256x32x16x128.size a)
theorem k0_off107_inb : ∀ (v15 : BitVec 32) (k0_t2 : Fin (k0_t2_loop v15).trips) (v319 : BitVec 32) (k0_hw25 : k0_chk25 v15 k0_t2 v319), ∀ (k0_h4 : k0_cond4 v15 k0_t2 = 1#1), ∀ a, (k0_off107 v319) a + S1x32x16x128.size a ≤ S256x32x16x128.size a := fun v15 k0_t2 v319 k0_hw25 k0_h4 => k0_hw25 k0_h4

def k0_off108 (v15 : BitVec 32) (k0_t2 : Fin (k0_t2_loop v15).trips) : Fin 1 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  ![v195.toNat]
def k0_off109 (v15 : BitVec 32) (k0_t2 : Fin (k0_t2_loop v15).trips) : Fin 4 → Nat :=
  let c1_i32_148 : BitVec 32 := 1#32
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v195 : BitVec 32 := Scalar.subi c1_i32_148 v61
  let c224_i32_251 : BitVec 32 := 224#32
  let c0_i32_252 : BitVec 32 := 0#32
  let c0_i32_253 : BitVec 32 := 0#32
  ![v195.toNat, 224, 0, 0]
def k0_off110 (v15 : BitVec 32) (k0_t2 : Fin (k0_t2_loop v15).trips) : Fin 1 → Nat :=
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  ![v61.toNat]
def k0_off111 (v15 : BitVec 32) (k0_t2 : Fin (k0_t2_loop v15).trips) : Fin 4 → Nat :=
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let c0_i32_31 : BitVec 32 := 0#32
  let c0_i32_32 : BitVec 32 := 0#32
  let c0_i32_33 : BitVec 32 := 0#32
  ![v61.toNat, 0, 0, 0]
def k0_off112 (v15 : BitVec 32) (k0_t2 : Fin (k0_t2_loop v15).trips) : Fin 4 → Nat :=
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let c32_i32 : BitVec 32 := 32#32
  let c0_i32_45 : BitVec 32 := 0#32
  let c0_i32_46 : BitVec 32 := 0#32
  ![v61.toNat, 32, 0, 0]
def k0_off113 (v15 : BitVec 32) (k0_t2 : Fin (k0_t2_loop v15).trips) : Fin 4 → Nat :=
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let c64_i32 : BitVec 32 := 64#32
  let c0_i32_58 : BitVec 32 := 0#32
  let c0_i32_59 : BitVec 32 := 0#32
  ![v61.toNat, 64, 0, 0]
def k0_off114 (v15 : BitVec 32) (k0_t2 : Fin (k0_t2_loop v15).trips) : Fin 4 → Nat :=
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let c96_i32 : BitVec 32 := 96#32
  let c0_i32_71 : BitVec 32 := 0#32
  let c0_i32_72 : BitVec 32 := 0#32
  ![v61.toNat, 96, 0, 0]
def k0_off115 (v15 : BitVec 32) (k0_t2 : Fin (k0_t2_loop v15).trips) : Fin 4 → Nat :=
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let c128_i32 : BitVec 32 := 128#32
  let c0_i32_84 : BitVec 32 := 0#32
  let c0_i32_85 : BitVec 32 := 0#32
  ![v61.toNat, 128, 0, 0]
def k0_off116 (v15 : BitVec 32) (k0_t2 : Fin (k0_t2_loop v15).trips) : Fin 4 → Nat :=
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let c160_i32 : BitVec 32 := 160#32
  let c0_i32_97 : BitVec 32 := 0#32
  let c0_i32_98 : BitVec 32 := 0#32
  ![v61.toNat, 160, 0, 0]
def k0_off117 (v15 : BitVec 32) (k0_t2 : Fin (k0_t2_loop v15).trips) : Fin 4 → Nat :=
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let c192_i32 : BitVec 32 := 192#32
  let c0_i32_110 : BitVec 32 := 0#32
  let c0_i32_111 : BitVec 32 := 0#32
  ![v61.toNat, 192, 0, 0]
def k0_off118 (v15 : BitVec 32) (k0_t2 : Fin (k0_t2_loop v15).trips) : Fin 4 → Nat :=
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let c224_i32 : BitVec 32 := 224#32
  let c0_i32_123 : BitVec 32 := 0#32
  let c0_i32_124 : BitVec 32 := 0#32
  ![v61.toNat, 224, 0, 0]
def k0_off119 (v15 : BitVec 32) (k0_t2 : Fin (k0_t2_loop v15).trips) : Fin 4 → Nat :=
  let c0_i32_19 : BitVec 32 := 0#32
  let c8_i32_4 : BitVec 32 := 8#32
  let v16 : BitVec 32 := Scalar.addi v15 c8_i32_4
  let c1_i32_5 : BitVec 32 := 1#32
  let v17 : BitVec 32 := Scalar.subi v16 c1_i32_5
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c8_i32_6 : BitVec 32 := 8#32
  let c0_i32_9 : BitVec 32 := 0#32
  let v24 : BitVec 1 := Scalar.cmpi .sgt c8_i32_6 c0_i32_9
  let v25 : BitVec 32 := Scalar.extui v24
  let c0_i32_10 : BitVec 32 := 0#32
  let v26 : BitVec 1 := Scalar.cmpi .slt c8_i32_6 c0_i32_10
  let v27 : BitVec 32 := Scalar.extui v26
  let v28 : BitVec 32 := Scalar.subi v25 v27
  let v29 : BitVec 1 := Scalar.cmpi .ne v23 v28
  let v30 : BitVec 32 := Scalar.remsi v17 c8_i32_6
  let c0_i32_11 : BitVec 32 := 0#32
  let v31 : BitVec 1 := Scalar.cmpi .ne v30 c0_i32_11
  let v32 : BitVec 1 := Scalar.andi v29 v31
  let v18 : BitVec 32 := Scalar.divsi v17 c8_i32_6
  let c1_i32_12 : BitVec 32 := 1#32
  let v33 : BitVec 32 := Scalar.subi v18 c1_i32_12
  let v34 : BitVec 32 := Scalar.select v32 v33 v18
  let v42 : BitVec 32 := Scalar.subi v34 c0_i32_19
  let c1_i32_20 : BitVec 32 := 1#32
  let v44 : BitVec 32 := Scalar.divsi v42 c1_i32_20
  let v45 : BitVec 32 := Scalar.muli v44 c1_i32_20
  let v46 : BitVec 32 := Scalar.addi c0_i32_19 v45
  let c1_i32_22 : BitVec 32 := 1#32
  let arg16 : BitVec 32 := Scf.iv v46 c1_i32_22 k0_t2
  let c2_i32_27 : BitVec 32 := 2#32
  let v61 : BitVec 32 := Scalar.remsi arg16 c2_i32_27
  let v162 : Index := Scalar.indexCast v61
  let c0_135 : Index := 0#32
  let c0_136 : Index := 0#32
  let c0_137 : Index := 0#32
  ![v162.toNat, 0, 0, 0]

def k0_chk9_0 (i : grid0.Coords) (v15 : BitVec 32) : Prop :=
  ((k0_t1_loop v15).OK) ∧
  (∀ k0_t1 : Fin (k0_t1_loop v15).trips, ∀ (k0_h3 : k0_cond3 v15 k0_t1 = 1#1), ∀ a, (k0_off18 i v15 k0_t1) a + S1x1.size a ≤ S32x256.size a) ∧
  (∀ k0_t1 : Fin (k0_t1_loop v15).trips, ∀ (k0_h3 : k0_cond3 v15 k0_t1 = 1#1), ∀ a, (k0_off19 v15 k0_t1) a + S1.size a ≤ S2.size a) ∧
  (∀ k0_t1 : Fin (k0_t1_loop v15).trips, ∀ (k0_h3 : k0_cond3 v15 k0_t1 = 1#1), ∀ a, (k0_off20 v15 k0_t1) a + S1x32x16x128.size a ≤ S2x256x16x128.size a) ∧
  (∀ k0_t1 : Fin (k0_t1_loop v15).trips, ∀ (k0_h3 : k0_cond3 v15 k0_t1 = 1#1), ∀ a, (k0_off22 v15 k0_t1) a + S1.size a ≤ S2.size a) ∧
  (∀ k0_t1 : Fin (k0_t1_loop v15).trips, ∀ (k0_h3 : k0_cond3 v15 k0_t1 = 1#1), ∀ a, (k0_off23 v15 k0_t1) a + S1x32x16x128.size a ≤ S2x256x16x128.size a) ∧
  (∀ k0_t1 : Fin (k0_t1_loop v15).trips, ∀ (k0_h3 : k0_cond3 v15 k0_t1 = 1#1), ∀ a, (k0_off24 i v15 k0_t1) a + S1x1.size a ≤ S32x256.size a) ∧
  (∀ k0_t1 : Fin (k0_t1_loop v15).trips, ∀ (k0_h3 : k0_cond3 v15 k0_t1 = 1#1), ∀ a, (k0_off25 v15 k0_t1) a + S1x32x16x128.size a ≤ S2x256x16x128.size a) ∧
  (∀ k0_t1 : Fin (k0_t1_loop v15).trips, ∀ (k0_h3 : k0_cond3 v15 k0_t1 = 1#1), ∀ a, (k0_off27 v15 k0_t1) a + S1.size a ≤ S2.size a) ∧
  (∀ k0_t1 : Fin (k0_t1_loop v15).trips, ∀ (k0_h3 : k0_cond3 v15 k0_t1 = 1#1), ∀ a, (k0_off28 v15 k0_t1) a + S1x32x16x128.size a ≤ S2x256x16x128.size a) ∧
  (∀ k0_t1 : Fin (k0_t1_loop v15).trips, ∀ (k0_h3 : k0_cond3 v15 k0_t1 = 1#1), ∀ a, (k0_off29 i v15 k0_t1) a + S1x1.size a ≤ S32x256.size a) ∧
  (∀ k0_t1 : Fin (k0_t1_loop v15).trips, ∀ (k0_h3 : k0_cond3 v15 k0_t1 = 1#1), ∀ a, (k0_off30 v15 k0_t1) a + S1x32x16x128.size a ≤ S2x256x16x128.size a) ∧
  (∀ k0_t1 : Fin (k0_t1_loop v15).trips, ∀ (k0_h3 : k0_cond3 v15 k0_t1 = 1#1), ∀ a, (k0_off32 v15 k0_t1) a + S1.size a ≤ S2.size a) ∧
  (∀ k0_t1 : Fin (k0_t1_loop v15).trips, ∀ (k0_h3 : k0_cond3 v15 k0_t1 = 1#1), ∀ a, (k0_off33 v15 k0_t1) a + S1x32x16x128.size a ≤ S2x256x16x128.size a) ∧
  (∀ k0_t1 : Fin (k0_t1_loop v15).trips, ∀ (k0_h3 : k0_cond3 v15 k0_t1 = 1#1), ∀ a, (k0_off34 i v15 k0_t1) a + S1x1.size a ≤ S32x256.size a) ∧
  (∀ k0_t1 : Fin (k0_t1_loop v15).trips, ∀ (k0_h3 : k0_cond3 v15 k0_t1 = 1#1), ∀ a, (k0_off35 v15 k0_t1) a + S1x32x16x128.size a ≤ S2x256x16x128.size a) ∧
  (∀ k0_t1 : Fin (k0_t1_loop v15).trips, ∀ (k0_h3 : k0_cond3 v15 k0_t1 = 1#1), ∀ a, (k0_off37 v15 k0_t1) a + S1.size a ≤ S2.size a) ∧
  (∀ k0_t1 : Fin (k0_t1_loop v15).trips, ∀ (k0_h3 : k0_cond3 v15 k0_t1 = 1#1), ∀ a, (k0_off38 v15 k0_t1) a + S1x32x16x128.size a ≤ S2x256x16x128.size a) ∧
  (∀ k0_t1 : Fin (k0_t1_loop v15).trips, ∀ (k0_h3 : k0_cond3 v15 k0_t1 = 1#1), ∀ a, (k0_off39 i v15 k0_t1) a + S1x1.size a ≤ S32x256.size a) ∧
  (∀ k0_t1 : Fin (k0_t1_loop v15).trips, ∀ (k0_h3 : k0_cond3 v15 k0_t1 = 1#1), ∀ a, (k0_off40 v15 k0_t1) a + S1x32x16x128.size a ≤ S2x256x16x128.size a) ∧
  (∀ k0_t1 : Fin (k0_t1_loop v15).trips, ∀ (k0_h3 : k0_cond3 v15 k0_t1 = 1#1), ∀ a, (k0_off42 v15 k0_t1) a + S1.size a ≤ S2.size a) ∧
  (∀ k0_t1 : Fin (k0_t1_loop v15).trips, ∀ (k0_h3 : k0_cond3 v15 k0_t1 = 1#1), ∀ a, (k0_off43 v15 k0_t1) a + S1x32x16x128.size a ≤ S2x256x16x128.size a) ∧
  (∀ k0_t1 : Fin (k0_t1_loop v15).trips, ∀ (k0_h3 : k0_cond3 v15 k0_t1 = 1#1), ∀ a, (k0_off44 i v15 k0_t1) a + S1x1.size a ≤ S32x256.size a) ∧
  (∀ k0_t1 : Fin (k0_t1_loop v15).trips, ∀ (k0_h3 : k0_cond3 v15 k0_t1 = 1#1), ∀ a, (k0_off45 v15 k0_t1) a + S1x32x16x128.size a ≤ S2x256x16x128.size a) ∧
  (∀ k0_t1 : Fin (k0_t1_loop v15).trips, ∀ (k0_h3 : k0_cond3 v15 k0_t1 = 1#1), ∀ a, (k0_off47 v15 k0_t1) a + S1.size a ≤ S2.size a) ∧
  (∀ k0_t1 : Fin (k0_t1_loop v15).trips, ∀ (k0_h3 : k0_cond3 v15 k0_t1 = 1#1), ∀ a, (k0_off48 v15 k0_t1) a + S1x32x16x128.size a ≤ S2x256x16x128.size a) ∧
  (∀ k0_t1 : Fin (k0_t1_loop v15).trips, ∀ (k0_h3 : k0_cond3 v15 k0_t1 = 1#1), ∀ a, (k0_off49 i v15 k0_t1) a + S1x1.size a ≤ S32x256.size a) ∧
  (∀ k0_t1 : Fin (k0_t1_loop v15).trips, ∀ (k0_h3 : k0_cond3 v15 k0_t1 = 1#1), ∀ a, (k0_off50 v15 k0_t1) a + S1x32x16x128.size a ≤ S2x256x16x128.size a) ∧
  (∀ k0_t1 : Fin (k0_t1_loop v15).trips, ∀ (k0_h3 : k0_cond3 v15 k0_t1 = 1#1), ∀ a, (k0_off52 v15 k0_t1) a + S1.size a ≤ S2.size a) ∧
  (∀ k0_t1 : Fin (k0_t1_loop v15).trips, ∀ (k0_h3 : k0_cond3 v15 k0_t1 = 1#1), ∀ a, (k0_off53 v15 k0_t1) a + S1x32x16x128.size a ≤ S2x256x16x128.size a) ∧
  (∀ k0_t1 : Fin (k0_t1_loop v15).trips, ∀ (k0_h3 : k0_cond3 v15 k0_t1 = 1#1), ∀ a, (k0_off54 i v15 k0_t1) a + S1x1.size a ≤ S32x256.size a) ∧
  (∀ k0_t1 : Fin (k0_t1_loop v15).trips, ∀ (k0_h3 : k0_cond3 v15 k0_t1 = 1#1), ∀ a, (k0_off55 v15 k0_t1) a + S1x32x16x128.size a ≤ S2x256x16x128.size a)
def k0_chk9_1 (i : grid0.Coords) (v15 : BitVec 32) : Prop :=
  (∀ k0_t1 : Fin (k0_t1_loop v15).trips, ∀ (k0_h3 : k0_cond3 v15 k0_t1 = 1#1), ∀ a, (k0_off57 v15 k0_t1) a + S1.size a ≤ S2.size a) ∧
  (∀ k0_t1 : Fin (k0_t1_loop v15).trips, ∀ (k0_h3 : k0_cond3 v15 k0_t1 = 1#1), ∀ a, (k0_off58 v15 k0_t1) a + S1x32x16x128.size a ≤ S2x256x16x128.size a) ∧
  (∀ k0_t1 : Fin (k0_t1_loop v15).trips, ∀ a, (k0_off59 v15 k0_t1) a + S1.size a ≤ S2.size a) ∧
  (∀ k0_t1 : Fin (k0_t1_loop v15).trips, ∀ a, (k0_off60 v15 k0_t1) a + S1x32x16x128.size a ≤ S2x256x16x128.size a) ∧
  (∀ k0_t1 : Fin (k0_t1_loop v15).trips, ∀ a, (k0_off61 v15 k0_t1) a + S1x32x16x128.size a ≤ S2x256x16x128.size a) ∧
  (∀ k0_t1 : Fin (k0_t1_loop v15).trips, ∀ a, (k0_off62 v15 k0_t1) a + S1x32x16x128.size a ≤ S2x256x16x128.size a) ∧
  (∀ k0_t1 : Fin (k0_t1_loop v15).trips, ∀ a, (k0_off63 v15 k0_t1) a + S1x32x16x128.size a ≤ S2x256x16x128.size a) ∧
  (∀ k0_t1 : Fin (k0_t1_loop v15).trips, ∀ a, (k0_off64 v15 k0_t1) a + S1x32x16x128.size a ≤ S2x256x16x128.size a) ∧
  (∀ k0_t1 : Fin (k0_t1_loop v15).trips, ∀ a, (k0_off65 v15 k0_t1) a + S1x32x16x128.size a ≤ S2x256x16x128.size a) ∧
  (∀ k0_t1 : Fin (k0_t1_loop v15).trips, ∀ a, (k0_off66 v15 k0_t1) a + S1x32x16x128.size a ≤ S2x256x16x128.size a) ∧
  (∀ k0_t1 : Fin (k0_t1_loop v15).trips, ∀ a, (k0_off67 v15 k0_t1) a + S1x32x16x128.size a ≤ S2x256x16x128.size a) ∧
  (∀ k0_t1 : Fin (k0_t1_loop v15).trips, ∀ a, (k0_off68 v15 k0_t1) a + S1x256x16x128.size a ≤ S2x256x16x128.size a) ∧
  ((k0_t2_loop v15).OK) ∧
  (∀ k0_t2 : Fin (k0_t2_loop v15).trips, ∀ (k0_h4 : k0_cond4 v15 k0_t2 = 1#1), ∀ a, (k0_off69 i v15 k0_t2) a + S1x1.size a ≤ S32x256.size a) ∧
  (∀ k0_t2 : Fin (k0_t2_loop v15).trips, ∀ (k0_h4 : k0_cond4 v15 k0_t2 = 1#1), ∀ a, (k0_off70 v15 k0_t2) a + S1.size a ≤ S2.size a) ∧
  (∀ k0_t2 : Fin (k0_t2_loop v15).trips, ∀ (k0_h4 : k0_cond4 v15 k0_t2 = 1#1), ∀ a, (k0_off71 v15 k0_t2) a + S1x32x16x128.size a ≤ S2x256x16x128.size a) ∧
  (∀ k0_t2 : Fin (k0_t2_loop v15).trips, ∀ (k0_h4 : k0_cond4 v15 k0_t2 = 1#1), ∀ a, (k0_off73 v15 k0_t2) a + S1.size a ≤ S2.size a) ∧
  (∀ k0_t2 : Fin (k0_t2_loop v15).trips, ∀ (k0_h4 : k0_cond4 v15 k0_t2 = 1#1), ∀ a, (k0_off74 v15 k0_t2) a + S1x32x16x128.size a ≤ S2x256x16x128.size a) ∧
  (∀ k0_t2 : Fin (k0_t2_loop v15).trips, ∀ (k0_h4 : k0_cond4 v15 k0_t2 = 1#1), ∀ a, (k0_off75 i v15 k0_t2) a + S1x1.size a ≤ S32x256.size a) ∧
  (∀ k0_t2 : Fin (k0_t2_loop v15).trips, ∀ (k0_h4 : k0_cond4 v15 k0_t2 = 1#1), ∀ a, (k0_off76 v15 k0_t2) a + S1x32x16x128.size a ≤ S2x256x16x128.size a) ∧
  (∀ k0_t2 : Fin (k0_t2_loop v15).trips, ∀ (k0_h4 : k0_cond4 v15 k0_t2 = 1#1), ∀ a, (k0_off78 v15 k0_t2) a + S1.size a ≤ S2.size a) ∧
  (∀ k0_t2 : Fin (k0_t2_loop v15).trips, ∀ (k0_h4 : k0_cond4 v15 k0_t2 = 1#1), ∀ a, (k0_off79 v15 k0_t2) a + S1x32x16x128.size a ≤ S2x256x16x128.size a) ∧
  (∀ k0_t2 : Fin (k0_t2_loop v15).trips, ∀ (k0_h4 : k0_cond4 v15 k0_t2 = 1#1), ∀ a, (k0_off80 i v15 k0_t2) a + S1x1.size a ≤ S32x256.size a) ∧
  (∀ k0_t2 : Fin (k0_t2_loop v15).trips, ∀ (k0_h4 : k0_cond4 v15 k0_t2 = 1#1), ∀ a, (k0_off81 v15 k0_t2) a + S1x32x16x128.size a ≤ S2x256x16x128.size a) ∧
  (∀ k0_t2 : Fin (k0_t2_loop v15).trips, ∀ (k0_h4 : k0_cond4 v15 k0_t2 = 1#1), ∀ a, (k0_off83 v15 k0_t2) a + S1.size a ≤ S2.size a) ∧
  (∀ k0_t2 : Fin (k0_t2_loop v15).trips, ∀ (k0_h4 : k0_cond4 v15 k0_t2 = 1#1), ∀ a, (k0_off84 v15 k0_t2) a + S1x32x16x128.size a ≤ S2x256x16x128.size a) ∧
  (∀ k0_t2 : Fin (k0_t2_loop v15).trips, ∀ (k0_h4 : k0_cond4 v15 k0_t2 = 1#1), ∀ a, (k0_off85 i v15 k0_t2) a + S1x1.size a ≤ S32x256.size a) ∧
  (∀ k0_t2 : Fin (k0_t2_loop v15).trips, ∀ (k0_h4 : k0_cond4 v15 k0_t2 = 1#1), ∀ a, (k0_off86 v15 k0_t2) a + S1x32x16x128.size a ≤ S2x256x16x128.size a) ∧
  (∀ k0_t2 : Fin (k0_t2_loop v15).trips, ∀ (k0_h4 : k0_cond4 v15 k0_t2 = 1#1), ∀ a, (k0_off88 v15 k0_t2) a + S1.size a ≤ S2.size a) ∧
  (∀ k0_t2 : Fin (k0_t2_loop v15).trips, ∀ (k0_h4 : k0_cond4 v15 k0_t2 = 1#1), ∀ a, (k0_off89 v15 k0_t2) a + S1x32x16x128.size a ≤ S2x256x16x128.size a) ∧
  (∀ k0_t2 : Fin (k0_t2_loop v15).trips, ∀ (k0_h4 : k0_cond4 v15 k0_t2 = 1#1), ∀ a, (k0_off90 i v15 k0_t2) a + S1x1.size a ≤ S32x256.size a) ∧
  (∀ k0_t2 : Fin (k0_t2_loop v15).trips, ∀ (k0_h4 : k0_cond4 v15 k0_t2 = 1#1), ∀ a, (k0_off91 v15 k0_t2) a + S1x32x16x128.size a ≤ S2x256x16x128.size a)
def k0_chk9_2 (i : grid0.Coords) (v15 : BitVec 32) : Prop :=
  (∀ k0_t2 : Fin (k0_t2_loop v15).trips, ∀ (k0_h4 : k0_cond4 v15 k0_t2 = 1#1), ∀ a, (k0_off93 v15 k0_t2) a + S1.size a ≤ S2.size a) ∧
  (∀ k0_t2 : Fin (k0_t2_loop v15).trips, ∀ (k0_h4 : k0_cond4 v15 k0_t2 = 1#1), ∀ a, (k0_off94 v15 k0_t2) a + S1x32x16x128.size a ≤ S2x256x16x128.size a) ∧
  (∀ k0_t2 : Fin (k0_t2_loop v15).trips, ∀ (k0_h4 : k0_cond4 v15 k0_t2 = 1#1), ∀ a, (k0_off95 i v15 k0_t2) a + S1x1.size a ≤ S32x256.size a) ∧
  (∀ k0_t2 : Fin (k0_t2_loop v15).trips, ∀ (k0_h4 : k0_cond4 v15 k0_t2 = 1#1), ∀ a, (k0_off96 v15 k0_t2) a + S1x32x16x128.size a ≤ S2x256x16x128.size a) ∧
  (∀ k0_t2 : Fin (k0_t2_loop v15).trips, ∀ (k0_h4 : k0_cond4 v15 k0_t2 = 1#1), ∀ a, (k0_off98 v15 k0_t2) a + S1.size a ≤ S2.size a) ∧
  (∀ k0_t2 : Fin (k0_t2_loop v15).trips, ∀ (k0_h4 : k0_cond4 v15 k0_t2 = 1#1), ∀ a, (k0_off99 v15 k0_t2) a + S1x32x16x128.size a ≤ S2x256x16x128.size a) ∧
  (∀ k0_t2 : Fin (k0_t2_loop v15).trips, ∀ (k0_h4 : k0_cond4 v15 k0_t2 = 1#1), ∀ a, (k0_off100 i v15 k0_t2) a + S1x1.size a ≤ S32x256.size a) ∧
  (∀ k0_t2 : Fin (k0_t2_loop v15).trips, ∀ (k0_h4 : k0_cond4 v15 k0_t2 = 1#1), ∀ a, (k0_off101 v15 k0_t2) a + S1x32x16x128.size a ≤ S2x256x16x128.size a) ∧
  (∀ k0_t2 : Fin (k0_t2_loop v15).trips, ∀ (k0_h4 : k0_cond4 v15 k0_t2 = 1#1), ∀ a, (k0_off103 v15 k0_t2) a + S1.size a ≤ S2.size a) ∧
  (∀ k0_t2 : Fin (k0_t2_loop v15).trips, ∀ (k0_h4 : k0_cond4 v15 k0_t2 = 1#1), ∀ a, (k0_off104 v15 k0_t2) a + S1x32x16x128.size a ≤ S2x256x16x128.size a) ∧
  (∀ k0_t2 : Fin (k0_t2_loop v15).trips, ∀ (k0_h4 : k0_cond4 v15 k0_t2 = 1#1), ∀ a, (k0_off105 i v15 k0_t2) a + S1x1.size a ≤ S32x256.size a) ∧
  (∀ k0_t2 : Fin (k0_t2_loop v15).trips, ∀ (k0_h4 : k0_cond4 v15 k0_t2 = 1#1), ∀ a, (k0_off106 v15 k0_t2) a + S1x32x16x128.size a ≤ S2x256x16x128.size a) ∧
  (∀ k0_t2 : Fin (k0_t2_loop v15).trips, ∀ (k0_h4 : k0_cond4 v15 k0_t2 = 1#1), ∀ a, (k0_off108 v15 k0_t2) a + S1.size a ≤ S2.size a) ∧
  (∀ k0_t2 : Fin (k0_t2_loop v15).trips, ∀ (k0_h4 : k0_cond4 v15 k0_t2 = 1#1), ∀ a, (k0_off109 v15 k0_t2) a + S1x32x16x128.size a ≤ S2x256x16x128.size a) ∧
  (∀ k0_t2 : Fin (k0_t2_loop v15).trips, ∀ a, (k0_off110 v15 k0_t2) a + S1.size a ≤ S2.size a) ∧
  (∀ k0_t2 : Fin (k0_t2_loop v15).trips, ∀ a, (k0_off111 v15 k0_t2) a + S1x32x16x128.size a ≤ S2x256x16x128.size a) ∧
  (∀ k0_t2 : Fin (k0_t2_loop v15).trips, ∀ a, (k0_off112 v15 k0_t2) a + S1x32x16x128.size a ≤ S2x256x16x128.size a) ∧
  (∀ k0_t2 : Fin (k0_t2_loop v15).trips, ∀ a, (k0_off113 v15 k0_t2) a + S1x32x16x128.size a ≤ S2x256x16x128.size a) ∧
  (∀ k0_t2 : Fin (k0_t2_loop v15).trips, ∀ a, (k0_off114 v15 k0_t2) a + S1x32x16x128.size a ≤ S2x256x16x128.size a) ∧
  (∀ k0_t2 : Fin (k0_t2_loop v15).trips, ∀ a, (k0_off115 v15 k0_t2) a + S1x32x16x128.size a ≤ S2x256x16x128.size a) ∧
  (∀ k0_t2 : Fin (k0_t2_loop v15).trips, ∀ a, (k0_off116 v15 k0_t2) a + S1x32x16x128.size a ≤ S2x256x16x128.size a) ∧
  (∀ k0_t2 : Fin (k0_t2_loop v15).trips, ∀ a, (k0_off117 v15 k0_t2) a + S1x32x16x128.size a ≤ S2x256x16x128.size a) ∧
  (∀ k0_t2 : Fin (k0_t2_loop v15).trips, ∀ a, (k0_off118 v15 k0_t2) a + S1x32x16x128.size a ≤ S2x256x16x128.size a) ∧
  (∀ k0_t2 : Fin (k0_t2_loop v15).trips, ∀ a, (k0_off119 v15 k0_t2) a + S1x256x16x128.size a ≤ S2x256x16x128.size a)
def k0_chk9 (i : grid0.Coords) (v15 : BitVec 32) : Prop :=
  k0_chk9_0 i v15 ∧
  k0_chk9_1 i v15 ∧
  k0_chk9_2 i v15
theorem k0_t1_ok : ∀ (i : grid0.Coords) (v15 : BitVec 32) (k0_hw9 : k0_chk9 i v15), (k0_t1_loop v15).OK := fun i v15 k0_hw9 => k0_hw9.1.1
theorem k0_off18_inb : ∀ (i : grid0.Coords) (v15 : BitVec 32) (k0_hw9 : k0_chk9 i v15) (k0_t1 : Fin (k0_t1_loop v15).trips), ∀ (k0_h3 : k0_cond3 v15 k0_t1 = 1#1), ∀ a, (k0_off18 i v15 k0_t1) a + S1x1.size a ≤ S32x256.size a := fun i v15 k0_hw9 k0_t1 k0_h3 => k0_hw9.1.2.1 k0_t1 k0_h3
theorem k0_off19_inb : ∀ (i : grid0.Coords) (v15 : BitVec 32) (k0_hw9 : k0_chk9 i v15) (k0_t1 : Fin (k0_t1_loop v15).trips), ∀ (k0_h3 : k0_cond3 v15 k0_t1 = 1#1), ∀ a, (k0_off19 v15 k0_t1) a + S1.size a ≤ S2.size a := fun i v15 k0_hw9 k0_t1 k0_h3 => k0_hw9.1.2.2.1 k0_t1 k0_h3
theorem k0_off20_inb : ∀ (i : grid0.Coords) (v15 : BitVec 32) (k0_hw9 : k0_chk9 i v15) (k0_t1 : Fin (k0_t1_loop v15).trips), ∀ (k0_h3 : k0_cond3 v15 k0_t1 = 1#1), ∀ a, (k0_off20 v15 k0_t1) a + S1x32x16x128.size a ≤ S2x256x16x128.size a := fun i v15 k0_hw9 k0_t1 k0_h3 => k0_hw9.1.2.2.2.1 k0_t1 k0_h3
theorem k0_off22_inb : ∀ (i : grid0.Coords) (v15 : BitVec 32) (k0_hw9 : k0_chk9 i v15) (k0_t1 : Fin (k0_t1_loop v15).trips), ∀ (k0_h3 : k0_cond3 v15 k0_t1 = 1#1), ∀ a, (k0_off22 v15 k0_t1) a + S1.size a ≤ S2.size a := fun i v15 k0_hw9 k0_t1 k0_h3 => k0_hw9.1.2.2.2.2.1 k0_t1 k0_h3
theorem k0_off23_inb : ∀ (i : grid0.Coords) (v15 : BitVec 32) (k0_hw9 : k0_chk9 i v15) (k0_t1 : Fin (k0_t1_loop v15).trips), ∀ (k0_h3 : k0_cond3 v15 k0_t1 = 1#1), ∀ a, (k0_off23 v15 k0_t1) a + S1x32x16x128.size a ≤ S2x256x16x128.size a := fun i v15 k0_hw9 k0_t1 k0_h3 => k0_hw9.1.2.2.2.2.2.1 k0_t1 k0_h3
theorem k0_off24_inb : ∀ (i : grid0.Coords) (v15 : BitVec 32) (k0_hw9 : k0_chk9 i v15) (k0_t1 : Fin (k0_t1_loop v15).trips), ∀ (k0_h3 : k0_cond3 v15 k0_t1 = 1#1), ∀ a, (k0_off24 i v15 k0_t1) a + S1x1.size a ≤ S32x256.size a := fun i v15 k0_hw9 k0_t1 k0_h3 => k0_hw9.1.2.2.2.2.2.2.1 k0_t1 k0_h3
theorem k0_off25_inb : ∀ (i : grid0.Coords) (v15 : BitVec 32) (k0_hw9 : k0_chk9 i v15) (k0_t1 : Fin (k0_t1_loop v15).trips), ∀ (k0_h3 : k0_cond3 v15 k0_t1 = 1#1), ∀ a, (k0_off25 v15 k0_t1) a + S1x32x16x128.size a ≤ S2x256x16x128.size a := fun i v15 k0_hw9 k0_t1 k0_h3 => k0_hw9.1.2.2.2.2.2.2.2.1 k0_t1 k0_h3
theorem k0_off27_inb : ∀ (i : grid0.Coords) (v15 : BitVec 32) (k0_hw9 : k0_chk9 i v15) (k0_t1 : Fin (k0_t1_loop v15).trips), ∀ (k0_h3 : k0_cond3 v15 k0_t1 = 1#1), ∀ a, (k0_off27 v15 k0_t1) a + S1.size a ≤ S2.size a := fun i v15 k0_hw9 k0_t1 k0_h3 => k0_hw9.1.2.2.2.2.2.2.2.2.1 k0_t1 k0_h3
theorem k0_off28_inb : ∀ (i : grid0.Coords) (v15 : BitVec 32) (k0_hw9 : k0_chk9 i v15) (k0_t1 : Fin (k0_t1_loop v15).trips), ∀ (k0_h3 : k0_cond3 v15 k0_t1 = 1#1), ∀ a, (k0_off28 v15 k0_t1) a + S1x32x16x128.size a ≤ S2x256x16x128.size a := fun i v15 k0_hw9 k0_t1 k0_h3 => k0_hw9.1.2.2.2.2.2.2.2.2.2.1 k0_t1 k0_h3
theorem k0_off29_inb : ∀ (i : grid0.Coords) (v15 : BitVec 32) (k0_hw9 : k0_chk9 i v15) (k0_t1 : Fin (k0_t1_loop v15).trips), ∀ (k0_h3 : k0_cond3 v15 k0_t1 = 1#1), ∀ a, (k0_off29 i v15 k0_t1) a + S1x1.size a ≤ S32x256.size a := fun i v15 k0_hw9 k0_t1 k0_h3 => k0_hw9.1.2.2.2.2.2.2.2.2.2.2.1 k0_t1 k0_h3
theorem k0_off30_inb : ∀ (i : grid0.Coords) (v15 : BitVec 32) (k0_hw9 : k0_chk9 i v15) (k0_t1 : Fin (k0_t1_loop v15).trips), ∀ (k0_h3 : k0_cond3 v15 k0_t1 = 1#1), ∀ a, (k0_off30 v15 k0_t1) a + S1x32x16x128.size a ≤ S2x256x16x128.size a := fun i v15 k0_hw9 k0_t1 k0_h3 => k0_hw9.1.2.2.2.2.2.2.2.2.2.2.2.1 k0_t1 k0_h3
theorem k0_off32_inb : ∀ (i : grid0.Coords) (v15 : BitVec 32) (k0_hw9 : k0_chk9 i v15) (k0_t1 : Fin (k0_t1_loop v15).trips), ∀ (k0_h3 : k0_cond3 v15 k0_t1 = 1#1), ∀ a, (k0_off32 v15 k0_t1) a + S1.size a ≤ S2.size a := fun i v15 k0_hw9 k0_t1 k0_h3 => k0_hw9.1.2.2.2.2.2.2.2.2.2.2.2.2.1 k0_t1 k0_h3
theorem k0_off33_inb : ∀ (i : grid0.Coords) (v15 : BitVec 32) (k0_hw9 : k0_chk9 i v15) (k0_t1 : Fin (k0_t1_loop v15).trips), ∀ (k0_h3 : k0_cond3 v15 k0_t1 = 1#1), ∀ a, (k0_off33 v15 k0_t1) a + S1x32x16x128.size a ≤ S2x256x16x128.size a := fun i v15 k0_hw9 k0_t1 k0_h3 => k0_hw9.1.2.2.2.2.2.2.2.2.2.2.2.2.2.1 k0_t1 k0_h3
theorem k0_off34_inb : ∀ (i : grid0.Coords) (v15 : BitVec 32) (k0_hw9 : k0_chk9 i v15) (k0_t1 : Fin (k0_t1_loop v15).trips), ∀ (k0_h3 : k0_cond3 v15 k0_t1 = 1#1), ∀ a, (k0_off34 i v15 k0_t1) a + S1x1.size a ≤ S32x256.size a := fun i v15 k0_hw9 k0_t1 k0_h3 => k0_hw9.1.2.2.2.2.2.2.2.2.2.2.2.2.2.2.1 k0_t1 k0_h3
theorem k0_off35_inb : ∀ (i : grid0.Coords) (v15 : BitVec 32) (k0_hw9 : k0_chk9 i v15) (k0_t1 : Fin (k0_t1_loop v15).trips), ∀ (k0_h3 : k0_cond3 v15 k0_t1 = 1#1), ∀ a, (k0_off35 v15 k0_t1) a + S1x32x16x128.size a ≤ S2x256x16x128.size a := fun i v15 k0_hw9 k0_t1 k0_h3 => k0_hw9.1.2.2.2.2.2.2.2.2.2.2.2.2.2.2.2.1 k0_t1 k0_h3
theorem k0_off37_inb : ∀ (i : grid0.Coords) (v15 : BitVec 32) (k0_hw9 : k0_chk9 i v15) (k0_t1 : Fin (k0_t1_loop v15).trips), ∀ (k0_h3 : k0_cond3 v15 k0_t1 = 1#1), ∀ a, (k0_off37 v15 k0_t1) a + S1.size a ≤ S2.size a := fun i v15 k0_hw9 k0_t1 k0_h3 => k0_hw9.1.2.2.2.2.2.2.2.2.2.2.2.2.2.2.2.2.1 k0_t1 k0_h3
theorem k0_off38_inb : ∀ (i : grid0.Coords) (v15 : BitVec 32) (k0_hw9 : k0_chk9 i v15) (k0_t1 : Fin (k0_t1_loop v15).trips), ∀ (k0_h3 : k0_cond3 v15 k0_t1 = 1#1), ∀ a, (k0_off38 v15 k0_t1) a + S1x32x16x128.size a ≤ S2x256x16x128.size a := fun i v15 k0_hw9 k0_t1 k0_h3 => k0_hw9.1.2.2.2.2.2.2.2.2.2.2.2.2.2.2.2.2.2.1 k0_t1 k0_h3
theorem k0_off39_inb : ∀ (i : grid0.Coords) (v15 : BitVec 32) (k0_hw9 : k0_chk9 i v15) (k0_t1 : Fin (k0_t1_loop v15).trips), ∀ (k0_h3 : k0_cond3 v15 k0_t1 = 1#1), ∀ a, (k0_off39 i v15 k0_t1) a + S1x1.size a ≤ S32x256.size a := fun i v15 k0_hw9 k0_t1 k0_h3 => k0_hw9.1.2.2.2.2.2.2.2.2.2.2.2.2.2.2.2.2.2.2.1 k0_t1 k0_h3
theorem k0_off40_inb : ∀ (i : grid0.Coords) (v15 : BitVec 32) (k0_hw9 : k0_chk9 i v15) (k0_t1 : Fin (k0_t1_loop v15).trips), ∀ (k0_h3 : k0_cond3 v15 k0_t1 = 1#1), ∀ a, (k0_off40 v15 k0_t1) a + S1x32x16x128.size a ≤ S2x256x16x128.size a := fun i v15 k0_hw9 k0_t1 k0_h3 => k0_hw9.1.2.2.2.2.2.2.2.2.2.2.2.2.2.2.2.2.2.2.2.1 k0_t1 k0_h3
theorem k0_off42_inb : ∀ (i : grid0.Coords) (v15 : BitVec 32) (k0_hw9 : k0_chk9 i v15) (k0_t1 : Fin (k0_t1_loop v15).trips), ∀ (k0_h3 : k0_cond3 v15 k0_t1 = 1#1), ∀ a, (k0_off42 v15 k0_t1) a + S1.size a ≤ S2.size a := fun i v15 k0_hw9 k0_t1 k0_h3 => k0_hw9.1.2.2.2.2.2.2.2.2.2.2.2.2.2.2.2.2.2.2.2.2.1 k0_t1 k0_h3
theorem k0_off43_inb : ∀ (i : grid0.Coords) (v15 : BitVec 32) (k0_hw9 : k0_chk9 i v15) (k0_t1 : Fin (k0_t1_loop v15).trips), ∀ (k0_h3 : k0_cond3 v15 k0_t1 = 1#1), ∀ a, (k0_off43 v15 k0_t1) a + S1x32x16x128.size a ≤ S2x256x16x128.size a := fun i v15 k0_hw9 k0_t1 k0_h3 => k0_hw9.1.2.2.2.2.2.2.2.2.2.2.2.2.2.2.2.2.2.2.2.2.2.1 k0_t1 k0_h3
theorem k0_off44_inb : ∀ (i : grid0.Coords) (v15 : BitVec 32) (k0_hw9 : k0_chk9 i v15) (k0_t1 : Fin (k0_t1_loop v15).trips), ∀ (k0_h3 : k0_cond3 v15 k0_t1 = 1#1), ∀ a, (k0_off44 i v15 k0_t1) a + S1x1.size a ≤ S32x256.size a := fun i v15 k0_hw9 k0_t1 k0_h3 => k0_hw9.1.2.2.2.2.2.2.2.2.2.2.2.2.2.2.2.2.2.2.2.2.2.2.1 k0_t1 k0_h3
theorem k0_off45_inb : ∀ (i : grid0.Coords) (v15 : BitVec 32) (k0_hw9 : k0_chk9 i v15) (k0_t1 : Fin (k0_t1_loop v15).trips), ∀ (k0_h3 : k0_cond3 v15 k0_t1 = 1#1), ∀ a, (k0_off45 v15 k0_t1) a + S1x32x16x128.size a ≤ S2x256x16x128.size a := fun i v15 k0_hw9 k0_t1 k0_h3 => k0_hw9.1.2.2.2.2.2.2.2.2.2.2.2.2.2.2.2.2.2.2.2.2.2.2.2.1 k0_t1 k0_h3
theorem k0_off47_inb : ∀ (i : grid0.Coords) (v15 : BitVec 32) (k0_hw9 : k0_chk9 i v15) (k0_t1 : Fin (k0_t1_loop v15).trips), ∀ (k0_h3 : k0_cond3 v15 k0_t1 = 1#1), ∀ a, (k0_off47 v15 k0_t1) a + S1.size a ≤ S2.size a := fun i v15 k0_hw9 k0_t1 k0_h3 => k0_hw9.1.2.2.2.2.2.2.2.2.2.2.2.2.2.2.2.2.2.2.2.2.2.2.2.2.1 k0_t1 k0_h3
theorem k0_off48_inb : ∀ (i : grid0.Coords) (v15 : BitVec 32) (k0_hw9 : k0_chk9 i v15) (k0_t1 : Fin (k0_t1_loop v15).trips), ∀ (k0_h3 : k0_cond3 v15 k0_t1 = 1#1), ∀ a, (k0_off48 v15 k0_t1) a + S1x32x16x128.size a ≤ S2x256x16x128.size a := fun i v15 k0_hw9 k0_t1 k0_h3 => k0_hw9.1.2.2.2.2.2.2.2.2.2.2.2.2.2.2.2.2.2.2.2.2.2.2.2.2.2.1 k0_t1 k0_h3
theorem k0_off49_inb : ∀ (i : grid0.Coords) (v15 : BitVec 32) (k0_hw9 : k0_chk9 i v15) (k0_t1 : Fin (k0_t1_loop v15).trips), ∀ (k0_h3 : k0_cond3 v15 k0_t1 = 1#1), ∀ a, (k0_off49 i v15 k0_t1) a + S1x1.size a ≤ S32x256.size a := fun i v15 k0_hw9 k0_t1 k0_h3 => k0_hw9.1.2.2.2.2.2.2.2.2.2.2.2.2.2.2.2.2.2.2.2.2.2.2.2.2.2.2.1 k0_t1 k0_h3
theorem k0_off50_inb : ∀ (i : grid0.Coords) (v15 : BitVec 32) (k0_hw9 : k0_chk9 i v15) (k0_t1 : Fin (k0_t1_loop v15).trips), ∀ (k0_h3 : k0_cond3 v15 k0_t1 = 1#1), ∀ a, (k0_off50 v15 k0_t1) a + S1x32x16x128.size a ≤ S2x256x16x128.size a := fun i v15 k0_hw9 k0_t1 k0_h3 => k0_hw9.1.2.2.2.2.2.2.2.2.2.2.2.2.2.2.2.2.2.2.2.2.2.2.2.2.2.2.2.1 k0_t1 k0_h3
theorem k0_off52_inb : ∀ (i : grid0.Coords) (v15 : BitVec 32) (k0_hw9 : k0_chk9 i v15) (k0_t1 : Fin (k0_t1_loop v15).trips), ∀ (k0_h3 : k0_cond3 v15 k0_t1 = 1#1), ∀ a, (k0_off52 v15 k0_t1) a + S1.size a ≤ S2.size a := fun i v15 k0_hw9 k0_t1 k0_h3 => k0_hw9.1.2.2.2.2.2.2.2.2.2.2.2.2.2.2.2.2.2.2.2.2.2.2.2.2.2.2.2.2.1 k0_t1 k0_h3
theorem k0_off53_inb : ∀ (i : grid0.Coords) (v15 : BitVec 32) (k0_hw9 : k0_chk9 i v15) (k0_t1 : Fin (k0_t1_loop v15).trips), ∀ (k0_h3 : k0_cond3 v15 k0_t1 = 1#1), ∀ a, (k0_off53 v15 k0_t1) a + S1x32x16x128.size a ≤ S2x256x16x128.size a := fun i v15 k0_hw9 k0_t1 k0_h3 => k0_hw9.1.2.2.2.2.2.2.2.2.2.2.2.2.2.2.2.2.2.2.2.2.2.2.2.2.2.2.2.2.2.1 k0_t1 k0_h3
theorem k0_off54_inb : ∀ (i : grid0.Coords) (v15 : BitVec 32) (k0_hw9 : k0_chk9 i v15) (k0_t1 : Fin (k0_t1_loop v15).trips), ∀ (k0_h3 : k0_cond3 v15 k0_t1 = 1#1), ∀ a, (k0_off54 i v15 k0_t1) a + S1x1.size a ≤ S32x256.size a := fun i v15 k0_hw9 k0_t1 k0_h3 => k0_hw9.1.2.2.2.2.2.2.2.2.2.2.2.2.2.2.2.2.2.2.2.2.2.2.2.2.2.2.2.2.2.2.1 k0_t1 k0_h3
theorem k0_off55_inb : ∀ (i : grid0.Coords) (v15 : BitVec 32) (k0_hw9 : k0_chk9 i v15) (k0_t1 : Fin (k0_t1_loop v15).trips), ∀ (k0_h3 : k0_cond3 v15 k0_t1 = 1#1), ∀ a, (k0_off55 v15 k0_t1) a + S1x32x16x128.size a ≤ S2x256x16x128.size a := fun i v15 k0_hw9 k0_t1 k0_h3 => k0_hw9.1.2.2.2.2.2.2.2.2.2.2.2.2.2.2.2.2.2.2.2.2.2.2.2.2.2.2.2.2.2.2.2 k0_t1 k0_h3
theorem k0_off57_inb : ∀ (i : grid0.Coords) (v15 : BitVec 32) (k0_hw9 : k0_chk9 i v15) (k0_t1 : Fin (k0_t1_loop v15).trips), ∀ (k0_h3 : k0_cond3 v15 k0_t1 = 1#1), ∀ a, (k0_off57 v15 k0_t1) a + S1.size a ≤ S2.size a := fun i v15 k0_hw9 k0_t1 k0_h3 => k0_hw9.2.1.1 k0_t1 k0_h3
theorem k0_off58_inb : ∀ (i : grid0.Coords) (v15 : BitVec 32) (k0_hw9 : k0_chk9 i v15) (k0_t1 : Fin (k0_t1_loop v15).trips), ∀ (k0_h3 : k0_cond3 v15 k0_t1 = 1#1), ∀ a, (k0_off58 v15 k0_t1) a + S1x32x16x128.size a ≤ S2x256x16x128.size a := fun i v15 k0_hw9 k0_t1 k0_h3 => k0_hw9.2.1.2.1 k0_t1 k0_h3
theorem k0_off59_inb : ∀ (i : grid0.Coords) (v15 : BitVec 32) (k0_hw9 : k0_chk9 i v15) (k0_t1 : Fin (k0_t1_loop v15).trips), ∀ a, (k0_off59 v15 k0_t1) a + S1.size a ≤ S2.size a := fun i v15 k0_hw9 k0_t1 => k0_hw9.2.1.2.2.1 k0_t1
theorem k0_off60_inb : ∀ (i : grid0.Coords) (v15 : BitVec 32) (k0_hw9 : k0_chk9 i v15) (k0_t1 : Fin (k0_t1_loop v15).trips), ∀ a, (k0_off60 v15 k0_t1) a + S1x32x16x128.size a ≤ S2x256x16x128.size a := fun i v15 k0_hw9 k0_t1 => k0_hw9.2.1.2.2.2.1 k0_t1
theorem k0_off61_inb : ∀ (i : grid0.Coords) (v15 : BitVec 32) (k0_hw9 : k0_chk9 i v15) (k0_t1 : Fin (k0_t1_loop v15).trips), ∀ a, (k0_off61 v15 k0_t1) a + S1x32x16x128.size a ≤ S2x256x16x128.size a := fun i v15 k0_hw9 k0_t1 => k0_hw9.2.1.2.2.2.2.1 k0_t1
theorem k0_off62_inb : ∀ (i : grid0.Coords) (v15 : BitVec 32) (k0_hw9 : k0_chk9 i v15) (k0_t1 : Fin (k0_t1_loop v15).trips), ∀ a, (k0_off62 v15 k0_t1) a + S1x32x16x128.size a ≤ S2x256x16x128.size a := fun i v15 k0_hw9 k0_t1 => k0_hw9.2.1.2.2.2.2.2.1 k0_t1
theorem k0_off63_inb : ∀ (i : grid0.Coords) (v15 : BitVec 32) (k0_hw9 : k0_chk9 i v15) (k0_t1 : Fin (k0_t1_loop v15).trips), ∀ a, (k0_off63 v15 k0_t1) a + S1x32x16x128.size a ≤ S2x256x16x128.size a := fun i v15 k0_hw9 k0_t1 => k0_hw9.2.1.2.2.2.2.2.2.1 k0_t1
theorem k0_off64_inb : ∀ (i : grid0.Coords) (v15 : BitVec 32) (k0_hw9 : k0_chk9 i v15) (k0_t1 : Fin (k0_t1_loop v15).trips), ∀ a, (k0_off64 v15 k0_t1) a + S1x32x16x128.size a ≤ S2x256x16x128.size a := fun i v15 k0_hw9 k0_t1 => k0_hw9.2.1.2.2.2.2.2.2.2.1 k0_t1
theorem k0_off65_inb : ∀ (i : grid0.Coords) (v15 : BitVec 32) (k0_hw9 : k0_chk9 i v15) (k0_t1 : Fin (k0_t1_loop v15).trips), ∀ a, (k0_off65 v15 k0_t1) a + S1x32x16x128.size a ≤ S2x256x16x128.size a := fun i v15 k0_hw9 k0_t1 => k0_hw9.2.1.2.2.2.2.2.2.2.2.1 k0_t1
theorem k0_off66_inb : ∀ (i : grid0.Coords) (v15 : BitVec 32) (k0_hw9 : k0_chk9 i v15) (k0_t1 : Fin (k0_t1_loop v15).trips), ∀ a, (k0_off66 v15 k0_t1) a + S1x32x16x128.size a ≤ S2x256x16x128.size a := fun i v15 k0_hw9 k0_t1 => k0_hw9.2.1.2.2.2.2.2.2.2.2.2.1 k0_t1
theorem k0_off67_inb : ∀ (i : grid0.Coords) (v15 : BitVec 32) (k0_hw9 : k0_chk9 i v15) (k0_t1 : Fin (k0_t1_loop v15).trips), ∀ a, (k0_off67 v15 k0_t1) a + S1x32x16x128.size a ≤ S2x256x16x128.size a := fun i v15 k0_hw9 k0_t1 => k0_hw9.2.1.2.2.2.2.2.2.2.2.2.2.1 k0_t1
theorem k0_off68_inb : ∀ (i : grid0.Coords) (v15 : BitVec 32) (k0_hw9 : k0_chk9 i v15) (k0_t1 : Fin (k0_t1_loop v15).trips), ∀ a, (k0_off68 v15 k0_t1) a + S1x256x16x128.size a ≤ S2x256x16x128.size a := fun i v15 k0_hw9 k0_t1 => k0_hw9.2.1.2.2.2.2.2.2.2.2.2.2.2.1 k0_t1
theorem k0_t2_ok : ∀ (i : grid0.Coords) (v15 : BitVec 32) (k0_hw9 : k0_chk9 i v15), (k0_t2_loop v15).OK := fun i v15 k0_hw9 => k0_hw9.2.1.2.2.2.2.2.2.2.2.2.2.2.2.1
theorem k0_off69_inb : ∀ (i : grid0.Coords) (v15 : BitVec 32) (k0_hw9 : k0_chk9 i v15) (k0_t2 : Fin (k0_t2_loop v15).trips), ∀ (k0_h4 : k0_cond4 v15 k0_t2 = 1#1), ∀ a, (k0_off69 i v15 k0_t2) a + S1x1.size a ≤ S32x256.size a := fun i v15 k0_hw9 k0_t2 k0_h4 => k0_hw9.2.1.2.2.2.2.2.2.2.2.2.2.2.2.2.1 k0_t2 k0_h4
theorem k0_off70_inb : ∀ (i : grid0.Coords) (v15 : BitVec 32) (k0_hw9 : k0_chk9 i v15) (k0_t2 : Fin (k0_t2_loop v15).trips), ∀ (k0_h4 : k0_cond4 v15 k0_t2 = 1#1), ∀ a, (k0_off70 v15 k0_t2) a + S1.size a ≤ S2.size a := fun i v15 k0_hw9 k0_t2 k0_h4 => k0_hw9.2.1.2.2.2.2.2.2.2.2.2.2.2.2.2.2.1 k0_t2 k0_h4
theorem k0_off71_inb : ∀ (i : grid0.Coords) (v15 : BitVec 32) (k0_hw9 : k0_chk9 i v15) (k0_t2 : Fin (k0_t2_loop v15).trips), ∀ (k0_h4 : k0_cond4 v15 k0_t2 = 1#1), ∀ a, (k0_off71 v15 k0_t2) a + S1x32x16x128.size a ≤ S2x256x16x128.size a := fun i v15 k0_hw9 k0_t2 k0_h4 => k0_hw9.2.1.2.2.2.2.2.2.2.2.2.2.2.2.2.2.2.1 k0_t2 k0_h4
theorem k0_off73_inb : ∀ (i : grid0.Coords) (v15 : BitVec 32) (k0_hw9 : k0_chk9 i v15) (k0_t2 : Fin (k0_t2_loop v15).trips), ∀ (k0_h4 : k0_cond4 v15 k0_t2 = 1#1), ∀ a, (k0_off73 v15 k0_t2) a + S1.size a ≤ S2.size a := fun i v15 k0_hw9 k0_t2 k0_h4 => k0_hw9.2.1.2.2.2.2.2.2.2.2.2.2.2.2.2.2.2.2.1 k0_t2 k0_h4
theorem k0_off74_inb : ∀ (i : grid0.Coords) (v15 : BitVec 32) (k0_hw9 : k0_chk9 i v15) (k0_t2 : Fin (k0_t2_loop v15).trips), ∀ (k0_h4 : k0_cond4 v15 k0_t2 = 1#1), ∀ a, (k0_off74 v15 k0_t2) a + S1x32x16x128.size a ≤ S2x256x16x128.size a := fun i v15 k0_hw9 k0_t2 k0_h4 => k0_hw9.2.1.2.2.2.2.2.2.2.2.2.2.2.2.2.2.2.2.2.1 k0_t2 k0_h4
theorem k0_off75_inb : ∀ (i : grid0.Coords) (v15 : BitVec 32) (k0_hw9 : k0_chk9 i v15) (k0_t2 : Fin (k0_t2_loop v15).trips), ∀ (k0_h4 : k0_cond4 v15 k0_t2 = 1#1), ∀ a, (k0_off75 i v15 k0_t2) a + S1x1.size a ≤ S32x256.size a := fun i v15 k0_hw9 k0_t2 k0_h4 => k0_hw9.2.1.2.2.2.2.2.2.2.2.2.2.2.2.2.2.2.2.2.2.1 k0_t2 k0_h4
theorem k0_off76_inb : ∀ (i : grid0.Coords) (v15 : BitVec 32) (k0_hw9 : k0_chk9 i v15) (k0_t2 : Fin (k0_t2_loop v15).trips), ∀ (k0_h4 : k0_cond4 v15 k0_t2 = 1#1), ∀ a, (k0_off76 v15 k0_t2) a + S1x32x16x128.size a ≤ S2x256x16x128.size a := fun i v15 k0_hw9 k0_t2 k0_h4 => k0_hw9.2.1.2.2.2.2.2.2.2.2.2.2.2.2.2.2.2.2.2.2.2.1 k0_t2 k0_h4
theorem k0_off78_inb : ∀ (i : grid0.Coords) (v15 : BitVec 32) (k0_hw9 : k0_chk9 i v15) (k0_t2 : Fin (k0_t2_loop v15).trips), ∀ (k0_h4 : k0_cond4 v15 k0_t2 = 1#1), ∀ a, (k0_off78 v15 k0_t2) a + S1.size a ≤ S2.size a := fun i v15 k0_hw9 k0_t2 k0_h4 => k0_hw9.2.1.2.2.2.2.2.2.2.2.2.2.2.2.2.2.2.2.2.2.2.2.1 k0_t2 k0_h4
theorem k0_off79_inb : ∀ (i : grid0.Coords) (v15 : BitVec 32) (k0_hw9 : k0_chk9 i v15) (k0_t2 : Fin (k0_t2_loop v15).trips), ∀ (k0_h4 : k0_cond4 v15 k0_t2 = 1#1), ∀ a, (k0_off79 v15 k0_t2) a + S1x32x16x128.size a ≤ S2x256x16x128.size a := fun i v15 k0_hw9 k0_t2 k0_h4 => k0_hw9.2.1.2.2.2.2.2.2.2.2.2.2.2.2.2.2.2.2.2.2.2.2.2.1 k0_t2 k0_h4
theorem k0_off80_inb : ∀ (i : grid0.Coords) (v15 : BitVec 32) (k0_hw9 : k0_chk9 i v15) (k0_t2 : Fin (k0_t2_loop v15).trips), ∀ (k0_h4 : k0_cond4 v15 k0_t2 = 1#1), ∀ a, (k0_off80 i v15 k0_t2) a + S1x1.size a ≤ S32x256.size a := fun i v15 k0_hw9 k0_t2 k0_h4 => k0_hw9.2.1.2.2.2.2.2.2.2.2.2.2.2.2.2.2.2.2.2.2.2.2.2.2.1 k0_t2 k0_h4
theorem k0_off81_inb : ∀ (i : grid0.Coords) (v15 : BitVec 32) (k0_hw9 : k0_chk9 i v15) (k0_t2 : Fin (k0_t2_loop v15).trips), ∀ (k0_h4 : k0_cond4 v15 k0_t2 = 1#1), ∀ a, (k0_off81 v15 k0_t2) a + S1x32x16x128.size a ≤ S2x256x16x128.size a := fun i v15 k0_hw9 k0_t2 k0_h4 => k0_hw9.2.1.2.2.2.2.2.2.2.2.2.2.2.2.2.2.2.2.2.2.2.2.2.2.2.1 k0_t2 k0_h4
theorem k0_off83_inb : ∀ (i : grid0.Coords) (v15 : BitVec 32) (k0_hw9 : k0_chk9 i v15) (k0_t2 : Fin (k0_t2_loop v15).trips), ∀ (k0_h4 : k0_cond4 v15 k0_t2 = 1#1), ∀ a, (k0_off83 v15 k0_t2) a + S1.size a ≤ S2.size a := fun i v15 k0_hw9 k0_t2 k0_h4 => k0_hw9.2.1.2.2.2.2.2.2.2.2.2.2.2.2.2.2.2.2.2.2.2.2.2.2.2.2.1 k0_t2 k0_h4
theorem k0_off84_inb : ∀ (i : grid0.Coords) (v15 : BitVec 32) (k0_hw9 : k0_chk9 i v15) (k0_t2 : Fin (k0_t2_loop v15).trips), ∀ (k0_h4 : k0_cond4 v15 k0_t2 = 1#1), ∀ a, (k0_off84 v15 k0_t2) a + S1x32x16x128.size a ≤ S2x256x16x128.size a := fun i v15 k0_hw9 k0_t2 k0_h4 => k0_hw9.2.1.2.2.2.2.2.2.2.2.2.2.2.2.2.2.2.2.2.2.2.2.2.2.2.2.2.1 k0_t2 k0_h4
theorem k0_off85_inb : ∀ (i : grid0.Coords) (v15 : BitVec 32) (k0_hw9 : k0_chk9 i v15) (k0_t2 : Fin (k0_t2_loop v15).trips), ∀ (k0_h4 : k0_cond4 v15 k0_t2 = 1#1), ∀ a, (k0_off85 i v15 k0_t2) a + S1x1.size a ≤ S32x256.size a := fun i v15 k0_hw9 k0_t2 k0_h4 => k0_hw9.2.1.2.2.2.2.2.2.2.2.2.2.2.2.2.2.2.2.2.2.2.2.2.2.2.2.2.2.1 k0_t2 k0_h4
theorem k0_off86_inb : ∀ (i : grid0.Coords) (v15 : BitVec 32) (k0_hw9 : k0_chk9 i v15) (k0_t2 : Fin (k0_t2_loop v15).trips), ∀ (k0_h4 : k0_cond4 v15 k0_t2 = 1#1), ∀ a, (k0_off86 v15 k0_t2) a + S1x32x16x128.size a ≤ S2x256x16x128.size a := fun i v15 k0_hw9 k0_t2 k0_h4 => k0_hw9.2.1.2.2.2.2.2.2.2.2.2.2.2.2.2.2.2.2.2.2.2.2.2.2.2.2.2.2.2.1 k0_t2 k0_h4
theorem k0_off88_inb : ∀ (i : grid0.Coords) (v15 : BitVec 32) (k0_hw9 : k0_chk9 i v15) (k0_t2 : Fin (k0_t2_loop v15).trips), ∀ (k0_h4 : k0_cond4 v15 k0_t2 = 1#1), ∀ a, (k0_off88 v15 k0_t2) a + S1.size a ≤ S2.size a := fun i v15 k0_hw9 k0_t2 k0_h4 => k0_hw9.2.1.2.2.2.2.2.2.2.2.2.2.2.2.2.2.2.2.2.2.2.2.2.2.2.2.2.2.2.2.1 k0_t2 k0_h4
theorem k0_off89_inb : ∀ (i : grid0.Coords) (v15 : BitVec 32) (k0_hw9 : k0_chk9 i v15) (k0_t2 : Fin (k0_t2_loop v15).trips), ∀ (k0_h4 : k0_cond4 v15 k0_t2 = 1#1), ∀ a, (k0_off89 v15 k0_t2) a + S1x32x16x128.size a ≤ S2x256x16x128.size a := fun i v15 k0_hw9 k0_t2 k0_h4 => k0_hw9.2.1.2.2.2.2.2.2.2.2.2.2.2.2.2.2.2.2.2.2.2.2.2.2.2.2.2.2.2.2.2.1 k0_t2 k0_h4
theorem k0_off90_inb : ∀ (i : grid0.Coords) (v15 : BitVec 32) (k0_hw9 : k0_chk9 i v15) (k0_t2 : Fin (k0_t2_loop v15).trips), ∀ (k0_h4 : k0_cond4 v15 k0_t2 = 1#1), ∀ a, (k0_off90 i v15 k0_t2) a + S1x1.size a ≤ S32x256.size a := fun i v15 k0_hw9 k0_t2 k0_h4 => k0_hw9.2.1.2.2.2.2.2.2.2.2.2.2.2.2.2.2.2.2.2.2.2.2.2.2.2.2.2.2.2.2.2.2.1 k0_t2 k0_h4
theorem k0_off91_inb : ∀ (i : grid0.Coords) (v15 : BitVec 32) (k0_hw9 : k0_chk9 i v15) (k0_t2 : Fin (k0_t2_loop v15).trips), ∀ (k0_h4 : k0_cond4 v15 k0_t2 = 1#1), ∀ a, (k0_off91 v15 k0_t2) a + S1x32x16x128.size a ≤ S2x256x16x128.size a := fun i v15 k0_hw9 k0_t2 k0_h4 => k0_hw9.2.1.2.2.2.2.2.2.2.2.2.2.2.2.2.2.2.2.2.2.2.2.2.2.2.2.2.2.2.2.2.2.2 k0_t2 k0_h4
theorem k0_off93_inb : ∀ (i : grid0.Coords) (v15 : BitVec 32) (k0_hw9 : k0_chk9 i v15) (k0_t2 : Fin (k0_t2_loop v15).trips), ∀ (k0_h4 : k0_cond4 v15 k0_t2 = 1#1), ∀ a, (k0_off93 v15 k0_t2) a + S1.size a ≤ S2.size a := fun i v15 k0_hw9 k0_t2 k0_h4 => k0_hw9.2.2.1 k0_t2 k0_h4
theorem k0_off94_inb : ∀ (i : grid0.Coords) (v15 : BitVec 32) (k0_hw9 : k0_chk9 i v15) (k0_t2 : Fin (k0_t2_loop v15).trips), ∀ (k0_h4 : k0_cond4 v15 k0_t2 = 1#1), ∀ a, (k0_off94 v15 k0_t2) a + S1x32x16x128.size a ≤ S2x256x16x128.size a := fun i v15 k0_hw9 k0_t2 k0_h4 => k0_hw9.2.2.2.1 k0_t2 k0_h4
theorem k0_off95_inb : ∀ (i : grid0.Coords) (v15 : BitVec 32) (k0_hw9 : k0_chk9 i v15) (k0_t2 : Fin (k0_t2_loop v15).trips), ∀ (k0_h4 : k0_cond4 v15 k0_t2 = 1#1), ∀ a, (k0_off95 i v15 k0_t2) a + S1x1.size a ≤ S32x256.size a := fun i v15 k0_hw9 k0_t2 k0_h4 => k0_hw9.2.2.2.2.1 k0_t2 k0_h4
theorem k0_off96_inb : ∀ (i : grid0.Coords) (v15 : BitVec 32) (k0_hw9 : k0_chk9 i v15) (k0_t2 : Fin (k0_t2_loop v15).trips), ∀ (k0_h4 : k0_cond4 v15 k0_t2 = 1#1), ∀ a, (k0_off96 v15 k0_t2) a + S1x32x16x128.size a ≤ S2x256x16x128.size a := fun i v15 k0_hw9 k0_t2 k0_h4 => k0_hw9.2.2.2.2.2.1 k0_t2 k0_h4
theorem k0_off98_inb : ∀ (i : grid0.Coords) (v15 : BitVec 32) (k0_hw9 : k0_chk9 i v15) (k0_t2 : Fin (k0_t2_loop v15).trips), ∀ (k0_h4 : k0_cond4 v15 k0_t2 = 1#1), ∀ a, (k0_off98 v15 k0_t2) a + S1.size a ≤ S2.size a := fun i v15 k0_hw9 k0_t2 k0_h4 => k0_hw9.2.2.2.2.2.2.1 k0_t2 k0_h4
theorem k0_off99_inb : ∀ (i : grid0.Coords) (v15 : BitVec 32) (k0_hw9 : k0_chk9 i v15) (k0_t2 : Fin (k0_t2_loop v15).trips), ∀ (k0_h4 : k0_cond4 v15 k0_t2 = 1#1), ∀ a, (k0_off99 v15 k0_t2) a + S1x32x16x128.size a ≤ S2x256x16x128.size a := fun i v15 k0_hw9 k0_t2 k0_h4 => k0_hw9.2.2.2.2.2.2.2.1 k0_t2 k0_h4
theorem k0_off100_inb : ∀ (i : grid0.Coords) (v15 : BitVec 32) (k0_hw9 : k0_chk9 i v15) (k0_t2 : Fin (k0_t2_loop v15).trips), ∀ (k0_h4 : k0_cond4 v15 k0_t2 = 1#1), ∀ a, (k0_off100 i v15 k0_t2) a + S1x1.size a ≤ S32x256.size a := fun i v15 k0_hw9 k0_t2 k0_h4 => k0_hw9.2.2.2.2.2.2.2.2.1 k0_t2 k0_h4
theorem k0_off101_inb : ∀ (i : grid0.Coords) (v15 : BitVec 32) (k0_hw9 : k0_chk9 i v15) (k0_t2 : Fin (k0_t2_loop v15).trips), ∀ (k0_h4 : k0_cond4 v15 k0_t2 = 1#1), ∀ a, (k0_off101 v15 k0_t2) a + S1x32x16x128.size a ≤ S2x256x16x128.size a := fun i v15 k0_hw9 k0_t2 k0_h4 => k0_hw9.2.2.2.2.2.2.2.2.2.1 k0_t2 k0_h4
theorem k0_off103_inb : ∀ (i : grid0.Coords) (v15 : BitVec 32) (k0_hw9 : k0_chk9 i v15) (k0_t2 : Fin (k0_t2_loop v15).trips), ∀ (k0_h4 : k0_cond4 v15 k0_t2 = 1#1), ∀ a, (k0_off103 v15 k0_t2) a + S1.size a ≤ S2.size a := fun i v15 k0_hw9 k0_t2 k0_h4 => k0_hw9.2.2.2.2.2.2.2.2.2.2.1 k0_t2 k0_h4
theorem k0_off104_inb : ∀ (i : grid0.Coords) (v15 : BitVec 32) (k0_hw9 : k0_chk9 i v15) (k0_t2 : Fin (k0_t2_loop v15).trips), ∀ (k0_h4 : k0_cond4 v15 k0_t2 = 1#1), ∀ a, (k0_off104 v15 k0_t2) a + S1x32x16x128.size a ≤ S2x256x16x128.size a := fun i v15 k0_hw9 k0_t2 k0_h4 => k0_hw9.2.2.2.2.2.2.2.2.2.2.2.1 k0_t2 k0_h4
theorem k0_off105_inb : ∀ (i : grid0.Coords) (v15 : BitVec 32) (k0_hw9 : k0_chk9 i v15) (k0_t2 : Fin (k0_t2_loop v15).trips), ∀ (k0_h4 : k0_cond4 v15 k0_t2 = 1#1), ∀ a, (k0_off105 i v15 k0_t2) a + S1x1.size a ≤ S32x256.size a := fun i v15 k0_hw9 k0_t2 k0_h4 => k0_hw9.2.2.2.2.2.2.2.2.2.2.2.2.1 k0_t2 k0_h4
theorem k0_off106_inb : ∀ (i : grid0.Coords) (v15 : BitVec 32) (k0_hw9 : k0_chk9 i v15) (k0_t2 : Fin (k0_t2_loop v15).trips), ∀ (k0_h4 : k0_cond4 v15 k0_t2 = 1#1), ∀ a, (k0_off106 v15 k0_t2) a + S1x32x16x128.size a ≤ S2x256x16x128.size a := fun i v15 k0_hw9 k0_t2 k0_h4 => k0_hw9.2.2.2.2.2.2.2.2.2.2.2.2.2.1 k0_t2 k0_h4
theorem k0_off108_inb : ∀ (i : grid0.Coords) (v15 : BitVec 32) (k0_hw9 : k0_chk9 i v15) (k0_t2 : Fin (k0_t2_loop v15).trips), ∀ (k0_h4 : k0_cond4 v15 k0_t2 = 1#1), ∀ a, (k0_off108 v15 k0_t2) a + S1.size a ≤ S2.size a := fun i v15 k0_hw9 k0_t2 k0_h4 => k0_hw9.2.2.2.2.2.2.2.2.2.2.2.2.2.2.1 k0_t2 k0_h4
theorem k0_off109_inb : ∀ (i : grid0.Coords) (v15 : BitVec 32) (k0_hw9 : k0_chk9 i v15) (k0_t2 : Fin (k0_t2_loop v15).trips), ∀ (k0_h4 : k0_cond4 v15 k0_t2 = 1#1), ∀ a, (k0_off109 v15 k0_t2) a + S1x32x16x128.size a ≤ S2x256x16x128.size a := fun i v15 k0_hw9 k0_t2 k0_h4 => k0_hw9.2.2.2.2.2.2.2.2.2.2.2.2.2.2.2.1 k0_t2 k0_h4
theorem k0_off110_inb : ∀ (i : grid0.Coords) (v15 : BitVec 32) (k0_hw9 : k0_chk9 i v15) (k0_t2 : Fin (k0_t2_loop v15).trips), ∀ a, (k0_off110 v15 k0_t2) a + S1.size a ≤ S2.size a := fun i v15 k0_hw9 k0_t2 => k0_hw9.2.2.2.2.2.2.2.2.2.2.2.2.2.2.2.2.1 k0_t2
theorem k0_off111_inb : ∀ (i : grid0.Coords) (v15 : BitVec 32) (k0_hw9 : k0_chk9 i v15) (k0_t2 : Fin (k0_t2_loop v15).trips), ∀ a, (k0_off111 v15 k0_t2) a + S1x32x16x128.size a ≤ S2x256x16x128.size a := fun i v15 k0_hw9 k0_t2 => k0_hw9.2.2.2.2.2.2.2.2.2.2.2.2.2.2.2.2.2.1 k0_t2
theorem k0_off112_inb : ∀ (i : grid0.Coords) (v15 : BitVec 32) (k0_hw9 : k0_chk9 i v15) (k0_t2 : Fin (k0_t2_loop v15).trips), ∀ a, (k0_off112 v15 k0_t2) a + S1x32x16x128.size a ≤ S2x256x16x128.size a := fun i v15 k0_hw9 k0_t2 => k0_hw9.2.2.2.2.2.2.2.2.2.2.2.2.2.2.2.2.2.2.1 k0_t2
theorem k0_off113_inb : ∀ (i : grid0.Coords) (v15 : BitVec 32) (k0_hw9 : k0_chk9 i v15) (k0_t2 : Fin (k0_t2_loop v15).trips), ∀ a, (k0_off113 v15 k0_t2) a + S1x32x16x128.size a ≤ S2x256x16x128.size a := fun i v15 k0_hw9 k0_t2 => k0_hw9.2.2.2.2.2.2.2.2.2.2.2.2.2.2.2.2.2.2.2.1 k0_t2
theorem k0_off114_inb : ∀ (i : grid0.Coords) (v15 : BitVec 32) (k0_hw9 : k0_chk9 i v15) (k0_t2 : Fin (k0_t2_loop v15).trips), ∀ a, (k0_off114 v15 k0_t2) a + S1x32x16x128.size a ≤ S2x256x16x128.size a := fun i v15 k0_hw9 k0_t2 => k0_hw9.2.2.2.2.2.2.2.2.2.2.2.2.2.2.2.2.2.2.2.2.1 k0_t2
theorem k0_off115_inb : ∀ (i : grid0.Coords) (v15 : BitVec 32) (k0_hw9 : k0_chk9 i v15) (k0_t2 : Fin (k0_t2_loop v15).trips), ∀ a, (k0_off115 v15 k0_t2) a + S1x32x16x128.size a ≤ S2x256x16x128.size a := fun i v15 k0_hw9 k0_t2 => k0_hw9.2.2.2.2.2.2.2.2.2.2.2.2.2.2.2.2.2.2.2.2.2.1 k0_t2
theorem k0_off116_inb : ∀ (i : grid0.Coords) (v15 : BitVec 32) (k0_hw9 : k0_chk9 i v15) (k0_t2 : Fin (k0_t2_loop v15).trips), ∀ a, (k0_off116 v15 k0_t2) a + S1x32x16x128.size a ≤ S2x256x16x128.size a := fun i v15 k0_hw9 k0_t2 => k0_hw9.2.2.2.2.2.2.2.2.2.2.2.2.2.2.2.2.2.2.2.2.2.2.1 k0_t2
theorem k0_off117_inb : ∀ (i : grid0.Coords) (v15 : BitVec 32) (k0_hw9 : k0_chk9 i v15) (k0_t2 : Fin (k0_t2_loop v15).trips), ∀ a, (k0_off117 v15 k0_t2) a + S1x32x16x128.size a ≤ S2x256x16x128.size a := fun i v15 k0_hw9 k0_t2 => k0_hw9.2.2.2.2.2.2.2.2.2.2.2.2.2.2.2.2.2.2.2.2.2.2.2.1 k0_t2
theorem k0_off118_inb : ∀ (i : grid0.Coords) (v15 : BitVec 32) (k0_hw9 : k0_chk9 i v15) (k0_t2 : Fin (k0_t2_loop v15).trips), ∀ a, (k0_off118 v15 k0_t2) a + S1x32x16x128.size a ≤ S2x256x16x128.size a := fun i v15 k0_hw9 k0_t2 => k0_hw9.2.2.2.2.2.2.2.2.2.2.2.2.2.2.2.2.2.2.2.2.2.2.2.2.1 k0_t2
theorem k0_off119_inb : ∀ (i : grid0.Coords) (v15 : BitVec 32) (k0_hw9 : k0_chk9 i v15) (k0_t2 : Fin (k0_t2_loop v15).trips), ∀ a, (k0_off119 v15 k0_t2) a + S1x256x16x128.size a ≤ S2x256x16x128.size a := fun i v15 k0_hw9 k0_t2 => k0_hw9.2.2.2.2.2.2.2.2.2.2.2.2.2.2.2.2.2.2.2.2.2.2.2.2.2 k0_t2

def k0_off120 (i : grid0.Coords) : Fin 3 → Nat :=
  let arg0 : BitVec 32 := BitVec.ofNat 32 (i 0).val
  let v50 : Index := Scalar.indexCast arg0
  let c0_23 : Index := 0#32
  let c0_24 : Index := 0#32
  ![v50.toNat, 0, 0]
def k0_off121 (i : grid0.Coords) : Fin 2 → Nat :=
  let arg0 : BitVec 32 := BitVec.ofNat 32 (i 0).val
  let v54 : Index := Scalar.indexCast arg0
  let c0_25 : Index := 0#32
  ![v54.toNat, 0]
def k0_cond5 (i : grid0.Coords) : BitVec 1 :=
  let arg0 : BitVec 32 := BitVec.ofNat 32 (i 0).val
  let c31_i32 : BitVec 32 := 31#32
  let v58 : BitVec 1 := Scalar.cmpi .eq arg0 c31_i32
  let v59 : BitVec 32 := Scalar.extui v58
  let c0_i32_26 : BitVec 32 := 0#32
  let v60 : BitVec 1 := Scalar.cmpi .ne v59 c0_i32_26
  v60

def k0_dev2 (d0 : Dev nD) : Nat :=
  let c0_i32_30 : BitVec 32 := 0#32
  let c1_i32 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3 : BitVec 32 := Scalar.subi c1_i32 v2
  let c8_i32_29 : BitVec 32 := 8#32
  let v61 : BitVec 32 := Scalar.muli v3 c8_i32_29
  let v62 : BitVec 32 := Scalar.addi c0_i32_30 v61
  let v4 : BitVec 32 := Dev.word d0
  let c4_i32 : BitVec 32 := 4#32
  let v5 : BitVec 32 := Scalar.divsi v4 c4_i32
  let c2_i32_0 : BitVec 32 := 2#32
  let v6 : BitVec 32 := Scalar.remsi v5 c2_i32_0
  let c4_i32_31 : BitVec 32 := 4#32
  let v63 : BitVec 32 := Scalar.muli v6 c4_i32_31
  let v64 : BitVec 32 := Scalar.addi v62 v63
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_32 : BitVec 32 := 1#32
  let v65 : BitVec 32 := Scalar.muli v9 c1_i32_32
  let v66 : BitVec 32 := Scalar.addi v64 v65
  v66.toNat
def k0_dev3 (d0 : Dev nD) : Nat :=
  let c0_i32_36 : BitVec 32 := 0#32
  let c1_i32 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v3 : BitVec 32 := Scalar.subi c1_i32 v2
  let c8_i32_35 : BitVec 32 := 8#32
  let v71 : BitVec 32 := Scalar.muli v3 c8_i32_35
  let v72 : BitVec 32 := Scalar.addi c0_i32_36 v71
  let v4 : BitVec 32 := Dev.word d0
  let c4_i32 : BitVec 32 := 4#32
  let v5 : BitVec 32 := Scalar.divsi v4 c4_i32
  let c2_i32_0 : BitVec 32 := 2#32
  let v6 : BitVec 32 := Scalar.remsi v5 c2_i32_0
  let c4_i32_37 : BitVec 32 := 4#32
  let v73 : BitVec 32 := Scalar.muli v6 c4_i32_37
  let v74 : BitVec 32 := Scalar.addi v72 v73
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_38 : BitVec 32 := 1#32
  let v75 : BitVec 32 := Scalar.muli v9 c1_i32_38
  let v76 : BitVec 32 := Scalar.addi v74 v75
  v76.toNat
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32 : Shape := ⟨1, ![32]⟩
abbrev S_ : Shape := ⟨0, ![]⟩
abbrev S32x256x1 : Shape := ⟨3, ![32, 256, 1]⟩
abbrev S32x256x32x16x128 : Shape := ⟨5, ![32, 256, 32, 16, 128]⟩
abbrev S32x16x1x256x32 : Shape := ⟨5, ![32, 16, 1, 256, 32]⟩
abbrev S256 : Shape := ⟨1, ![256]⟩
abbrev S1x256 : Shape := ⟨2, ![1, 256]⟩
abbrev S32x1 : Shape := ⟨2, ![32, 1]⟩
abbrev S32x1x1x256x1 : Shape := ⟨5, ![32, 1, 1, 256, 1]⟩
abbrev S32x16x1 : Shape := ⟨3, ![32, 16, 1]⟩
abbrev S32x16x1x1x1 : Shape := ⟨5, ![32, 16, 1, 1, 1]⟩
abbrev S32x16x128x1 : Shape := ⟨4, ![32, 16, 128, 1]⟩

abbrev nBuf : Space → Nat
  | .hbm => 53
  | .vmem => 0
  | .smem => 0
  | _ => 0

abbrev bufTy : (tb : Table) → Fin (tcTables nBuf tb) → BufTy
  | .hbm, ⟨0, _⟩ => ⟨S32x1x16x128, .f32⟩
  | .hbm, ⟨1, _⟩ => ⟨S512x32x16x128, .f32⟩
  | .hbm, ⟨2, _⟩ => ⟨S512x32x16x128, .f32⟩
  | .hbm, ⟨3, _⟩ => ⟨S32x256, .i32⟩
  | .hbm, ⟨4, _⟩ => ⟨S32, .i32⟩
  | .hbm, ⟨5, _⟩ => ⟨S_, .i32⟩
  | .hbm, ⟨6, _⟩ => ⟨S32x256, .i32⟩
  | .hbm, ⟨7, _⟩ => ⟨S32x256, .i1⟩
  | .hbm, ⟨8, _⟩ => ⟨S_, .i32⟩
  | .hbm, ⟨9, _⟩ => ⟨S32x256, .i32⟩
  | .hbm, ⟨10, _⟩ => ⟨S32x256, .i32⟩
  | .hbm, ⟨11, _⟩ => ⟨S32x256, .i32⟩
  | .hbm, ⟨12, _⟩ => ⟨S32x256x1, .i32⟩
  | .hbm, ⟨13, _⟩ => ⟨S32x256x32x16x128, .f32⟩
  | .hbm, ⟨14, _⟩ => ⟨S_, .i32⟩
  | .hbm, ⟨15, _⟩ => ⟨S32x256, .i32⟩
  | .hbm, ⟨16, _⟩ => ⟨S32x256, .i1⟩
  | .hbm, ⟨17, _⟩ => ⟨S_, .i32⟩
  | .hbm, ⟨18, _⟩ => ⟨S32x256, .i32⟩
  | .hbm, ⟨19, _⟩ => ⟨S32x256, .i32⟩
  | .hbm, ⟨20, _⟩ => ⟨S32x256, .i32⟩
  | .hbm, ⟨21, _⟩ => ⟨S32x256x1, .i32⟩
  | .hbm, ⟨22, _⟩ => ⟨S32x256x32x16x128, .f32⟩
  | .hbm, ⟨23, _⟩ => ⟨S32x16x1x256x32, .f32⟩
  | .hbm, ⟨24, _⟩ => ⟨S_, .f32⟩
  | .hbm, ⟨25, _⟩ => ⟨S_, .f32⟩
  | .hbm, ⟨26, _⟩ => ⟨S32x16x1x256x32, .f32⟩
  | .hbm, ⟨27, _⟩ => ⟨S32x16x1x256x32, .f32⟩
  | .hbm, ⟨28, _⟩ => ⟨S256, .i32⟩
  | .hbm, ⟨29, _⟩ => ⟨S1x256, .i32⟩
  | .hbm, ⟨30, _⟩ => ⟨S32x1, .i32⟩
  | .hbm, ⟨31, _⟩ => ⟨S32x256, .i32⟩
  | .hbm, ⟨32, _⟩ => ⟨S32x256, .i32⟩
  | .hbm, ⟨33, _⟩ => ⟨S32x256, .i1⟩
  | .hbm, ⟨34, _⟩ => ⟨S32x1x1x256x1, .i1⟩
  | .hbm, ⟨35, _⟩ => ⟨S_, .f32⟩
  | .hbm, ⟨36, _⟩ => ⟨S_, .f32⟩
  | .hbm, ⟨37, _⟩ => ⟨S32x16x1x256x32, .i1⟩
  | .hbm, ⟨38, _⟩ => ⟨S32x16x1x256x32, .f32⟩
  | .hbm, ⟨39, _⟩ => ⟨S32x16x1x256x32, .f32⟩
  | .hbm, ⟨40, _⟩ => ⟨S_, .f32⟩
  | .hbm, ⟨41, _⟩ => ⟨S32x16x1, .f32⟩
  | .hbm, ⟨42, _⟩ => ⟨S32x16x1x1x1, .f32⟩
  | .hbm, ⟨43, _⟩ => ⟨S32x16x1x256x32, .f32⟩
  | .hbm, ⟨44, _⟩ => ⟨S32x16x1x256x32, .f32⟩
  | .hbm, ⟨45, _⟩ => ⟨S32x16x1x256x32, .f32⟩
  | .hbm, ⟨46, _⟩ => ⟨S_, .f32⟩
  | .hbm, ⟨47, _⟩ => ⟨S32x16x1, .f32⟩
  | .hbm, ⟨48, _⟩ => ⟨S32x16x1x1x1, .f32⟩
  | .hbm, ⟨49, _⟩ => ⟨S32x16x1x256x32, .f32⟩
  | .hbm, ⟨50, _⟩ => ⟨S32x16x1x256x32, .f32⟩
  | .hbm, ⟨51, _⟩ => ⟨S32x16x128x1, .f32⟩
  | .hbm, ⟨52, _⟩ => ⟨S32x1x16x128, .f32⟩
  | _, _ => ⟨S32x1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Proof.Words.lean ====
/- The kernel's scalar arithmetic in closed form: the number of chunks of a row, which slot a chunk's pages land in,
   where a page number is read in the table — for every row with at most 256 local pages. -/
module

public import proofs.«01_k».proof.Proof.Gen.KernelIdeal
public import Idealize.ShloMosaic.Lib.LoopRemainder

@[expose] public section

namespace Cert.Proof

open Cert.KernelIdeal
open Idealize.ShloMosaic Idealize.ShloMosaic.TcCoe

/-! ## Words below a bound, by their number -/

/-- A word is the word of its number. -/
theorem word_eq (v : BitVec 32) (n : ℕ) (h : v.toNat = n) : v = BitVec.ofNat 32 n := by
  subst h; simp

/-- Chunks of a row of `n` local pages: eight pages to a chunk. -/
def nch (v : BitVec 32) : ℕ := (v.toNat + 7) / 8

theorem iv_word (t : ℕ) : Scf.iv 0#32 1#32 t = BitVec.ofNat 32 t := by
  rw [Scf.iv_eq_ofInt]; simp

section Row

variable {v : BitVec 32}

/-- The main loop makes one trip per chunk. -/
theorem trips_t1 (hv : v.toNat ≤ 256) : (k0_t1_loop v).trips = nch v := by
  have h : ∀ n : Fin 257, (k0_t1_loop (BitVec.ofNat 32 n.val)).trips = (n.val + 7) / 8 := by decide +kernel
  have := h ⟨v.toNat, by omega⟩
  rw [← word_eq v _ rfl] at this
  exact this

theorem ok_t1 (hv : v.toNat ≤ 256) : (k0_t1_loop v).OK := by
  have h : ∀ n : Fin 257, (k0_t1_loop (BitVec.ofNat 32 n.val)).OK := by decide +kernel
  have := h ⟨v.toNat, by omega⟩
  rw [← word_eq v _ rfl] at this
  exact this

/-- The remainder loop makes none. -/
theorem trips_t2 (hv : v.toNat ≤ 256) : (k0_t2_loop v).trips = 0 := by
  have h : ∀ n : Fin 257, (k0_t2_loop (BitVec.ofNat 32 n.val)).trips = 0 := by decide +kernel
  have := h ⟨v.toNat, by omega⟩
  rw [← word_eq v _ rfl] at this
  exact this

theorem ok_t2 (hv : v.toNat ≤ 256) : (k0_t2_loop v).OK := by
  have h : ∀ n : Fin 257, (k0_t2_loop (BitVec.ofNat 32 n.val)).OK := by decide +kernel
  have := h ⟨v.toNat, by omega⟩
  rw [← word_eq v _ rfl] at this
  exact this

/-- A row's first chunk is started when it has one. -/
theorem cond2_iff (hv : v.toNat ≤ 256) : k0_cond2 v = 1#1 ↔ 0 < nch v := by
  have h : ∀ n : Fin 257, k0_cond2 (BitVec.ofNat 32 n.val) = 1#1 ↔ 0 < (n.val + 7) / 8 := by decide +kernel
  have := h ⟨v.toNat, by omega⟩
  rw [← word_eq v _ rfl] at this
  exact this

theorem nch_le (hv : v.toNat ≤ 256) : nch v ≤ 32 := by unfold nch; omega

/-- A trip's number is below 32. -/
theorem trip_lt (hv : v.toNat ≤ 256) (t : Fin (k0_t1_loop v).trips) : t.val < 32 := by
  have := t.isLt.trans_le (trips_t1 hv).le; have := nch_le hv; omega

/-- A trip starts the next chunk when there is one. -/
theorem cond3_iff (hv : v.toNat ≤ 256) (t : Fin (k0_t1_loop v).trips) : k0_cond3 v t = 1#1 ↔ t.val + 1 < nch v := by
  have h : ∀ (n : Fin 257) (t : Fin (k0_t1_loop (BitVec.ofNat 32 n.val)).trips),
      k0_cond3 (BitVec.ofNat 32 n.val) t = 1#1 ↔ t.val + 1 < (n.val + 7) / 8 := by decide +kernel
  have := h ⟨v.toNat, by omega⟩
  rw [← word_eq v _ rfl] at this
  exact this t

/-! ## The slot a chunk's pages land in -/

theorem slot_now (t : ℕ) (ht : t < 32) : (Scalar.remsi (Scf.iv 0#32 1#32 t) 2#32).toNat = t % 2 := by
  rw [iv_word]
  have h : ∀ t : Fin 32, (Scalar.remsi (BitVec.ofNat 32 t.val) 2#32).toNat = t.val % 2 := by decide +kernel
  exact h ⟨t, ht⟩

theorem slot_next (t : ℕ) (ht : t < 32) : (Scalar.subi 1#32 (Scalar.remsi (Scf.iv 0#32 1#32 t) 2#32)).toNat = (t + 1) % 2 := by
  rw [iv_word]
  have h : ∀ t : Fin 32, (Scalar.subi 1#32 (Scalar.remsi (BitVec.ofNat 32 t.val) 2#32)).toNat = (t.val + 1) % 2 := by decide +kernel
  exact h ⟨t, ht⟩

/-- Where the next chunk's `j`-th page number stands in its row of the table. -/
theorem col_next (t : ℕ) (ht : t < 32) (j : ℕ) (hj : j < 8) :
    (Scalar.indexCast (Scalar.addi (Scalar.muli (Scalar.addi (Scf.iv 0#32 1#32 t) 1#32) 8#32) (BitVec.ofNat 32 j)) : Index).toNat = 8 * (t + 1) + j := by
  rw [iv_word]
  have h : ∀ (t : Fin 32) (j : Fin 8), (Scalar.indexCast (Scalar.addi (Scalar.muli (Scalar.addi (BitVec.ofNat 32 t.val) 1#32) 8#32) (BitVec.ofNat 32 j.val)) : Index).toNat
      = 8 * (t.val + 1) + j.val := by decide +kernel
  exact h ⟨t, ht⟩ ⟨j, hj⟩

theorem row_word (i : grid0.Coords) : (Scalar.indexCast (BitVec.ofNat 32 (i 0).val) : Index).toNat = (i 0).val := by
  have h : ∀ r : Fin 32, (Scalar.indexCast (BitVec.ofNat 32 r.val) : Index).toNat = r.val := by decide +kernel
  exact h (i 0)

/-! ## What the kernel assumes of a row's count -/

theorem inb_sem {s : ℕ} (hs : s < 2) : ∀ a, (![s] : Fin 1 → Nat) a + S1.size a ≤ S2.size a := by
  intro a; fin_cases a; show s + 1 ≤ 2; omega

theorem inb_win {s r : ℕ} (hs : s < 2) (hr : r ≤ 224) :
    ∀ a, (![s, r, 0, 0] : Fin 4 → Nat) a + S1x32x16x128.size a ≤ S2x256x16x128.size a := by
  intro a; fin_cases a
  · show s + 1 ≤ 2; omega
  · show r + 32 ≤ 256; omega
  · show 0 + 16 ≤ 16; omega
  · show 0 + 128 ≤ 128; omega

theorem inb_slot {s : ℕ} (hs : s < 2) :
    ∀ a, (![s, 0, 0, 0] : Fin 4 → Nat) a + S1x256x16x128.size a ≤ S2x256x16x128.size a := by
  intro a; fin_cases a
  · show s + 1 ≤ 2; omega
  · show 0 + 256 ≤ 256; omega
  · show 0 + 16 ≤ 16; omega
  · show 0 + 128 ≤ 128; omega

theorem inb_page {w : ℕ} (hw : w < 256) :
    ∀ a, (![w, 0, 0, 0] : Fin 4 → Nat) a + S1x32x16x128.size a ≤ S256x32x16x128.size a := by
  intro a; fin_cases a
  · show w + 1 ≤ 256; omega
  · show 0 + 32 ≤ 32; omega
  · show 0 + 16 ≤ 16; omega
  · show 0 + 128 ≤ 128; omega

theorem inb_entry {r j : ℕ} (hr : r < 32) (hj : j < 256) :
    ∀ a, (![r, j] : Fin 2 → Nat) a + S1x1.size a ≤ S32x256.size a := by
  intro a; fin_cases a
  · show r + 1 ≤ 32; omega
  · show j + 1 ≤ 256; omega

theorem slot_now_lt (t : ℕ) (ht : t < 32) : (Scalar.remsi (Scf.iv 0#32 1#32 t) 2#32).toNat < 2 := by
  rw [slot_now t ht]; omega
theorem slot_next_lt (t : ℕ) (ht : t < 32) : (Scalar.subi 1#32 (Scalar.remsi (Scf.iv 0#32 1#32 t) 2#32)).toNat < 2 := by
  rw [slot_next t ht]; omega
theorem entry_next (i : grid0.Coords) (t : ℕ) (ht : t < 31) (j : ℕ) (hj : j < 8) :
    ∀ a, (![(Scalar.indexCast (BitVec.ofNat 32 (i 0).val) : Index).toNat,
        (Scalar.indexCast (Scalar.addi (Scalar.muli (Scalar.addi (Scf.iv 0#32 1#32 t) 1#32) 8#32) (BitVec.ofNat 32 j)) : Index).toNat] : Fin 2 → Nat) a
      + S1x1.size a ≤ S32x256.size a := by
  rw [row_word, col_next t (by omega) j hj]
  have : (i 0).val < 32 := (i 0).isLt
  exact inb_entry this (by omega)

theorem lt31 (hv : v.toNat ≤ 256) (t : Fin (k0_t1_loop v).trips) (h : k0_cond3 v t = 1#1) : t.val < 31 := by
  have := (cond3_iff hv t).1 h; have := nch_le hv; omega

theorem no_t2 (hv : v.toNat ≤ 256) {P : Fin (k0_t2_loop v).trips → Prop} : ∀ t, P t :=
  fun t => absurd (t.isLt.trans_le (trips_t2 hv).le) (Nat.not_lt_zero _)

theorem chk9_0 (i : grid0.Coords) (hv : v.toNat ≤ 256) : k0_chk9_0 i v := by
  unfold k0_chk9_0
  have E : ∀ j, j < 8 → ∀ (t : Fin (k0_t1_loop v).trips), k0_cond3 v t = 1#1 → ∀ a, _ :=
    fun j hj t h => entry_next i t (lt31 hv t h) j hj
  have S : ∀ (t : Fin (k0_t1_loop v).trips), k0_cond3 v t = 1#1 → ∀ a, _ :=
    fun t _ => inb_sem (slot_next_lt t (trip_lt hv t))
  have W : ∀ r, r ≤ 224 → ∀ (t : Fin (k0_t1_loop v).trips), k0_cond3 v t = 1#1 → ∀ a, _ :=
    fun r hr t _ => inb_win (r := r) (slot_next_lt t (trip_lt hv t)) hr
  exact ⟨ok_t1 hv, E 0 (by decide), S, W 0 (by decide), S, W 0 (by decide), E 1 (by decide), W 32 (by decide), S, W 32 (by decide),
    E 2 (by decide), W 64 (by decide), S, W 64 (by decide), E 3 (by decide), W 96 (by decide), S, W 96 (by decide),
    E 4 (by decide), W 128 (by decide), S, W 128 (by decide), E 5 (by decide), W 160 (by decide), S, W 160 (by decide),
    E 6 (by decide), W 192 (by decide), S, W 192 (by decide), E 7 (by decide), W 224 (by decide)⟩

theorem chk9_1 (i : grid0.Coords) (hv : v.toNat ≤ 256) : k0_chk9_1 i v := by
  unfold k0_chk9_1
  have W : ∀ r, r ≤ 224 → ∀ (t : Fin (k0_t1_loop v).trips), ∀ a, _ :=
    fun r hr t => inb_win (r := r) (slot_now_lt t (trip_lt hv t)) hr
  refine ⟨fun t _ => inb_sem (slot_next_lt t (trip_lt hv t)), fun t _ => inb_win (r := 224) (slot_next_lt t (trip_lt hv t)) (by decide),
    fun t => inb_sem (slot_now_lt t (trip_lt hv t)), W 0 (by decide), W 32 (by decide), W 64 (by decide), W 96 (by decide),
    W 128 (by decide), W 160 (by decide), W 192 (by decide), W 224 (by decide), fun t => inb_slot (slot_now_lt t (trip_lt hv t)), ok_t2 hv, ?_⟩
  repeat' apply And.intro
  all_goals exact no_t2 hv

theorem chk9_2 (i : grid0.Coords) (hv : v.toNat ≤ 256) : k0_chk9_2 i v := by
  unfold k0_chk9_2
  repeat' apply And.intro
  all_goals exact no_t2 hv

/-- Everything the kernel assumes of a row's count holds of a count of at most 256. -/
theorem chk9_of_le (i : grid0.Coords) (hv : v.toNat ≤ 256) : k0_chk9 i v :=
  ⟨chk9_0 i hv, chk9_1 i hv, chk9_2 i hv⟩

end Row

/-- The devices talk across the first mesh axis: device `c`'s partner. -/
def pr (c : Dev nD) : Dev nD := ⟨(c.val + 8) % 16, Nat.mod_lt _ (by decide)⟩
theorem pr_pr (c : Dev nD) : pr (pr c) = c := by revert c; decide
def flip : Dev nD ≃ Dev nD := ⟨pr, pr, pr_pr, pr_pr⟩

theorem dev1_pr (c : Dev nD) (h : k0_dev1 c < nD) : (⟨k0_dev1 c, h⟩ : Dev nD) = pr c := by
  apply Fin.ext; show k0_dev1 c = (c.val + 8) % 16; revert c; decide +kernel
theorem dev2_pr (c : Dev nD) (h : k0_dev2 c < nD) : (⟨k0_dev2 c, h⟩ : Dev nD) = pr c := by
  apply Fin.ext; show k0_dev2 c = (c.val + 8) % 16; revert c; decide +kernel
theorem dev3_pr (c : Dev nD) (h : k0_dev3 c < nD) : (⟨k0_dev3 c, h⟩ : Dev nD) = pr c := by
  apply Fin.ext; show k0_dev3 c = (c.val + 8) % 16; revert c; decide +kernel

end Cert.Proof

end
-- ==== Proof.Windows.lean ====
/- Where one page lies in a slot of a pair of page buffers: the squeezed window at rows `32 j … 32 j + 31` of slot `s`,
   its set of elements, what a read through a page of the cache gives and what a write through the window leaves. -/
module

public import proofs.«01_k».proof.Proof.Words
public import Idealize.ShloMosaic.Lib.ValueLayout
public import Idealize.ShloMosaic.Lib.Pipeline.ValueKit.Geometry
public import Idealize.ShloMosaic.Lib.Batch
public import Idealize.ShloMosaic.Lib.Rounds
public import Idealize.ShloMosaic.Lib.Tactic
public import Idealize.ShloMosaic.Lib.Pipeline.Kit
public import Idealize.ShloMosaic.Lib.Pipeline.Regions
public import Idealize.ShloMosaic.Lib.Pipeline.RegionTalk
public import Idealize.ShloMosaic.Lib.StableHlo

@[expose] public section

noncomputable section

namespace Cert.Proof

open Cert.KernelIdeal Cert.KernelIdeal.Gen
open Idealize.ShloMosaic Idealize.ShloMosaic.TcCoe Idealize.ShloMosaic.ValueIdx Idealize.ShloMosaic.ValueKit

/-- The rows `a … b − 1` of slot `s` of a page buffer. -/
def span (s a b : ℕ) : Finset S2x256x16x128.Idx :=
  Finset.univ.filter fun i => (i 0).val = s ∧ a ≤ (i 1).val ∧ (i 1).val < b

theorem mem_span {s a b : ℕ} {i : S2x256x16x128.Idx} :
    i ∈ span s a b ↔ (i 0).val = s ∧ a ≤ (i 1).val ∧ (i 1).val < b := by
  simp [span]

theorem span_empty (s a : ℕ) : span s a a = ∅ := by
  ext i; simp only [mem_span, Finset.notMem_empty, iff_false]; omega

/-- The first rows of a stretch and the rest of it. -/
theorem span_union {s a b d : ℕ} (h : a ≤ b) (h' : b ≤ d) : span s a b ∪ span s b d = span s a d := by
  ext i; simp only [Finset.mem_union, mem_span]; omega

theorem span_disjoint (s a b d : ℕ) : Disjoint (span s a b) (span s b d) :=
  Finset.disjoint_left.mpr fun i h h' => by rw [mem_span] at h h'; omega

theorem span_slots (i : S2x256x16x128.Idx) : i ∈ span 0 0 256 ∪ span 1 0 256 := by
  have h0 : (i 0).val < 2 := (i 0).isLt
  have h1 : (i 1).val < 256 := (i 1).isLt
  simp only [Finset.mem_union, mem_span]; omega

theorem slots_union : span 0 0 256 ∪ span 1 0 256 = Finset.univ :=
  Finset.eq_univ_iff_forall.mpr span_slots

theorem slots_disjoint {s s' : ℕ} (h : s ≠ s') (a b a' b' : ℕ) : Disjoint (span s a b) (span s' a' b') :=
  Finset.disjoint_left.mpr fun i h h' => by rw [mem_span] at h h'; omega

section Views

variable {sp : Space}

/-- The window of one page at rows `off 1 …` of slot `off 0`. -/
abbrev winM (M : Memref sig .tc sp S2x256x16x128 .f32) (off : Fin 4 → ℕ)
    (h : ∀ a, off a + S1x32x16x128.size a ≤ S2x256x16x128.size a) : Memref sig .tc sp S32x16x128 .f32 :=
  (M.slice (Rect.unit (s := S2x256x16x128) off S1x32x16x128.size h) (fun _ => rfl)).squeeze S32x16x128
    squeezes_S1x32x16x128_S32x16x128

/-- One page of a device's cache. -/
abbrev pageM (M : Memref sig .tc sp S256x32x16x128 .f32) (off : Fin 4 → ℕ)
    (h : ∀ a, off a + S1x32x16x128.size a ≤ S256x32x16x128.size a) : Memref sig .tc sp S32x16x128 .f32 :=
  (M.slice (Rect.unit (s := S256x32x16x128) off S1x32x16x128.size h) (fun _ => rfl)).squeeze S32x16x128
    squeezes_S1x32x16x128_S32x16x128

theorem squeeze_ix (x : S32x16x128.Idx) :
    Shape.reshapeEquiv (s := S1x32x16x128) (s' := S32x16x128) (by decide) x = ix4 (0 : Fin 1) (x 0) (x 1) (x 2) := by
  conv_lhs => rw [show x = ix3 (x 0) (x 1) (x 2) from funext fun a => by fin_cases a <;> rfl]
  exact reshapeEquiv_ix3_1abc _ _ _ _

theorem winM_emb (M : Memref sig .tc sp S2x256x16x128 .f32) {s r : ℕ} (h) (hs : s < 2) (hr : r + 32 ≤ 256) (x : S32x16x128.Idx) :
    (winM M ![s, r, 0, 0] h).view.emb x
      = M.view.emb (ix4 (⟨s, hs⟩ : Fin 2) (⟨r + (x 0).val, by have : (x 0).val < 32 := (x 0).isLt; omega⟩ : Fin 256) (x 1) (x 2)) := by
  show M.view.emb ((Rect.unit (s := S2x256x16x128) ![s, r, 0, 0] S1x32x16x128.size h).emb
    (Shape.reshapeEquiv (s := S1x32x16x128) (s' := S32x16x128) _ x)) = _
  rw [squeeze_ix]
  refine congrArg _ (funext fun a => Fin.ext ?_)
  refine (rect_emb_unit_val _ _ _ _ a).trans ?_
  fin_cases a <;> simp [ix4]

theorem pageM_emb (M : Memref sig .tc sp S256x32x16x128 .f32) {w : ℕ} (h) (hw : w < 256) (x : S32x16x128.Idx) :
    (pageM M ![w, 0, 0, 0] h).view.emb x = M.view.emb (ix4 (⟨w, hw⟩ : Fin 256) (x 0) (x 1) (x 2)) := by
  show M.view.emb ((Rect.unit (s := S256x32x16x128) ![w, 0, 0, 0] S1x32x16x128.size h).emb
    (Shape.reshapeEquiv (s := S1x32x16x128) (s' := S32x16x128) _ x)) = _
  rw [squeeze_ix]
  refine congrArg _ (funext fun a => Fin.ext ?_)
  refine (rect_emb_unit_val _ _ _ _ a).trans ?_
  fin_cases a <;> simp [ix4]

end Views

variable {F : FTy → Type} [FloatOps F] [Named F]

/-- What one slot holds once all its pages have landed: row `r` is row `r % 32` of page `pg (r / 32)`. -/
def slab (f : S256x32x16x128.Idx → Elt F .f32) (pg : ℕ → ℕ) : S2x256x16x128.Idx → Elt F .f32 :=
  fun i => f (ix4 (Fin.ofNat 256 (pg ((i 1).val / 32))) (⟨(i 1).val % 32, Nat.mod_lt _ (by decide)⟩ : Fin 32) (i 2) (i 3))

/-- The window's elements, for either page buffer. -/
theorem winK_set {s r : ℕ} (h) (hs : s < 2) (hr : r + 32 ≤ 256) :
    (winM (Memref.whole cc0_scratch0) ![s, r, 0, 0] h).view.set = span s r (r + 32) := by
  refine Finset.ext fun (i : S2x256x16x128.Idx) => Finset.mem_map.trans ⟨?_, fun hi => ?_⟩
  · rintro ⟨x, -, rfl⟩
    have hx : (x 0).val < 32 := (x 0).isLt
    refine (congrArg (· ∈ span s r (r + 32)) (winM_emb (Memref.whole cc0_scratch0) h hs hr x)).mpr ?_
    refine mem_span.mpr ⟨rfl, ?_, ?_⟩
    · show r ≤ r + (x 0).val; omega
    · show r + (x 0).val < r + 32; omega
  · rw [mem_span] at hi
    refine ⟨ix3 (⟨(i 1).val - r, by omega⟩ : Fin 32) (i 2) (i 3), Finset.mem_univ _,
      (winM_emb (Memref.whole cc0_scratch0) h hs hr _).trans ?_⟩
    refine funext fun a => Fin.ext ?_
    fin_cases a
    · exact hi.1.symm
    · show r + ((i 1).val - r) = (i 1).val; omega
    · rfl
    · rfl

theorem winV_set {s r : ℕ} (h) (hs : s < 2) (hr : r + 32 ≤ 256) :
    (winM (Memref.whole cc0_scratch1) ![s, r, 0, 0] h).view.set = span s r (r + 32) := winK_set h hs hr

/-- A page of the keys written through a window is that window's part of the slab. -/
theorem winK_write {s j w : ℕ} (h h') (hs : s < 2) (hj : j < 8) (hw : w < 256)
    (fd : S2x256x16x128.Idx → Elt F .f32) (fs : S256x32x16x128.Idx → Elt F .f32) (pg : ℕ → ℕ) (hp : pg j = w)
    (i : (winM (Memref.whole cc0_scratch0) ![s, 32 * j, 0, 0] h).view.ty.Idx) (hi : i ∈ span s (32 * j) (32 * j + 32)) :
    (winM (Memref.whole cc0_scratch0) ![s, 32 * j, 0, 0] h).view.write (Elt F) fd
      ((pageM (Memref.whole main_arg1) ![w, 0, 0, 0] h').view.read (Elt F) fs) Finset.univ i = slab fs pg i := by
  have hset : i ∈ (winM (Memref.whole cc0_scratch0) ![s, 32 * j, 0, 0] h).view.set := by
    rw [winK_set h hs (by omega)]; exact hi
  obtain ⟨x, -, rfl⟩ := Finset.mem_map.mp hset
  have hx : (x 0).val < 32 := (x 0).isLt
  refine (View.write_emb_of_mem _ _ (Finset.mem_univ x)).trans ?_
  refine (congrArg fs (pageM_emb (Memref.whole main_arg1) h' hw x)).trans ?_
  refine Eq.trans ?_ (congrArg (slab fs pg) (winM_emb (Memref.whole cc0_scratch0) h hs (by omega) x).symm)
  unfold slab
  refine congrArg fs (funext fun a => Fin.ext ?_)
  have e1 : (32 * j + (x 0).val) / 32 = j := by omega
  have e2 : (32 * j + (x 0).val) % 32 = (x 0).val := by omega
  fin_cases a
  · show w = pg ((32 * j + (x 0).val) / 32) % 256
    rw [e1, hp]; omega
  · exact e2.symm
  · rfl
  · rfl

theorem winV_write {s j w : ℕ} (h h') (hs : s < 2) (hj : j < 8) (hw : w < 256)
    (fd : S2x256x16x128.Idx → Elt F .f32) (fs : S256x32x16x128.Idx → Elt F .f32) (pg : ℕ → ℕ) (hp : pg j = w)
    (i : (winM (Memref.whole cc0_scratch1) ![s, 32 * j, 0, 0] h).view.ty.Idx) (hi : i ∈ span s (32 * j) (32 * j + 32)) :
    (winM (Memref.whole cc0_scratch1) ![s, 32 * j, 0, 0] h).view.write (Elt F) fd
      ((pageM (Memref.whole main_arg2) ![w, 0, 0, 0] h').view.read (Elt F) fs) Finset.univ i = slab fs pg i :=
  winK_write h h' hs hj hw fd fs pg hp i hi

end Cert.Proof

end
-- ==== Proof.Pages.lean ====
/- The eight pages of a chunk on their way into a slot of the two page buffers: sixteen copies on the slot's semaphore,
   each delivering its window of the slab; what issuing one does, what waiting for one does, and that after the
   sixteenth wait the slot holds the slabs of the chunk's pages. -/
module

public import proofs.«01_k».proof.Proof.Windows

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline's rounds, the exchange's rounds, the copies' counters -/

abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb (UR sig nD τ) (MT nD τ sig Unit (Elt F) ℕ UU ℕ) :=
  ((Emb.inl : Emb (UR sig nD τ) (UR sig nD τ × Counters)).trans (Emb.inr : Emb (UR sig nD τ × Counters) UU)).trans
    (uEmb (nD := nD) (sig := sig) (Ix := Unit) (Val := Elt F) (Name := ℕ) (U := UU) (Lvl := ℕ)).toEmb
instance ER_landsIn : (ER : Emb (UR sig nD τ) 𝕄).LandsIn (upEmb : UEmb _ 𝕄) := by unfold ER; infer_instance
/-- The copies' counters. -/
abbrev EC : UEmb Counters (MT nD τ sig Unit (Elt F) ℕ UU ℕ) := countersEmb (U := UU)

/-! ## Cells and levels -/

abbrev barS : Sem sig := sig.barrier 0 rfl
/-- The semaphore of the page copies into slot `s`; the exchange's send and receive semaphores. -/
abbrev pageS (s : Fin 2) : DmaSem sig := ⟨3 + s.val, by have := s.isLt; show 3 + s.val < 9; omega⟩
abbrev sendS (s : Fin 2) : DmaSem sig := ⟨5 + s.val, by have := s.isLt; show 5 + s.val < 9; omega⟩
abbrev recvS (s : Fin 2) : DmaSem sig := ⟨7 + s.val, by have := s.isLt; show 7 + s.val < 9; omega⟩
abbrev barCell (c : Dev nD) : GSem nD τ sig := ((c : Thread nD τ), .reg barS)
abbrev pageCell (c : Dev nD) (s : Fin 2) : GSem nD τ sig := ((c : Thread nD τ), .dma (pageS s))
abbrev sendCell (c : Dev nD) (s : Fin 2) : GSem nD τ sig := ((c : Thread nD τ), .dma (sendS s))
abbrev recvCell (c : Dev nD) (s : Fin 2) : GSem nD τ sig := ((c : Thread nD τ), .dma (recvS s))

def L (g : GSem nD τ sig) : Finset Unit := if g.1.2 = .tc then {()} else ∅
/-- The barrier at 1, the receive semaphores at 2, every other semaphore at 0. -/
def lv (g : GSem nD τ sig) (_ : Unit) : ℕ :=
  if g.2 = .reg barS then 1 else if g.2 = .dma (recvS 0) ∨ g.2 = .dma (recvS 1) then 2 else 0

abbrev 𝒱₀ : Variants := Variants.none

/-! ## The two caches, at a positive share -/

abbrev kLoc (c : Dev nD) : Loc nD τ sig := (Memref.whole cc0_scratch0).view.loc (c : Thread nD τ)
abbrev vLoc (c : Dev nD) : Loc nD τ sig := (Memref.whole cc0_scratch1).view.loc (c : Thread nD τ)
abbrev kArr (c : Dev nD) : Loc nD τ sig := (Memref.whole main_arg1).view.loc (c : Thread nD τ)
abbrev vArr (c : Dev nD) : Loc nD τ sig := (Memref.whole main_arg2).view.loc (c : Thread nD τ)

abbrev Cache (F : FTy → Type) : Type := S256x32x16x128.Idx → Elt F .f32

/-- The keys and the values of the device, each readable. -/
def caches (c : Dev nD) (fK fV : Cache F) : sProp 𝕄 :=
  iprop((∃ q, kArr c ↦{q} fK) ∗ ∃ q, vArr c ↦{q} fV)

/-- The bytes of one page, as the semaphores count them. -/
def pageN : ℕ := (winM (Memref.whole cc0_scratch0) ![0, 0, 0, 0] inb_S2x256x16x128_S1x32x16x128_0_0_0_0).view.dmaCredit
theorem pageN_pos : 0 < pageN := View.dmaCredit_pos _ (by decide)

variable (c : Dev nD) (s : Fin 2) (pg : ℕ → ℕ) (fK fV : Cache F)

/-- What copy `t` of a chunk delivers: an even one page `t / 2` of the keys, an odd one page `t / 2` of the values. -/
def deliv (t : Fin 16) : sProp 𝕄 :=
  if t.val % 2 = 0 then kLoc c ↦[span s (32 * (t.val / 2)) (32 * (t.val / 2) + 32)]{fullShare} slab fK pg
  else vLoc c ↦[span s (32 * (t.val / 2)) (32 * (t.val / 2) + 32)]{fullShare} slab fV pg

instance deliv_storable (t : Fin 16) : BI.Storable (upEmb : UEmb _ 𝕄) (deliv c s pg fK fV t) := by
  unfold deliv; split <;> infer_instance

/-- Slot `s` while its chunk is being started: `n` copies issued, the rest of the slot still in hand. -/
def filling (n : ℕ) : sProp 𝕄 :=
  iprop(caches c fK fV ∗ (∃ f, kLoc c ↦[span s (32 * ((n + 1) / 2)) 256]{fullShare} f)
    ∗ (∃ f, vLoc c ↦[span s (32 * (n / 2)) 256]{fullShare} f)
    ∗ Transfers.Batch EC (c : Thread nD τ) (.dma (pageS s)) () pageN (deliv c s pg fK fV) n 0)

/-- Slot `s` with nothing on its way. -/
def slotFree : sProp 𝕄 :=
  iprop((∃ f, kLoc c ↦[span s 0 256]{fullShare} f) ∗ (∃ f, vLoc c ↦[span s 0 256]{fullShare} f) ∗ semVal (pageCell c s) 0)

/-- Slot `s` with a whole chunk on its way, `u` of its copies waited for. -/
def slotWait (u : ℕ) : sProp 𝕄 :=
  Transfers.Batch EC (c : Thread nD τ) (.dma (pageS s)) () pageN (deliv c s pg fK fV) 16 (u * pageN)

/-- Slot `s` with a chunk's pages in it. -/
def slotFull : sProp 𝕄 :=
  iprop((kLoc c ↦[span s 0 256]{fullShare} slab fK pg) ∗ (vLoc c ↦[span s 0 256]{fullShare} slab fV pg) ∗ semVal (pageCell c s) 0)

theorem slot_full_free : slotFull c s pg fK fV ⊢ slotFree c s := by
  unfold slotFull slotFree
  iintro ⟨H1, H2, H3⟩
  isplitl [H1]; · iexists _; iexact H1
  isplitl [H2]; · iexists _; iexact H2
  iexact H3

theorem fill_start : iprop(caches c fK fV ∗ slotFree c s) ⊢ (|={Set.univ}=> filling c s pg fK fV 0 : sProp 𝕄) := by
  unfold slotFree filling
  iintro ⟨Hc, Hk, Hv, Hs⟩
  imod (Transfers.batch_alloc' EC (c : Thread nD τ) () pageN (deliv c s pg fK fV) (sm := .dma (pageS s)) (E := Set.univ)) $$ Hs with HB
  imodintro
  isplitl [Hc]; · iexact Hc
  isplitl [Hk]; · iexact Hk
  isplitl [Hv]; · iexact Hv
  iexact HB

theorem fill_done : filling c s pg fK fV 16 ⊢ iprop(caches c fK fV ∗ slotWait c s pg fK fV 0) := by
  unfold filling slotWait
  iintro ⟨Hc, -, -, HB⟩
  isplitl [Hc]; · iexact Hc
  rw [Nat.zero_mul]; iexact HB

theorem deliv_even {n : ℕ} (h : n % 2 = 0) (hn : n < 16) :
    deliv c s pg fK fV ⟨n, hn⟩ = (kLoc c ↦[span s (32 * (n / 2)) (32 * (n / 2) + 32)]{fullShare} slab fK pg : sProp 𝕄) := if_pos h
theorem deliv_odd {n : ℕ} (h : n % 2 = 1) (hn : n < 16) :
    deliv c s pg fK fV ⟨n, hn⟩ = (vLoc c ↦[span s (32 * (n / 2)) (32 * (n / 2) + 32)]{fullShare} slab fV pg : sProp 𝕄) :=
  if_neg (by show ¬ n % 2 = 0; omega)

section Steps

variable {Λ : Labels} {defs : Defs nD τ sig (Elt F) Λ} {α : Type} {Q : α → sProp (MT nD τ sig Unit (Elt F) ℕ UU ℕ)}
  {k : PUnit → Prog (TpuEff nD τ sig (Elt F) Λ .tc) α} {c s pg fK fV}

set_option maxHeartbeats 800000 in
/-- Issue the copy of a page of the keys. -/
theorem issueK {n w : ℕ} (hn : n % 2 = 0) (hn' : n < 16) (hw : w < 256) (hp : pg (n / 2) = w) {oS oD : Fin 4 → ℕ} {sem : DmaSem sig}
    (eS : oS = ![w, 0, 0, 0]) (eD : oD = ![s.val, 32 * (n / 2), 0, 0]) (es : sem = pageS s) {iS iD} {h1 h2 h3} :
    filling c s pg fK fV n ⊢ iprop((filling c s pg fK fV (n + 1) -∗ wp frame (wpE defs 𝒱₀ (c : Thread nD τ) none) Set.univ (k ⟨⟩) Q)
      -∗ wp frame (wpE defs 𝒱₀ (c : Thread nD τ) none) Set.univ
        (.op (.enqueueDma (pageM (Memref.whole main_arg1) oS iS) (.here (winM (Memref.whole cc0_scratch0) oD iD)) (.dma sem) h1 h2 h3) k) Q) := by
  subst eS eD es
  unfold filling caches
  iintro ⟨⟨⟨%q, HK⟩, HV⟩, ⟨%f, Hk⟩, Hv, HB⟩ Hw
  ihave HK2 := (pointsTo_share (PosShare.mem_left_op_right q)).1 $$ HK
  icases HK2 with ⟨HK, HKs⟩
  ihave HKs2 := (pointsTo_split_subset (Finset.subset_univ (pageM (Memref.whole main_arg1) ![w, 0, 0, 0] iS).view.set)).1 $$ HKs
  icases HKs2 with ⟨HKs, -⟩
  have e : (n + 1) / 2 = n / 2 := by omega
  have e' : 32 * ((n + 1 + 1) / 2) = 32 * (n / 2) + 32 := by omega
  ihave Hk2 := (show (kLoc c ↦[span s (32 * ((n + 1) / 2)) 256]{fullShare} f)
      ⊢ iprop((kLoc c ↦[span s (32 * (n / 2)) (32 * (n / 2) + 32)]{fullShare} f) ∗ (kLoc c ↦[span s (32 * (n / 2) + 32) 256]{fullShare} f) : sProp 𝕄) from by
    rw [e, ← span_union (s := s) (a := 32 * (n / 2)) (b := 32 * (n / 2) + 32) (d := 256) (by omega) (by omega)]
    exact (pointsTo_union (span_disjoint _ _ _ _)).1) $$ Hk
  icases Hk2 with ⟨Hkw, Hk⟩
  iapply (Transfers.wp_dmaBatch EC 𝒱₀ (c : Thread nD τ) none
    (src := pageM (Memref.whole main_arg1) ![w, 0, 0, 0] iS) (dst := winM (Memref.whole cc0_scratch0) ![s.val, 32 * (n / 2), 0, 0] iD)
    (via := ReadAs.same) (q := q.right) (fs := fK) (Sd := span s (32 * (n / 2)) (32 * (n / 2) + 32)) (fd := f)
    (D := deliv c s pg fK fV) (j := n) (u := 0) () pageN rfl (le_of_eq (winK_set _ s.isLt (by omega))) hn' (Nat.zero_le _)
    (by
      rw [deliv_even c s pg fK fV hn]
      iintro ⟨Hd, -⟩
      iapply (Entails.of_eq (pointsTo_congr (fun i hi => winK_write _ _ s.isLt (by omega) hw f fK pg hp i hi))) $$ Hd)) $$ [HKs Hkw HB]
  · isplitl [HKs]; · iexact HKs
    isplitl [Hkw]; · iexact Hkw
    iexact HB
  iintro HB
  iapply Hw
  isplitl [HK HV]
  · isplitl [HK]; · iexists _; iexact HK
    iexact HV
  isplitl [Hk]; · iexists f; rw [e']; iexact Hk
  isplitl [Hv]; · rw [e]; iexact Hv
  iexact HB

set_option maxHeartbeats 800000 in
/-- Issue the copy of a page of the values. -/
theorem issueV {n w : ℕ} (hn : n % 2 = 1) (hn' : n < 16) (hw : w < 256) (hp : pg (n / 2) = w) {oS oD : Fin 4 → ℕ} {sem : DmaSem sig}
    (eS : oS = ![w, 0, 0, 0]) (eD : oD = ![s.val, 32 * (n / 2), 0, 0]) (es : sem = pageS s) {iS iD} {h1 h2 h3} :
    filling c s pg fK fV n ⊢ iprop((filling c s pg fK fV (n + 1) -∗ wp frame (wpE defs 𝒱₀ (c : Thread nD τ) none) Set.univ (k ⟨⟩) Q)
      -∗ wp frame (wpE defs 𝒱₀ (c : Thread nD τ) none) Set.univ
        (.op (.enqueueDma (pageM (Memref.whole main_arg2) oS iS) (.here (winM (Memref.whole cc0_scratch1) oD iD)) (.dma sem) h1 h2 h3) k) Q) := by
  subst eS eD es
  unfold filling caches
  iintro ⟨⟨HK, ⟨%q, HV⟩⟩, Hk, ⟨%f, Hv⟩, HB⟩ Hw
  ihave HV2 := (pointsTo_share (PosShare.mem_left_op_right q)).1 $$ HV
  icases HV2 with ⟨HV, HVs⟩
  ihave HVs2 := (pointsTo_split_subset (Finset.subset_univ (pageM (Memref.whole main_arg2) ![w, 0, 0, 0] iS).view.set)).1 $$ HVs
  icases HVs2 with ⟨HVs, -⟩
  have e : (n + 1 + 1) / 2 = (n + 1) / 2 := by omega
  have e' : 32 * ((n + 1) / 2) = 32 * (n / 2) + 32 := by omega
  ihave Hv2 := (show (vLoc c ↦[span s (32 * (n / 2)) 256]{fullShare} f)
      ⊢ iprop((vLoc c ↦[span s (32 * (n / 2)) (32 * (n / 2) + 32)]{fullShare} f) ∗ (vLoc c ↦[span s (32 * (n / 2) + 32) 256]{fullShare} f) : sProp 𝕄) from by
    rw [← span_union (s := s) (a := 32 * (n / 2)) (b := 32 * (n / 2) + 32) (d := 256) (by omega) (by omega)]
    exact (pointsTo_union (span_disjoint _ _ _ _)).1) $$ Hv
  icases Hv2 with ⟨Hvw, Hv⟩
  iapply (Transfers.wp_dmaBatch EC 𝒱₀ (c : Thread nD τ) none
    (src := pageM (Memref.whole main_arg2) ![w, 0, 0, 0] iS) (dst := winM (Memref.whole cc0_scratch1) ![s.val, 32 * (n / 2), 0, 0] iD)
    (via := ReadAs.same) (q := q.right) (fs := fV) (Sd := span s (32 * (n / 2)) (32 * (n / 2) + 32)) (fd := f)
    (D := deliv c s pg fK fV) (j := n) (u := 0) () pageN rfl (le_of_eq (winV_set _ s.isLt (by omega))) hn' (Nat.zero_le _)
    (by
      rw [deliv_odd c s pg fK fV hn]
      iintro ⟨Hd, -⟩
      iapply (Entails.of_eq (pointsTo_congr (fun i hi => winV_write _ _ s.isLt (by omega) hw f fV pg hp i hi))) $$ Hd)) $$ [HVs Hvw HB]
  · isplitl [HVs]; · iexact HVs
    isplitl [Hvw]; · iexact Hvw
    iexact HB
  iintro HB
  iapply Hw
  isplitl [HK HV]
  · isplitl [HK]; · iexact HK
    iexists _; iexact HV
  isplitl [Hk]; · rw [e]; iexact Hk
  isplitl [Hv]; · iexists f; rw [e']; iexact Hv
  iexact HB

/-- The core's debt with any waits recorded, and the levels: what every wait goes through. -/
def debt (c : Dev nD) (O : CellTallies nD τ sig Unit) : sProp 𝕄 :=
  iprop((∃ W, owes (c : Thread nD τ) O W) ∗ levAts L lv)

/-- A wait for a page copy of the chunk that is not the last. -/
theorem waitPage {u : ℕ} (hu : u < 15) {O : CellTallies nD τ sig Unit}
    (hM : (levAts L lv : sProp 𝕄) ⊢ MayWait (c : Thread nD τ) (.dma (pageS s)) () O)
    {sem : DmaSem sig} (es : sem = pageS s) {sp sp' : Space} {sh : Shape} {e : EltTy} {srcw : Memref sig .tc sp' sh e}
    {sh' : Shape} {e' : EltTy} {dstw : Memref sig .tc sp sh' e'} (hN : dstw.view.dmaCredit = pageN) {h1 h2} :
    iprop(slotWait c s pg fK fV u ∗ debt c O)
      ⊢ iprop((iprop(slotWait c s pg fK fV (u + 1) ∗ debt c O) -∗ wp frame (wpE defs 𝒱₀ (c : Thread nD τ) none) Set.univ (k ⟨⟩) Q)
      -∗ wp frame (wpE defs 𝒱₀ (c : Thread nD τ) none) Set.univ (.op (.waitDma2 sem srcw dstw h1 h2) k) Q) := by
  subst es
  unfold slotWait debt
  iintro ⟨HB, ⟨%W, HO⟩, #Hlev⟩ Hw
  iapply (Transfers.wp_waitBatchO EC 𝒱₀ (c : Thread nD τ) none () hN (D := deliv c s pg fK fV) (u := u * pageN)
    (by have := pageN_pos; rw [← Nat.succ_mul, Nat.mul_comm]; exact Nat.mul_lt_mul_of_pos_left (by omega) this) (O := O) (W := W)) $$ [HB HO]
  · isplitl [HB]; · iexact HB
    isplitl [HO]; · iexact HO
    iapply hM; iexact Hlev
  iintro ⟨HB, HO⟩
  iapply Hw
  isplitl [HB]; · rw [Nat.succ_mul]; iexact HB
  isplitl [HO]; · iexists _; iexact HO
  iexact Hlev

/-- The windows landed so far, side by side. -/
theorem deliv_join (c : Dev nD) (s : Fin 2) (pg : ℕ → ℕ) (fK fV : Cache F) (n : ℕ) (hn : n ≤ 16) :
    bigSep (Transfers.issued (m := 16) n) (deliv c s pg fK fV)
      ⊢ iprop((kLoc c ↦[span s 0 (32 * ((n + 1) / 2))]{fullShare} slab fK pg) ∗ (vLoc c ↦[span s 0 (32 * (n / 2))]{fullShare} slab fV pg) : sProp 𝕄) := by
  induction n with
  | zero =>
    rw [Transfers.issued_zero, bigSep_empty]
    show (emp : sProp 𝕄) ⊢ iprop((kLoc c ↦[span s 0 0]{fullShare} slab fK pg) ∗ (vLoc c ↦[span s 0 0]{fullShare} slab fV pg))
    rw [span_empty, pointsTo_empty, pointsTo_empty]
    iintro -
    isplitl <;> iempintro
  | succ n ih =>
    rw [Transfers.issued_succ (m := 16) (by omega : n < 16), bigSep_insert (Transfers.not_mem_issued _)]
    have ih := ih (by omega)
    rcases Nat.mod_two_eq_zero_or_one n with h | h
    · rw [show (n + 1) / 2 = n / 2 by omega] at ih
      rw [deliv_even c s pg fK fV h, show 32 * ((n + 1 + 1) / 2) = 32 * (n / 2) + 32 by omega, show (n + 1) / 2 = n / 2 by omega,
        ← span_union (s := s) (a := 0) (b := 32 * (n / 2)) (d := 32 * (n / 2) + 32) (by omega) (by omega)]
      refine (sep_mono_right ih).trans ?_
      iintro ⟨Hd, Hk, Hv⟩
      isplitr [Hv]
      · iapply (pointsTo_union (span_disjoint _ _ _ _)).2
        isplitl [Hk]; · iexact Hk
        iexact Hd
      · iexact Hv
    · rw [show 32 * ((n + 1) / 2) = 32 * (n / 2) + 32 by omega] at ih
      rw [deliv_odd c s pg fK fV h, show (n + 1 + 1) / 2 = (n + 1) / 2 by omega, show 32 * ((n + 1) / 2) = 32 * (n / 2) + 32 by omega]
      refine (sep_mono_right ih).trans ?_
      rw [show span s 0 (32 * (n / 2) + 32) = span s 0 (32 * (n / 2)) ∪ span s (32 * (n / 2)) (32 * (n / 2) + 32) from
        (span_union (by omega) (by omega)).symm]
      iintro ⟨Hd, Hk, Hv⟩
      isplitl [Hk]; · iexact Hk
      iapply (pointsTo_union (span_disjoint _ _ _ _)).2
      isplitl [Hv]; · iexact Hv
      iexact Hd

/-- The last wait: the slot holds the chunk's pages. -/
theorem waitLast {O : CellTallies nD τ sig Unit}
    (hM : (levAts L lv : sProp 𝕄) ⊢ MayWait (c : Thread nD τ) (.dma (pageS s)) () O)
    {sem : DmaSem sig} (es : sem = pageS s) {sp sp' : Space} {sh : Shape} {e : EltTy} {srcw : Memref sig .tc sp' sh e}
    {sh' : Shape} {e' : EltTy} {dstw : Memref sig .tc sp sh' e'} (hN : dstw.view.dmaCredit = pageN) {h1 h2} :
    iprop(slotWait c s pg fK fV 15 ∗ debt c O)
      ⊢ iprop((iprop(slotFull c s pg fK fV ∗ debt c O) -∗ wp frame (wpE defs 𝒱₀ (c : Thread nD τ) none) Set.univ (k ⟨⟩) Q)
      -∗ wp frame (wpE defs 𝒱₀ (c : Thread nD τ) none) Set.univ (.op (.waitDma2 sem srcw dstw h1 h2) k) Q) := by
  subst es
  unfold slotWait debt
  iintro ⟨HB, ⟨%W, HO⟩, #Hlev⟩ Hw
  iapply (Transfers.wp_waitBatchLastO EC 𝒱₀ (c : Thread nD τ) none () hN pageN_pos (D := deliv c s pg fK fV) (u := 15 * pageN)
    (by omega) (O := O) (W := W)) $$ [HB HO]
  · isplitl [HB]; · iexact HB
    isplitl [HO]; · iexact HO
    iapply hM; iexact Hlev
  iintro ⟨HD, Hs, HO⟩
  iapply Hw
  isplitr [HO]
  · ihave HD' := (show bigSep Finset.univ (deliv c s pg fK fV) ⊢ iprop((kLoc c ↦[span s 0 256]{fullShare} slab fK pg)
        ∗ (vLoc c ↦[span s 0 256]{fullShare} slab fV pg) : sProp 𝕄) from by
      rw [← Transfers.issued_all (m := 16) rfl]; exact deliv_join c s pg fK fV 16 (le_refl _)) $$ HD
    icases HD' with ⟨Hk, Hv⟩
    unfold slotFull
    isplitl [Hk]; · iexact Hk
    isplitl [Hv]; · iexact Hv
    iexact Hs
  isplitl [HO]; · iexists _; iexact HO
  iexact Hlev

end Steps

end Cert.Proof

end
-- ==== Proof.Entry.lean ====
/- Reading an entry of a row of the page table, and starting the first chunk of a row. -/
module

public import proofs.«01_k».proof.Proof.Pages
public import proofs.«01_k».proof.Proof.Gen.KernelIdeal.Skeleton

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The page table as the core holds it. -/
abbrev Table : Type := S32x256.Idx → BitVec 32
/-- Where the page table lies. -/
abbrev tLoc (c : Dev nD) : Loc nD τ sig := (Memref.whole main_v23).view.loc (c : Thread nD τ)

/-- The page table held whole. -/
def table (c : Dev nD) (tab : Table) : sProp 𝕄 := tLoc c ↦{fullShare} (show Buf (Elt F) (tLoc c) from tab)

/-- Entry `n` of a row of the page table. -/
def tabAt (tab : Table) (r : Fin 32) (n : ℕ) : BitVec 32 := tab (ix2 r (Fin.ofNat 256 n))

/-- The eight pages of chunk `t` of a row. -/
def pages (tab : Table) (r : Fin 32) (t j : ℕ) : ℕ := (tabAt tab r (8 * t + j)).toNat

/-- Semaphore `s` of a pair laid at `base`, as the kernel takes it. -/
theorem pair_sem {n base : ℕ} (hb : base + S2.numel ≤ n) {s : ℕ} {off : Fin 1 → ℕ} (ho : off = ![s]) {h} :
    ((((SemArray.consecutive base S2 hb).slice (Rect.unit (s := S2) off S1.size h)).squeeze S_ squeezes_S1_S_).sem).val = base + s := by
  subst ho
  refine congrArg (base + ·) ((Shape.rowMajor_val_one _).trans ((rect_emb_unit_val _ _ _ _ _).trans ?_))
  have := ((Shape.reshapeEquiv squeezes_S1_S_.numel_eq fun i : Fin 0 => i.elim0) 0).isLt
  have h1 : (Rect.unit (s := S2) ![s] S1.size h).shape.size 0 = 1 := rfl
  show s + _ = s
  omega

/-- The page semaphore of slot `s`. -/
theorem page_sem {s : Fin 2} {off : Fin 1 → ℕ} (ho : off = ![s.val]) {h} :
    ((cc0_scratch6.slice (Rect.unit (s := S2) off S1.size h)).squeeze S_ squeezes_S1_S_).sem = pageS s :=
  Fin.ext (pair_sem _ ho)

section

variable {Λ : Labels} {defs : Defs nD τ sig (Elt F) Λ} {α : Type} {Q : α → sProp (MT nD τ sig Unit (Elt F) ℕ UU ℕ)} {c : Dev nD}

/-- What a load of one entry of the table reads. -/
theorem entry_read {tab : Table} {r : Fin 32} {n : ℕ} (hn : n < 256) {off : Fin 2 → ℕ} (ho : off = ![r.val, n]) {hin}
    (x : (Rect.unit (s := S32x256) off S1x1.size hin).shape.Idx) :
    (show BitVec 32 from ((Memref.whole main_v23).access (Rect.unit (s := S32x256) off S1x1.size hin)).read (Elt F) tab x) = tabAt tab r n := by
  subst ho
  show ((Memref.whole main_v23).access (Rect.unit (s := S32x256) ![r.val, n] S1x1.size hin)).read (Elt F) tab x = tabAt tab r n
  rw [View.read_apply]
  unfold tabAt
  refine congrArg tab ?_
  refine funext fun a => Fin.ext ?_
  have hx : ∀ a, (x a).val = 0 := fun a => by have := (x a).isLt; fin_cases a <;> (revert this; simp [S1x1])
  refine (rect_emb_unit_val _ _ _ _ _).trans ?_
  rw [hx]
  fin_cases a
  · rfl
  · exact (Nat.mod_eq_of_lt hn).symm

/-- Read an entry of the table and pass the check on it: whatever was read is the entry. -/
theorem wp_entry {tab : Table} {r : Fin 32} {n : ℕ} (hn : n < 256) {off : Fin 2 → ℕ} (ho : off = ![r.val, n]) {hin hw}
    {x : (Rect.unit (s := S32x256) off S1x1.size hin).shape.Idx}
    {P : ((Rect.unit (s := S32x256) off S1x1.size hin).shape.Idx → Elt F .i32) → Prop} {d : ∀ w, Decidable (P w)}
    (hP : ∀ f, f x = tabAt tab r n → P f)
    {k : ∀ w, PLift (P w) → Prog (TpuEff nD τ sig (Elt F) Λ .tc) α} :
    table (F := F) c tab ⊢ iprop((∀ f, ⌜f x = tabAt tab r n⌝ -∗ ∀ h, table (F := F) c tab -∗ wp frame (wpE defs 𝒱₀ (c : Thread nD τ) none) Set.univ (k f h) Q)
      -∗ wp frame (wpE defs 𝒱₀ (c : Thread nD τ) none) Set.univ
        (.op (.load (e := .i32) (Memref.whole main_v23) (Rect.unit (s := S32x256) off S1x1.size hin).toLoadRect hw) (fun w => .op (.assume (P w) (d w)) (k w))) Q) := by
  have e := fun x => entry_read (F := F) (tab := tab) hn ho (hin := hin) x
  unfold table
  iintro HT Hw
  iapply (wp_load_rect 𝒱₀ (c : Thread nD τ) none Set.univ (m := Memref.whole main_v23)
    (r := Rect.unit (s := S32x256) off S1x1.size hin) (Finset.subset_univ _)) $$ HT
  iintro HT
  iapply (wp_assume 𝒱₀ (c : Thread nD τ) none Set.univ (hP _ (e x)))
  iapply Hw $$ [] HT
  ipureintro; exact e x

/-- Run a part of the body by what was proved of it. -/
theorem wp_call {β : Type} {R : sProp (MT nD τ sig Unit (Elt F) ℕ UU ℕ)} {p : Prog (TpuEff nD τ sig (Elt F) Λ .tc) β}
    {Q' : β → sProp (MT nD τ sig Unit (Elt F) ℕ UU ℕ)} {k : β → Prog (TpuEff nD τ sig (Elt F) Λ .tc) α}
    (h : R ⊢ wp frame (wpE defs 𝒱₀ (c : Thread nD τ) none) Set.univ p Q') :
    R ⊢ iprop((∀ x, Q' x -∗ wp frame (wpE defs 𝒱₀ (c : Thread nD τ) none) Set.univ (k x) Q)
      -∗ wp frame (wpE defs 𝒱₀ (c : Thread nD τ) none) Set.univ (p >>= k) Q) := by
  rw [wp_bind]
  exact h.trans (wp_wand _ _ _)

end

section First

variable {c : Dev nD} {tab : Table} {r : Fin 32} {fK fV : Cache F} (htab : ∀ j, (tab j).toNat < 256)
  {i : grid0.Coords} (hi : (i 0).val = r.val)
  {arg2 : Memref sig .tc .smem S32 .i32} {harg2 : arg2.IsWhole} {arg3 : Memref sig .tc .vmem S1x1x16x128 .f32} {harg3 : arg3.IsWhole}
  {arg6 : Memref sig .tc .vmem S32x1x16x128 .f32} {harg6 : arg6.IsWhole} {arg9 : Memref sig .tc .vmem S32x16x128 .f32} {harg9 : arg9.IsWhole}
  {arg10 : Memref sig .tc .vmem S32x16 .f32} {harg10 : arg10.IsWhole} {arg11 : Memref sig .tc .vmem S32x16x128 .f32} {harg11 : arg11.IsWhole}
  {arg12 : Memref sig .tc .vmem S32x16 .f32} {harg12 : arg12.IsWhole} {arg14 arg15 : DmaSems sig S2} {arg0 v15 : BitVec 32}
  {h2 : k0_cond2 v15 = 1#1}
include htab hi

omit hi in
/-- An entry of the table that a load read names a page of the cache. -/
theorem entry_lt {w : BitVec 32} {n : ℕ} (hw : w = tabAt tab r n) : w.toNat < 256 := by rw [hw]; exact htab _

theorem first1 :
    iprop(filling c 0 (pages tab r 0) fK fV 0 ∗ table (F := F) c tab)
      ⊢ wp frame (wpE (defs₀ (F := F)) 𝒱₀ (c : Thread nD τ) none) Set.univ
        (k0_part1 i (Memref.whole main_v23) (Memref.isWhole_whole _) arg2 harg2 arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) arg9 harg9 arg10 harg10 arg11 harg11 arg12 harg12 cc0_scratch6 arg14 arg15 arg0 v15 h2)
        fun x => iprop(⌜x.1 = tabAt tab r 1⌝ ∗ filling c 0 (pages tab r 0) fK fV 3 ∗ table (F := F) c tab) := by
  rw [k0_part1_eq_skeleton]
  unfold k0_part1_skel
  simp only [smemLoad, smemLoadElt, Prog.bind_op, Prog.bind_ret, Prog.bind_lift, Prog.pure_eq_ret]
  iintro ⟨HF, HT⟩
  iapply (wp_entry (r := r) (n := 0) (by omega) ((k0_off2_eq i).trans (by rw [hi])) (fun f hf _ => inb_page (entry_lt htab hf))) $$ HT
  iintro %f %hf %h HT
  iapply (issueK (n := 0) rfl (by omega) (entry_lt htab hf) (congrArg BitVec.toNat hf.symm) rfl rfl (page_sem rfl)) $$ HF
  iintro HF
  iapply (issueV (n := 1) rfl (by omega) (entry_lt htab hf) (congrArg BitVec.toNat hf.symm) rfl rfl (page_sem rfl)) $$ HF
  iintro HF
  iapply (wp_entry (r := r) (n := 1) (by omega) ((k0_off4_eq i).trans (by rw [hi])) (fun f hf _ => inb_page (entry_lt htab hf))) $$ HT
  iintro %f' %hf' %h' HT
  iapply (issueK (n := 2) rfl (by omega) (entry_lt htab hf') (congrArg BitVec.toNat hf'.symm) rfl rfl (page_sem rfl)) $$ HF
  iintro HF
  rw [wp_ret]; imodintro
  isplitr; · ipureintro; exact hf'
  isplitl [HF]; · iexact HF
  iexact HT

theorem first2 {w : BitVec 32} (hf : w = tabAt tab r 1) {h} :
    iprop(filling c 0 (pages tab r 0) fK fV 3 ∗ table (F := F) c tab)
      ⊢ wp frame (wpE (defs₀ (F := F)) 𝒱₀ (c : Thread nD τ) none) Set.univ
        (k0_part2 i (Memref.whole main_v23) (Memref.isWhole_whole _) arg2 harg2 arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) arg9 harg9 arg10 harg10 arg11 harg11 arg12 harg12 cc0_scratch6 arg14 arg15 arg0 v15 h2 w h)
        fun x => iprop(⌜x.1 = tabAt tab r 3⌝ ∗ filling c 0 (pages tab r 0) fK fV 6 ∗ table (F := F) c tab) := by
  rw [k0_part2_eq_skeleton]
  unfold k0_part2_skel
  simp only [smemLoad, smemLoadElt, Prog.bind_op, Prog.bind_ret, Prog.bind_lift, Prog.pure_eq_ret]
  iintro ⟨HF, HT⟩
  iapply (issueV (n := 3) rfl (by omega) (entry_lt htab hf) (congrArg BitVec.toNat hf.symm) rfl rfl (page_sem rfl)) $$ HF
  iintro HF
  iapply (wp_entry (r := r) (n := 2) (by omega) ((k0_off6_eq i).trans (by rw [hi])) (fun f hf _ => inb_page (entry_lt htab hf))) $$ HT
  iintro %f' %hf' %h' HT
  iapply (issueK (n := 4) rfl (by omega) (entry_lt htab hf') (congrArg BitVec.toNat hf'.symm) rfl rfl (page_sem rfl)) $$ HF
  iintro HF
  iapply (issueV (n := 5) rfl (by omega) (entry_lt htab hf') (congrArg BitVec.toNat hf'.symm) rfl rfl (page_sem rfl)) $$ HF
  iintro HF
  iapply (wp_entry (r := r) (n := 3) (by omega) ((k0_off8_eq i).trans (by rw [hi])) (fun f hf _ => inb_page (entry_lt htab hf))) $$ HT
  iintro %f2 %hf2 %h2 HT
  rw [wp_ret]; imodintro
  isplitr; · ipureintro; exact hf2
  isplitl [HF]; · iexact HF
  iexact HT

theorem first3 {w : BitVec 32} (hf : w = tabAt tab r 3) {h} :
    iprop(filling c 0 (pages tab r 0) fK fV 6 ∗ table (F := F) c tab)
      ⊢ wp frame (wpE (defs₀ (F := F)) 𝒱₀ (c : Thread nD τ) none) Set.univ
        (k0_part3 i (Memref.whole main_v23) (Memref.isWhole_whole _) arg2 harg2 arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) arg9 harg9 arg10 harg10 arg11 harg11 arg12 harg12 cc0_scratch6 arg14 arg15 arg0 v15 h2 w h)
        fun x => iprop(⌜x.1 = tabAt tab r 5⌝ ∗ filling c 0 (pages tab r 0) fK fV 10 ∗ table (F := F) c tab) := by
  rw [k0_part3_eq_skeleton]
  unfold k0_part3_skel
  simp only [smemLoad, smemLoadElt, Prog.bind_op, Prog.bind_ret, Prog.bind_lift, Prog.pure_eq_ret]
  iintro ⟨HF, HT⟩
  iapply (issueK (n := 6) rfl (by omega) (entry_lt htab hf) (congrArg BitVec.toNat hf.symm) rfl rfl (page_sem rfl)) $$ HF
  iintro HF
  iapply (issueV (n := 7) rfl (by omega) (entry_lt htab hf) (congrArg BitVec.toNat hf.symm) rfl rfl (page_sem rfl)) $$ HF
  iintro HF
  iapply (wp_entry (r := r) (n := 4) (by omega) ((k0_off10_eq i).trans (by rw [hi])) (fun f hf _ => inb_page (entry_lt htab hf))) $$ HT
  iintro %f' %hf' %h' HT
  iapply (issueK (n := 8) rfl (by omega) (entry_lt htab hf') (congrArg BitVec.toNat hf'.symm) rfl rfl (page_sem rfl)) $$ HF
  iintro HF
  iapply (issueV (n := 9) rfl (by omega) (entry_lt htab hf') (congrArg BitVec.toNat hf'.symm) rfl rfl (page_sem rfl)) $$ HF
  iintro HF
  iapply (wp_entry (r := r) (n := 5) (by omega) ((k0_off12_eq i).trans (by rw [hi])) (fun f hf _ => inb_page (entry_lt htab hf))) $$ HT
  iintro %f2 %hf2 %h2 HT
  rw [wp_ret]; imodintro
  isplitr; · ipureintro; exact hf2
  isplitl [HF]; · iexact HF
  iexact HT

theorem first4 {w : BitVec 32} (hf : w = tabAt tab r 5) {h} :
    iprop(filling c 0 (pages tab r 0) fK fV 10 ∗ table (F := F) c tab)
      ⊢ wp frame (wpE (defs₀ (F := F)) 𝒱₀ (c : Thread nD τ) none) Set.univ
        (k0_part4 i (Memref.whole main_v23) (Memref.isWhole_whole _) arg2 harg2 arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) arg9 harg9 arg10 harg10 arg11 harg11 arg12 harg12 cc0_scratch6 arg14 arg15 arg0 v15 h2 w h)
        fun _ => iprop(filling c 0 (pages tab r 0) fK fV 14 ∗ table (F := F) c tab) := by
  rw [k0_part4_eq_skeleton]
  unfold k0_part4_skel
  simp only [smemLoad, smemLoadElt, Prog.bind_op, Prog.bind_ret, Prog.bind_lift, Prog.pure_eq_ret]
  iintro ⟨HF, HT⟩
  iapply (issueK (n := 10) rfl (by omega) (entry_lt htab hf) (congrArg BitVec.toNat hf.symm) rfl rfl (page_sem rfl)) $$ HF
  iintro HF
  iapply (issueV (n := 11) rfl (by omega) (entry_lt htab hf) (congrArg BitVec.toNat hf.symm) rfl rfl (page_sem rfl)) $$ HF
  iintro HF
  iapply (wp_entry (r := r) (n := 6) (by omega) ((k0_off14_eq i).trans (by rw [hi])) (fun f hf _ => inb_page (entry_lt htab hf))) $$ HT
  iintro %f' %hf' %h' HT
  iapply (issueK (n := 12) rfl (by omega) (entry_lt htab hf') (congrArg BitVec.toNat hf'.symm) rfl rfl (page_sem rfl)) $$ HF
  iintro HF
  iapply (issueV (n := 13) rfl (by omega) (entry_lt htab hf') (congrArg BitVec.toNat hf'.symm) rfl rfl (page_sem rfl)) $$ HF
  iintro HF
  rw [wp_ret]; imodintro
  isplitl [HF]; · iexact HF
  iexact HT

end First

end Cert.Proof
-- ==== Proof.Next.lean ====
/- Starting the next chunk of a row while the current one is on its way. -/
module

public import proofs.«01_k».proof.Proof.Entry

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Offsets of the current slot and the next, as the kernel computes them -/

section Offsets

variable {t : ℕ} (ht : t < 32)
include ht

theorem next_entry {i : grid0.Coords} {r : Fin 32} (hi : (i 0).val = r.val) {j : ℕ} (hj : j < 8) :
    (![(Scalar.indexCast (BitVec.ofNat 32 (i 0).val) : Index).toNat,
        (Scalar.indexCast (Scalar.addi (Scalar.muli (Scalar.addi (Scf.iv 0#32 1#32 t) 1#32) 8#32) (BitVec.ofNat 32 j)) : Index).toNat] : Fin 2 → ℕ)
      = ![r.val, 8 * (t + 1) + j] := by
  rw [row_word, col_next t ht j hj, hi]

theorem next_sem {s : Fin 2} (hs : s.val = (t + 1) % 2) :
    (![(Scalar.subi 1#32 (Scalar.remsi (Scf.iv 0#32 1#32 t) 2#32)).toNat] : Fin 1 → ℕ) = ![s.val] := by
  rw [slot_next t ht, hs]

theorem next_win {s : Fin 2} (hs : s.val = (t + 1) % 2) (n : ℕ) :
    (![(Scalar.subi 1#32 (Scalar.remsi (Scf.iv 0#32 1#32 t) 2#32)).toNat, n, 0, 0] : Fin 4 → ℕ) = ![s.val, n, 0, 0] := by
  rw [slot_next t ht, hs]

theorem now_sem {s : Fin 2} (hs : s.val = t % 2) :
    (![(Scalar.remsi (Scf.iv 0#32 1#32 t) 2#32).toNat] : Fin 1 → ℕ) = ![s.val] := by
  rw [slot_now t ht, hs]

theorem now_win {s : Fin 2} (hs : s.val = t % 2) (n : ℕ) :
    (![(Scalar.remsi (Scf.iv 0#32 1#32 t) 2#32).toNat, n, 0, 0] : Fin 4 → ℕ) = ![s.val, n, 0, 0] := by
  rw [slot_now t ht, hs]

end Offsets

section Parts

variable {c : Dev nD} {tab : Table} {r : Fin 32} {fK fV : Cache F} (htab : ∀ j, (tab j).toNat < 256)
  {i : grid0.Coords} (hi : (i 0).val = r.val)
  {arg2 : Memref sig .tc .smem S32 .i32} {harg2 : arg2.IsWhole} {arg3 : Memref sig .tc .vmem S1x1x16x128 .f32} {harg3 : arg3.IsWhole}
  {arg6 : Memref sig .tc .vmem S32x1x16x128 .f32} {harg6 : arg6.IsWhole} {arg9 : Memref sig .tc .vmem S32x16x128 .f32} {harg9 : arg9.IsWhole}
  {arg10 : Memref sig .tc .vmem S32x16 .f32} {harg10 : arg10.IsWhole} {arg11 : Memref sig .tc .vmem S32x16x128 .f32} {harg11 : arg11.IsWhole}
  {arg12 : Memref sig .tc .vmem S32x16 .f32} {harg12 : arg12.IsWhole} {arg14 arg15 : DmaSems sig S2} {arg0 v15 : BitVec 32} {h9 : k0_chk9 i v15}
  {t : Fin (k0_t1_loop v15).trips} (ht : t.val < 31) {s : Fin 2} (hs : s.val = (t.val + 1) % 2) {h3 : k0_cond3 v15 t = 1#1}
include htab hi ht hs

theorem next5 {a16 v61 : BitVec 32} :
    iprop(filling c s (pages tab r (t.val + 1)) fK fV 0 ∗ table (F := F) c tab)
      ⊢ wp frame (wpE (defs₀ (F := F)) 𝒱₀ (c : Thread nD τ) none) Set.univ
        (k0_part5 i (Memref.whole main_v23) (Memref.isWhole_whole _) arg2 harg2 arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) arg9 harg9 arg10 harg10 arg11 harg11 arg12 harg12 cc0_scratch6 arg14 arg15 arg0 v15 h9 t a16 v61 h3)
        fun x => iprop(⌜x.2.1 = tabAt tab r (8 * (t.val + 1) + 1)⌝ ∗ filling c s (pages tab r (t.val + 1)) fK fV 3 ∗ table (F := F) c tab) := by
  have ht' : t.val < 32 := by omega
  rw [k0_part5_eq_skeleton]
  unfold k0_part5_skel
  simp only [smemLoad, smemLoadElt, Prog.bind_op, Prog.bind_ret, Prog.bind_lift, Prog.pure_eq_ret]
  iintro ⟨HF, HT⟩
  iapply (wp_entry (r := r) (n := 8 * (t.val + 1) + 0) (by omega) (next_entry ht' hi (by omega)) (fun f hf _ => inb_page (entry_lt htab hf))) $$ HT
  iintro %f %hf %h HT
  iapply (issueK (n := 0) rfl (by omega) (entry_lt htab hf) (congrArg BitVec.toNat hf.symm) rfl (next_win ht' hs _) (page_sem (next_sem ht' hs))) $$ HF
  iintro HF
  iapply (issueV (n := 1) rfl (by omega) (entry_lt htab hf) (congrArg BitVec.toNat hf.symm) rfl (next_win ht' hs _) (page_sem (next_sem ht' hs))) $$ HF
  iintro HF
  iapply (wp_entry (r := r) (n := 8 * (t.val + 1) + 1) (by omega) (next_entry ht' hi (by omega)) (fun f hf _ => inb_page (entry_lt htab hf))) $$ HT
  iintro %f' %hf' %h' HT
  iapply (issueK (n := 2) rfl (by omega) (entry_lt htab hf') (congrArg BitVec.toNat hf'.symm) rfl (next_win ht' hs _) (page_sem (next_sem ht' hs))) $$ HF
  iintro HF
  rw [wp_ret]; imodintro
  isplitr; · ipureintro; exact hf'
  isplitl [HF]; · iexact HF
  iexact HT

theorem next6 {v194 w : BitVec 32} (hf : w = tabAt tab r (8 * (t.val + 1) + 1)) {h} :
    iprop(filling c s (pages tab r (t.val + 1)) fK fV 3 ∗ table (F := F) c tab)
      ⊢ wp frame (wpE (defs₀ (F := F)) 𝒱₀ (c : Thread nD τ) none) Set.univ
        (k0_part6 i (Memref.whole main_v23) (Memref.isWhole_whole _) arg2 harg2 arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) arg9 harg9 arg10 harg10 arg11 harg11 arg12 harg12 cc0_scratch6 arg14 arg15 arg0 v15 h9 t h3 v194 w h)
        fun x => iprop(⌜x.1 = tabAt tab r (8 * (t.val + 1) + 3)⌝ ∗ filling c s (pages tab r (t.val + 1)) fK fV 6 ∗ table (F := F) c tab) := by
  have ht' : t.val < 32 := by omega
  rw [k0_part6_eq_skeleton]
  unfold k0_part6_skel
  simp only [smemLoad, smemLoadElt, Prog.bind_op, Prog.bind_ret, Prog.bind_lift, Prog.pure_eq_ret]
  iintro ⟨HF, HT⟩
  iapply (issueV (n := 3) rfl (by omega) (entry_lt htab hf) (congrArg BitVec.toNat hf.symm) rfl (next_win ht' hs _) (page_sem (next_sem ht' hs))) $$ HF
  iintro HF
  iapply (wp_entry (r := r) (n := 8 * (t.val + 1) + 2) (by omega) (next_entry ht' hi (by omega)) (fun f hf _ => inb_page (entry_lt htab hf))) $$ HT
  iintro %f' %hf' %h' HT
  iapply (issueK (n := 4) rfl (by omega) (entry_lt htab hf') (congrArg BitVec.toNat hf'.symm) rfl (next_win ht' hs _) (page_sem (next_sem ht' hs))) $$ HF
  iintro HF
  iapply (issueV (n := 5) rfl (by omega) (entry_lt htab hf') (congrArg BitVec.toNat hf'.symm) rfl (next_win ht' hs _) (page_sem (next_sem ht' hs))) $$ HF
  iintro HF
  iapply (wp_entry (r := r) (n := 8 * (t.val + 1) + 3) (by omega) (next_entry ht' hi (by omega)) (fun f hf _ => inb_page (entry_lt htab hf))) $$ HT
  iintro %f2 %hf2 %h2 HT
  rw [wp_ret]; imodintro
  isplitr; · ipureintro; exact hf2
  isplitl [HF]; · iexact HF
  iexact HT

theorem next7 {v194 w : BitVec 32} (hf : w = tabAt tab r (8 * (t.val + 1) + 3)) {h} :
    iprop(filling c s (pages tab r (t.val + 1)) fK fV 6 ∗ table (F := F) c tab)
      ⊢ wp frame (wpE (defs₀ (F := F)) 𝒱₀ (c : Thread nD τ) none) Set.univ
        (k0_part7 i (Memref.whole main_v23) (Memref.isWhole_whole _) arg2 harg2 arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) arg9 harg9 arg10 harg10 arg11 harg11 arg12 harg12 cc0_scratch6 arg14 arg15 arg0 v15 h9 t h3 v194 w h)
        fun _ => iprop(filling c s (pages tab r (t.val + 1)) fK fV 10 ∗ table (F := F) c tab) := by
  have ht' : t.val < 32 := by omega
  rw [k0_part7_eq_skeleton]
  unfold k0_part7_skel
  simp only [smemLoad, smemLoadElt, Prog.bind_op, Prog.bind_ret, Prog.bind_lift, Prog.pure_eq_ret]
  iintro ⟨HF, HT⟩
  iapply (issueK (n := 6) rfl (by omega) (entry_lt htab hf) (congrArg BitVec.toNat hf.symm) rfl (next_win ht' hs _) (page_sem (next_sem ht' hs))) $$ HF
  iintro HF
  iapply (issueV (n := 7) rfl (by omega) (entry_lt htab hf) (congrArg BitVec.toNat hf.symm) rfl (next_win ht' hs _) (page_sem (next_sem ht' hs))) $$ HF
  iintro HF
  iapply (wp_entry (r := r) (n := 8 * (t.val + 1) + 4) (by omega) (next_entry ht' hi (by omega)) (fun f hf _ => inb_page (entry_lt htab hf))) $$ HT
  iintro %f' %hf' %h' HT
  iapply (issueK (n := 8) rfl (by omega) (entry_lt htab hf') (congrArg BitVec.toNat hf'.symm) rfl (next_win ht' hs _) (page_sem (next_sem ht' hs))) $$ HF
  iintro HF
  iapply (issueV (n := 9) rfl (by omega) (entry_lt htab hf') (congrArg BitVec.toNat hf'.symm) rfl (next_win ht' hs _) (page_sem (next_sem ht' hs))) $$ HF
  iintro HF
  rw [wp_ret]; imodintro
  isplitl [HF]; · iexact HF
  iexact HT

theorem next8 {v194 : BitVec 32} :
    iprop(filling c s (pages tab r (t.val + 1)) fK fV 10 ∗ table (F := F) c tab)
      ⊢ wp frame (wpE (defs₀ (F := F)) 𝒱₀ (c : Thread nD τ) none) Set.univ
        (k0_part8 i (Memref.whole main_v23) (Memref.isWhole_whole _) arg2 harg2 arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) arg9 harg9 arg10 harg10 arg11 harg11 arg12 harg12 cc0_scratch6 arg14 arg15 arg0 v15 h9 t h3 v194)
        fun x => iprop(⌜x.1 = tabAt tab r (8 * (t.val + 1) + 6)⌝ ∗ filling c s (pages tab r (t.val + 1)) fK fV 13 ∗ table (F := F) c tab) := by
  have ht' : t.val < 32 := by omega
  rw [k0_part8_eq_skeleton]
  unfold k0_part8_skel
  simp only [smemLoad, smemLoadElt, Prog.bind_op, Prog.bind_ret, Prog.bind_lift, Prog.pure_eq_ret]
  iintro ⟨HF, HT⟩
  iapply (wp_entry (r := r) (n := 8 * (t.val + 1) + 5) (by omega) (next_entry ht' hi (by omega)) (fun f hf _ => inb_page (entry_lt htab hf))) $$ HT
  iintro %f %hf %h HT
  iapply (issueK (n := 10) rfl (by omega) (entry_lt htab hf) (congrArg BitVec.toNat hf.symm) rfl (next_win ht' hs _) (page_sem (next_sem ht' hs))) $$ HF
  iintro HF
  iapply (issueV (n := 11) rfl (by omega) (entry_lt htab hf) (congrArg BitVec.toNat hf.symm) rfl (next_win ht' hs _) (page_sem (next_sem ht' hs))) $$ HF
  iintro HF
  iapply (wp_entry (r := r) (n := 8 * (t.val + 1) + 6) (by omega) (next_entry ht' hi (by omega)) (fun f hf _ => inb_page (entry_lt htab hf))) $$ HT
  iintro %f' %hf' %h' HT
  iapply (issueK (n := 12) rfl (by omega) (entry_lt htab hf') (congrArg BitVec.toNat hf'.symm) rfl (next_win ht' hs _) (page_sem (next_sem ht' hs))) $$ HF
  iintro HF
  rw [wp_ret]; imodintro
  isplitr; · ipureintro; exact hf'
  isplitl [HF]; · iexact HF
  iexact HT

end Parts

end Cert.Proof
-- ==== Proof.Chunk.lean ====
/- One trip of the row's loop: start the next chunk, wait for the sixteen copies of the current one, read its slabs and
   fold them into the carried pair. -/
module

public import proofs.«01_k».proof.Proof.Next

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A slot's slab as the kernel loads it. -/
def slabV (f : Cache F) (pg : ℕ → ℕ) : Vec F S1x256x16x128 .f32 := fun x =>
  slab f pg (ix4 (0 : Fin 2) (x 1) (x 2) (x 3))

/-- A slot that holds the next chunk on its way if there is one, and is free otherwise. -/
def ahead (c : Dev nD) (s : Fin 2) (pg : ℕ → ℕ) (fK fV : Cache F) (b : Prop) [Decidable b] : sProp 𝕄 :=
  if b then slotWait c s pg fK fV 0 else slotFree c s

/-- The load of a whole slot touches the slot only. -/
theorem slot_subset {s : ℕ} (h) :
    ((Memref.whole cc0_scratch0).access (Rect.unit (s := S2x256x16x128) ![s, 0, 0, 0] S1x256x16x128.size h)).set ⊆ span s 0 256 := by
  intro (i : S2x256x16x128.Idx) hi
  obtain ⟨x, -, rfl⟩ := Finset.mem_map.mp hi
  have h0 : ((Rect.unit (s := S2x256x16x128) ![s, 0, 0, 0] S1x256x16x128.size h).emb x 0 : ℕ) = s + (x 0).val := rect_emb_unit_val _ _ _ _ _
  have h1 : ((Rect.unit (s := S2x256x16x128) ![s, 0, 0, 0] S1x256x16x128.size h).emb x 1 : ℕ) = 0 + (x 1).val := rect_emb_unit_val _ _ _ _ _
  have x0 : (x 0).val < 1 := (x 0).isLt
  have x1 : (x 1).val < 256 := (x 1).isLt
  refine mem_span.mpr ⟨?_, Nat.zero_le _, ?_⟩
  · show ((Rect.unit (s := S2x256x16x128) ![s, 0, 0, 0] S1x256x16x128.size h).emb x 0 : ℕ) = s; omega
  · show ((Rect.unit (s := S2x256x16x128) ![s, 0, 0, 0] S1x256x16x128.size h).emb x 1 : ℕ) < 256; omega

/-- What the load of a whole slot reads. -/
theorem slot_read {s : ℕ} (h) (f : Cache F) (pg : ℕ → ℕ) :
    ((Memref.whole cc0_scratch0).access (Rect.unit (s := S2x256x16x128) ![s, 0, 0, 0] S1x256x16x128.size h)).read (Elt F) (slab f pg) = slabV f pg := by
  funext x
  rw [View.read_apply]
  show slab f pg ((Rect.unit (s := S2x256x16x128) ![s, 0, 0, 0] S1x256x16x128.size h).emb x) = _
  have e : ∀ a, ((Rect.unit (s := S2x256x16x128) ![s, 0, 0, 0] S1x256x16x128.size h).emb x a : ℕ) = ![s, 0, 0, 0] a + (x a).val := rect_emb_unit_val _ _ _ _
  have e1 : ((Rect.unit (s := S2x256x16x128) ![s, 0, 0, 0] S1x256x16x128.size h).emb x 1 : ℕ) = (x 1).val := (e 1).trans (Nat.zero_add _)
  have e2 : (Rect.unit (s := S2x256x16x128) ![s, 0, 0, 0] S1x256x16x128.size h).emb x 2 = x 2 := Fin.ext ((e 2).trans (Nat.zero_add _))
  have e3 : (Rect.unit (s := S2x256x16x128) ![s, 0, 0, 0] S1x256x16x128.size h).emb x 3 = x 3 := Fin.ext ((e 3).trans (Nat.zero_add _))
  unfold slabV slab
  refine congrArg f (funext fun a => ?_)
  fin_cases a
  · exact Fin.ext (congrArg (fun n => pg (n / 32) % 256) e1)
  · exact Fin.ext (congrArg (· % 32) e1)
  · exact e2
  · exact e3

section Loads

variable {Λ : Labels} {defs : Defs nD τ sig (Elt F) Λ} {α : Type} {Q : α → sProp (MT nD τ sig Unit (Elt F) ℕ UU ℕ)} {c : Dev nD}
  {s : Fin 2} {pg : ℕ → ℕ} {f : Cache F} {k : Vec F S1x256x16x128 .f32 → Prog (TpuEff nD τ sig (Elt F) Λ .tc) α}

theorem loadK {off : Fin 4 → ℕ} (ho : off = ![s.val, 0, 0, 0]) {h hl} :
    (kLoc c ↦[span s 0 256]{fullShare} slab f pg)
      ⊢ iprop(((kLoc c ↦[span s 0 256]{fullShare} slab f pg) -∗ wp frame (wpE defs 𝒱₀ (c : Thread nD τ) none) Set.univ (k (slabV f pg)) Q)
      -∗ wp frame (wpE defs 𝒱₀ (c : Thread nD τ) none) Set.univ
        (.op (.load (e := .f32) (Memref.whole cc0_scratch0) (Rect.unit (s := S2x256x16x128) off S1x256x16x128.size h).toLoadRect hl) k) Q) := by
  subst ho
  iintro HK Hw
  iapply (wp_load_rect 𝒱₀ (c : Thread nD τ) none Set.univ (m := Memref.whole cc0_scratch0)
    (r := Rect.unit (s := S2x256x16x128) ![s.val, 0, 0, 0] S1x256x16x128.size h) (slot_subset h)) $$ HK
  iintro HK
  ihave Hw2 := Hw $$ HK
  iapply (Entails.of_eq (congrArg (fun v => wp frame (wpE defs 𝒱₀ (c : Thread nD τ) none) Set.univ (k v) Q) (slot_read h f pg).symm)) $$ Hw2

theorem loadV {off : Fin 4 → ℕ} (ho : off = ![s.val, 0, 0, 0]) {h hl} :
    (vLoc c ↦[span s 0 256]{fullShare} slab f pg)
      ⊢ iprop(((vLoc c ↦[span s 0 256]{fullShare} slab f pg) -∗ wp frame (wpE defs 𝒱₀ (c : Thread nD τ) none) Set.univ (k (slabV f pg)) Q)
      -∗ wp frame (wpE defs 𝒱₀ (c : Thread nD τ) none) Set.univ
        (.op (.load (e := .f32) (Memref.whole cc0_scratch1) (Rect.unit (s := S2x256x16x128) off S1x256x16x128.size h).toLoadRect hl) k) Q) := by
  subst ho
  iintro HK Hw
  iapply (wp_load_rect 𝒱₀ (c : Thread nD τ) none Set.univ (m := Memref.whole cc0_scratch1)
    (r := Rect.unit (s := S2x256x16x128) ![s.val, 0, 0, 0] S1x256x16x128.size h) (slot_subset h)) $$ HK
  iintro HK
  ihave Hw2 := Hw $$ HK
  iapply (Entails.of_eq (congrArg (fun v => wp frame (wpE defs 𝒱₀ (c : Thread nD τ) none) Set.univ (k v) Q) (slot_read h f pg).symm)) $$ Hw2

end Loads

/-- A window of either page buffer is one page's credit. -/
theorem creditK {off : Fin 4 → ℕ} {h} : (winM (Memref.whole cc0_scratch0) off h).view.dmaCredit = pageN := rfl
theorem creditV {off : Fin 4 → ℕ} {h} : (winM (Memref.whole cc0_scratch1) off h).view.dmaCredit = pageN := rfl

section Trip

variable {c : Dev nD} {tab : Table} {r : Fin 32} {fK fV : Cache F} (htab : ∀ j, (tab j).toNat < 256)
  {i : grid0.Coords} (hi : (i 0).val = r.val) {O : CellTallies nD τ sig Unit}
  {arg2 : Memref sig .tc .smem S32 .i32} {harg2 : arg2.IsWhole} {arg3 : Memref sig .tc .vmem S1x1x16x128 .f32} {harg3 : arg3.IsWhole}
  {arg6 : Memref sig .tc .vmem S32x1x16x128 .f32} {harg6 : arg6.IsWhole} {arg9 : Memref sig .tc .vmem S32x16x128 .f32} {harg9 : arg9.IsWhole}
  {arg10 : Memref sig .tc .vmem S32x16 .f32} {harg10 : arg10.IsWhole} {arg11 : Memref sig .tc .vmem S32x16x128 .f32} {harg11 : arg11.IsWhole}
  {arg12 : Memref sig .tc .vmem S32x16 .f32} {harg12 : arg12.IsWhole} {arg14 arg15 : DmaSems sig S2} {arg0 v15 : BitVec 32} {h9 : k0_chk9 i v15}
  (hv : v15.toNat ≤ 256) {t : Fin (k0_t1_loop v15).trips} {s s' : Fin 2} (hs : s.val = t.val % 2) (hs' : s'.val = (t.val + 1) % 2)
  (hM : (levAts L lv : sProp (MT nD τ sig Unit (Elt F) ℕ UU ℕ)) ⊢ MayWait (c : Thread nD τ) (.dma (pageS s)) () O)

include htab hi hv hs hs' hM in
theorem part9 {v34 : BitVec 32} :
    iprop(caches c fK fV ∗ table (F := F) c tab ∗ slotWait c s (pages tab r t.val) fK fV 0 ∗ slotFree c s' ∗ debt c O)
      ⊢ wp frame (wpE (defs₀ (F := F)) 𝒱₀ (c : Thread nD τ) none) Set.univ
        (k0_part9 i (Memref.whole main_v23) (Memref.isWhole_whole _) arg2 harg2 arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) arg9 harg9 arg10 harg10 arg11 harg11 arg12 harg12 cc0_scratch6 arg14 arg15 arg0 v15 h9 v34 0#32 1#32 t)
        fun x => iprop(⌜x.1 = Scf.iv 0#32 1#32 t.val⌝ ∗ caches c fK fV ∗ table (F := F) c tab ∗ slotWait c s (pages tab r t.val) fK fV 3
          ∗ ahead c s' (pages tab r (t.val + 1)) fK fV (t.val + 1 < nch v15) ∗ debt c O) := by
  have ht' : t.val < 32 := trip_lt hv t
  rw [k0_part9_eq_skeleton]
  unfold k0_part9_skel
  by_cases h3 : k0_cond3 v15 t = 1#1
  · have ht : t.val < 31 := lt31 hv t h3
    have hc : t.val + 1 < nch v15 := (cond3_iff hv t).mp h3
    simp only [dif_pos h3, bind_assoc, smemLoad, smemLoadElt, Prog.bind_op, Prog.bind_ret, Prog.bind_lift, Prog.pure_eq_ret]
    iintro ⟨HC, HT, HW, HS, HD⟩
    imod (fill_start c s' (pages tab r (t.val + 1)) fK fV) $$ [HC HS] with HF
    · isplitl [HC]; · iexact HC
      iexact HS
    iapply (wp_call (next5 htab hi ht hs')) $$ [HF HT]
    · isplitl [HF]; · iexact HF
      iexact HT
    iintro %x ⟨%hx, HF, HT⟩
    iapply (wp_call (next6 htab hi ht hs' hx)) $$ [HF HT]
    · isplitl [HF]; · iexact HF
      iexact HT
    iintro %x1 ⟨%hx1, HF, HT⟩
    iapply (wp_call (next7 htab hi ht hs' hx1)) $$ [HF HT]
    · isplitl [HF]; · iexact HF
      iexact HT
    iintro %x2 ⟨HF, HT⟩
    iapply (wp_call (next8 htab hi ht hs')) $$ [HF HT]
    · isplitl [HF]; · iexact HF
      iexact HT
    iintro %x3 ⟨%hx3, HF, HT⟩
    iapply (issueV (n := 13) rfl (by omega) (entry_lt htab hx3) (congrArg BitVec.toNat hx3.symm) rfl (next_win ht' hs' _) (page_sem (next_sem ht' hs'))) $$ HF
    iintro HF
    iapply (wp_entry (r := r) (n := 8 * (t.val + 1) + 7) (by omega) (next_entry ht' hi (by omega)) (fun f hf _ => inb_page (entry_lt htab hf))) $$ HT
    iintro %f' %hf' %h' HT
    iapply (issueK (n := 14) rfl (by omega) (entry_lt htab hf') (congrArg BitVec.toNat hf'.symm) rfl (next_win ht' hs' _) (page_sem (next_sem ht' hs'))) $$ HF
    iintro HF
    iapply (issueV (n := 15) rfl (by omega) (entry_lt htab hf') (congrArg BitVec.toNat hf'.symm) rfl (next_win ht' hs' _) (page_sem (next_sem ht' hs'))) $$ HF
    iintro HF
    ihave HF2 := (fill_done c s' (pages tab r (t.val + 1)) fK fV) $$ HF
    icases HF2 with ⟨HC, HS⟩
    iapply (waitPage (u := 0) (by omega) hM (page_sem (now_sem ht' hs)) creditK) $$ [HW HD]
    · isplitl [HW]; · iexact HW
      iexact HD
    iintro ⟨HW, HD⟩
    iapply (waitPage (u := 1) (by omega) hM (page_sem (now_sem ht' hs)) creditV) $$ [HW HD]
    · isplitl [HW]; · iexact HW
      iexact HD
    iintro ⟨HW, HD⟩
    iapply (waitPage (u := 2) (by omega) hM (page_sem (now_sem ht' hs)) creditK) $$ [HW HD]
    · isplitl [HW]; · iexact HW
      iexact HD
    iintro ⟨HW, HD⟩
    rw [wp_ret]; imodintro
    isplitr; · ipureintro; rfl
    isplitl [HC]; · iexact HC
    isplitl [HT]; · iexact HT
    isplitl [HW]; · iexact HW
    isplitl [HS]; · unfold ahead; rw [if_pos hc]; iexact HS
    iexact HD
  · have hc : ¬ t.val + 1 < nch v15 := fun h => h3 ((cond3_iff hv t).mpr h)
    simp only [dif_neg h3, Prog.bind_op, Prog.bind_ret, Prog.bind_lift, Prog.pure_eq_ret]
    unfold ahead
    rw [if_neg hc]
    iintro ⟨HC, HT, HW, HS, HD⟩
    iapply (waitPage (u := 0) (by omega) hM (page_sem (now_sem ht' hs)) creditK) $$ [HW HD]
    · isplitl [HW]; · iexact HW
      iexact HD
    iintro ⟨HW, HD⟩
    iapply (waitPage (u := 1) (by omega) hM (page_sem (now_sem ht' hs)) creditV) $$ [HW HD]
    · isplitl [HW]; · iexact HW
      iexact HD
    iintro ⟨HW, HD⟩
    iapply (waitPage (u := 2) (by omega) hM (page_sem (now_sem ht' hs)) creditK) $$ [HW HD]
    · isplitl [HW]; · iexact HW
      iexact HD
    iintro ⟨HW, HD⟩
    rw [wp_ret]; imodintro
    isplitr; · ipureintro; rfl
    isplitl [HC]; · iexact HC
    isplitl [HT]; · iexact HT
    isplitl [HW]; · iexact HW
    isplitl [HS]; · iexact HS
    iexact HD

include hv hs hM in
theorem part10 {pg : ℕ → ℕ} :
    iprop(slotWait c s pg fK fV 3 ∗ debt c O)
      ⊢ wp frame (wpE (defs₀ (F := F)) 𝒱₀ (c : Thread nD τ) none) Set.univ
        (k0_part10 i (Memref.whole main_v23) (Memref.isWhole_whole _) arg2 harg2 arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) arg9 harg9 arg10 harg10 arg11 harg11 arg12 harg12 cc0_scratch6 arg14 arg15 v15 h9 t)
        fun _ => iprop(slotWait c s pg fK fV 7 ∗ debt c O) := by
  have ht' : t.val < 32 := trip_lt hv t
  rw [k0_part10_eq_skeleton]
  unfold k0_part10_skel
  simp only [Prog.bind_op, Prog.bind_ret, Prog.bind_lift, Prog.pure_eq_ret]
  iintro ⟨HW, HD⟩
  iapply (waitPage (u := 3) (by omega) hM (page_sem (now_sem ht' hs)) creditV) $$ [HW HD]
  · isplitl [HW]; · iexact HW
    iexact HD
  iintro ⟨HW, HD⟩
  iapply (waitPage (u := 4) (by omega) hM (page_sem (now_sem ht' hs)) creditK) $$ [HW HD]
  · isplitl [HW]; · iexact HW
    iexact HD
  iintro ⟨HW, HD⟩
  iapply (waitPage (u := 5) (by omega) hM (page_sem (now_sem ht' hs)) creditV) $$ [HW HD]
  · isplitl [HW]; · iexact HW
    iexact HD
  iintro ⟨HW, HD⟩
  iapply (waitPage (u := 6) (by omega) hM (page_sem (now_sem ht' hs)) creditK) $$ [HW HD]
  · isplitl [HW]; · iexact HW
    iexact HD
  iintro ⟨HW, HD⟩
  rw [wp_ret]; imodintro
  isplitl [HW]; · iexact HW
  iexact HD

include hv hs hM in
theorem part11 {pg : ℕ → ℕ} :
    iprop(slotWait c s pg fK fV 7 ∗ debt c O)
      ⊢ wp frame (wpE (defs₀ (F := F)) 𝒱₀ (c : Thread nD τ) none) Set.univ
        (k0_part11 i (Memref.whole main_v23) (Memref.isWhole_whole _) arg2 harg2 arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) arg9 harg9 arg10 harg10 arg11 harg11 arg12 harg12 cc0_scratch6 arg14 arg15 v15 h9 t)
        fun _ => iprop(slotWait c s pg fK fV 12 ∗ debt c O) := by
  have ht' : t.val < 32 := trip_lt hv t
  rw [k0_part11_eq_skeleton]
  unfold k0_part11_skel
  simp only [Prog.bind_op, Prog.bind_ret, Prog.bind_lift, Prog.pure_eq_ret]
  iintro ⟨HW, HD⟩
  iapply (waitPage (u := 7) (by omega) hM (page_sem (now_sem ht' hs)) creditV) $$ [HW HD]
  · isplitl [HW]; · iexact HW
    iexact HD
  iintro ⟨HW, HD⟩
  iapply (waitPage (u := 8) (by omega) hM (page_sem (now_sem ht' hs)) creditK) $$ [HW HD]
  · isplitl [HW]; · iexact HW
    iexact HD
  iintro ⟨HW, HD⟩
  iapply (waitPage (u := 9) (by omega) hM (page_sem (now_sem ht' hs)) creditV) $$ [HW HD]
  · isplitl [HW]; · iexact HW
    iexact HD
  iintro ⟨HW, HD⟩
  iapply (waitPage (u := 10) (by omega) hM (page_sem (now_sem ht' hs)) creditK) $$ [HW HD]
  · isplitl [HW]; · iexact HW
    iexact HD
  iintro ⟨HW, HD⟩
  iapply (waitPage (u := 11) (by omega) hM (page_sem (now_sem ht' hs)) creditV) $$ [HW HD]
  · isplitl [HW]; · iexact HW
    iexact HD
  iintro ⟨HW, HD⟩
  rw [wp_ret]; imodintro
  isplitl [HW]; · iexact HW
  iexact HD

include hv hs hM in
theorem part12 {pg : ℕ → ℕ} {v61 : BitVec 32} :
    iprop(slotWait c s pg fK fV 12 ∗ debt c O)
      ⊢ wp frame (wpE (defs₀ (F := F)) 𝒱₀ (c : Thread nD τ) none) Set.univ
        (k0_part12 i (Memref.whole main_v23) (Memref.isWhole_whole _) arg2 harg2 arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) arg9 harg9 arg10 harg10 arg11 harg11 arg12 harg12 cc0_scratch6 arg14 arg15 v15 h9 t v61)
        fun x => iprop(⌜x = k0_pay13 (slabV fK pg)⌝ ∗ slotFull c s pg fK fV ∗ debt c O) := by
  have ht' : t.val < 32 := trip_lt hv t
  rw [k0_part12_eq_skeleton]
  unfold k0_part12_skel
  simp only [Prog.bind_op, Prog.bind_ret, Prog.bind_lift, Prog.pure_eq_ret]
  iintro ⟨HW, HD⟩
  iapply (waitPage (u := 12) (by omega) hM (page_sem (now_sem ht' hs)) creditK) $$ [HW HD]
  · isplitl [HW]; · iexact HW
    iexact HD
  iintro ⟨HW, HD⟩
  iapply (waitPage (u := 13) (by omega) hM (page_sem (now_sem ht' hs)) creditV) $$ [HW HD]
  · isplitl [HW]; · iexact HW
    iexact HD
  iintro ⟨HW, HD⟩
  iapply (waitPage (u := 14) (by omega) hM (page_sem (now_sem ht' hs)) creditK) $$ [HW HD]
  · isplitl [HW]; · iexact HW
    iexact HD
  iintro ⟨HW, HD⟩
  iapply (waitLast hM (page_sem (now_sem ht' hs)) creditV) $$ [HW HD]
  · isplitl [HW]; · iexact HW
    iexact HD
  iintro ⟨HW, HD⟩
  unfold slotFull
  icases HW with ⟨HK, HV, Hs⟩
  iapply (loadK (now_win ht' hs 0)) $$ HK
  iintro HK
  rw [wp_ret]; imodintro
  isplitr; · ipureintro; rfl
  isplitr [HD]
  · isplitl [HK]; · iexact HK
    isplitl [HV]; · iexact HV
    iexact Hs
  iexact HD

include htab hi hv hs hs' hM in
/-- One trip of the row's loop. -/
theorem trip {v34 : BitVec 32} {v38 : Vec F S1x1x16x128 .f32} {x : FVec F S16x128 .f32 × FVec F S1x16 .f32} :
    iprop(caches c fK fV ∗ table (F := F) c tab ∗ slotWait c s (pages tab r t.val) fK fV 0 ∗ slotFree c s' ∗ debt c O)
      ⊢ wp frame (wpE (defs₀ (F := F)) 𝒱₀ (c : Thread nD τ) none) Set.univ
        (k0_t1_body i (Memref.whole main_v23) (Memref.isWhole_whole _) arg2 harg2 arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) arg9 harg9 arg10 harg10 arg11 harg11 arg12 harg12 cc0_scratch6 arg14 arg15 arg0 v15 h9 v34 v38 t x)
        fun y => iprop(⌜y = (k0_pay6 v15 v38 x.1 (Scf.iv 0#32 1#32 t.val) (k0_pay13 (slabV fK (pages tab r t.val))) (slabV fV (pages tab r t.val)),
            k0_pay5 v15 v38 x.2 (Scf.iv 0#32 1#32 t.val) (k0_pay13 (slabV fK (pages tab r t.val))))⌝
          ∗ caches c fK fV ∗ table (F := F) c tab ∗ slotFree c s
          ∗ ahead c s' (pages tab r (t.val + 1)) fK fV (t.val + 1 < nch v15) ∗ debt c O) := by
  have ht' : t.val < 32 := trip_lt hv t
  obtain ⟨x1, x2⟩ := x
  unfold k0_t1_body
  simp only [Prog.bind_lift, Prog.pure_eq_ret]
  iintro ⟨HC, HT, HW, HS, HD⟩
  iapply (wp_call (part9 htab hi hv hs hs' hM)) $$ [HC HT HW HS HD]
  · isplitl [HC]; · iexact HC
    isplitl [HT]; · iexact HT
    isplitl [HW]; · iexact HW
    isplitl [HS]; · iexact HS
    iexact HD
  iintro %y ⟨%hy, HC, HT, HW, HA, HD⟩
  iapply (wp_call (part10 hv hs hM)) $$ [HW HD]
  · isplitl [HW]; · iexact HW
    iexact HD
  iintro %y1 ⟨HW, HD⟩
  iapply (wp_call (part11 hv hs hM)) $$ [HW HD]
  · isplitl [HW]; · iexact HW
    iexact HD
  iintro %y2 ⟨HW, HD⟩
  iapply (wp_call (part12 hv hs hM)) $$ [HW HD]
  · isplitl [HW]; · iexact HW
    iexact HD
  iintro %y3 ⟨%hy3, HW, HD⟩
  unfold slotFull
  icases HW with ⟨HK, HV, Hs⟩
  iapply (loadV (now_win ht' hs 0)) $$ HV
  iintro HV
  ihave HS := (slot_full_free c s (pages tab r t.val) fK fV) $$ [HK HV Hs]
  · unfold slotFull
    isplitl [HK]; · iexact HK
    isplitl [HV]; · iexact HV
    iexact Hs
  rw [wp_ret]; imodintro
  isplitr; · ipureintro; rw [hy3, hy]
  isplitl [HC]; · iexact HC
  isplitl [HT]; · iexact HT
  isplitl [HS]; · iexact HS
  isplitl [HA]; · iexact HA
  iexact HD

end Trip

end Cert.Proof
-- ==== Proof.Row.lean ====
/- A row's loop from its first chunk to its last, and what the pair it carries comes to. -/
module

public import proofs.«01_k».proof.Proof.Chunk

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The slot of chunk `k`. -/
def slotOf (k : ℕ) : Fin 2 := ⟨k % 2, Nat.mod_lt _ (by decide)⟩

/-- The pair a row's loop carries before chunk `k`: the weighted sum of the values, and the sum of the weights. -/
def carry (tab : Table) (r : Fin 32) (fK fV : Cache F) (n : BitVec 32) (q : Vec F S1x1x16x128 .f32) :
    ℕ → FVec F S16x128 .f32 × FVec F S1x16 .f32
  | 0 => (k0_pay2, k0_pay3)
  | k + 1 => (k0_pay6 n q (carry tab r fK fV n q k).1 (Scf.iv 0#32 1#32 k) (k0_pay13 (slabV fK (pages tab r k))) (slabV fV (pages tab r k)),
      k0_pay5 n q (carry tab r fK fV n q k).2 (Scf.iv 0#32 1#32 k) (k0_pay13 (slabV fK (pages tab r k))))

/-- The two slots are free whichever is named first. -/
theorem free_both (c : Dev nD) (k : ℕ) :
    iprop(slotFree (F := F) c (slotOf (k + 1)) ∗ slotFree c (slotOf k)) ⊢ iprop(slotFree (F := F) c 0 ∗ slotFree c 1) := by
  rcases Nat.mod_two_eq_zero_or_one k with h | h
  · have e0 : slotOf k = 0 := Fin.ext h
    have e1 : slotOf (k + 1) = 1 := Fin.ext (by show (k + 1) % 2 = 1; omega)
    rw [e0, e1]
    iintro ⟨H1, H0⟩
    isplitl [H0]; · iexact H0
    iexact H1
  · have e0 : slotOf k = 1 := Fin.ext h
    have e1 : slotOf (k + 1) = 0 := Fin.ext (by show (k + 1) % 2 = 0; omega)
    rw [e0, e1]

section Loop

variable {c : Dev nD} {tab : Table} {r : Fin 32} {fK fV : Cache F} (htab : ∀ j, (tab j).toNat < 256)
  {i : grid0.Coords} (hi : (i 0).val = r.val) {O : CellTallies nD τ sig Unit}
  {arg2 : Memref sig .tc .smem S32 .i32} {harg2 : arg2.IsWhole} {arg3 : Memref sig .tc .vmem S1x1x16x128 .f32} {harg3 : arg3.IsWhole}
  {arg6 : Memref sig .tc .vmem S32x1x16x128 .f32} {harg6 : arg6.IsWhole} {arg9 : Memref sig .tc .vmem S32x16x128 .f32} {harg9 : arg9.IsWhole}
  {arg10 : Memref sig .tc .vmem S32x16 .f32} {harg10 : arg10.IsWhole} {arg11 : Memref sig .tc .vmem S32x16x128 .f32} {harg11 : arg11.IsWhole}
  {arg12 : Memref sig .tc .vmem S32x16 .f32} {harg12 : arg12.IsWhole} {arg14 arg15 : DmaSems sig S2} {arg0 v15 : BitVec 32} {h9 : k0_chk9 i v15}
  (hv : v15.toNat ≤ 256)
  (hM : ∀ s, (levAts L lv : sProp (MT nD τ sig Unit (Elt F) ℕ UU ℕ)) ⊢ MayWait (c : Thread nD τ) (.dma (pageS s)) () O)
  {α : Type} {Q : α → sProp (MT nD τ sig Unit (Elt F) ℕ UU ℕ)}
  {kk : FVec F S16x128 .f32 × FVec F S1x16 .f32 → Prog (TpuEff nD τ sig (Elt F) Λ₀ .tc) α}

/-- What a row's loop holds before chunk `k`. -/
def loopInv (c : Dev nD) (tab : Table) (r : Fin 32) (fK fV : Cache F) (O : CellTallies nD τ sig Unit) (n : BitVec 32)
    (q : Vec F S1x1x16x128 .f32) (k : ℕ) (acc : FVec F S16x128 .f32 × FVec F S1x16 .f32) : sProp 𝕄 :=
  iprop(⌜acc = carry tab r fK fV n q k⌝ ∗ caches c fK fV ∗ table (F := F) c tab ∗ slotFree c (slotOf (k + 1))
    ∗ ahead c (slotOf k) (pages tab r k) fK fV (k < nch n) ∗ debt c O)

include htab hi hv hM in
/-- A row's loop. -/
theorem row_loop {v34 : BitVec 32} {q : Vec F S1x1x16x128 .f32} :
    iprop(caches c fK fV ∗ table (F := F) c tab ∗ slotFree c 1 ∗ ahead c 0 (pages tab r 0) fK fV (0 < nch v15) ∗ debt c O)
      ⊢ iprop((∀ acc, (⌜acc = carry tab r fK fV v15 q (nch v15)⌝ ∗ caches c fK fV ∗ table (F := F) c tab ∗ slotFree c 0 ∗ slotFree c 1 ∗ debt c O)
          -∗ wp frame (wpE (defs₀ (F := F)) 𝒱₀ (c : Thread nD τ) none) Set.univ (kk acc) Q)
        -∗ wp frame (wpE (defs₀ (F := F)) 𝒱₀ (c : Thread nD τ) none) Set.univ
          (Scf.Loop.for (k0_t1_loop v15) (k0_t1_ok i v15 h9) (k0_pay2 (F := F), k0_pay3 (F := F))
            (k0_t1_body i (Memref.whole main_v23) (Memref.isWhole_whole _) arg2 harg2 arg3 harg3 (Memref.whole main_arg1) (Memref.isWhole_whole _)
              (Memref.whole main_arg2) (Memref.isWhole_whole _) arg6 harg6 (Memref.whole cc0_scratch0) (Memref.isWhole_whole _)
              (Memref.whole cc0_scratch1) (Memref.isWhole_whole _) arg9 harg9 arg10 harg10 arg11 harg11 arg12 harg12 cc0_scratch6 arg14 arg15
              arg0 v15 h9 v34 q) >>= kk) Q) := by
  iintro ⟨HC, HT, HF, HA, HD⟩ HK
  iapply (Scf.wp_for_bind frame (wpE (defs₀ (F := F)) 𝒱₀ (c : Thread nD τ) none) Set.univ (k0_t1_loop v15).lb (k0_t1_loop v15).ub (k0_t1_loop v15).st
    (k0_t1_ok i v15 h9) (k0_pay2 (F := F), k0_pay3 (F := F)) _ (loopInv c tab r fK fV O v15 q) ?hb) $$ [HC HT HF HA HD]
  case hb =>
    intro k acc
    have hk : k.val < nch v15 := k.isLt.trans_le (trips_t1 hv).le
    unfold loopInv
    have hA : ahead c (slotOf k.val) (pages tab r k.val) fK fV (k.val < nch v15) = slotWait c (slotOf k.val) (pages tab r k.val) fK fV 0 := if_pos hk
    rw [hA]
    iintro ⟨%hacc, HC, HT, HF, HW, HD⟩
    iapply (wp_wand _ _ _ (Q := fun y => iprop(⌜y = (k0_pay6 v15 q acc.1 (Scf.iv 0#32 1#32 k.val) (k0_pay13 (slabV fK (pages tab r k.val))) (slabV fV (pages tab r k.val)),
            k0_pay5 v15 q acc.2 (Scf.iv 0#32 1#32 k.val) (k0_pay13 (slabV fK (pages tab r k.val))))⌝
          ∗ caches c fK fV ∗ table (F := F) c tab ∗ slotFree c (slotOf k.val)
          ∗ ahead c (slotOf (k.val + 1)) (pages tab r (k.val + 1)) fK fV (k.val + 1 < nch v15) ∗ debt c O))) $$ [HC HT HF HW HD]
    · iapply (trip htab hi hv (t := k) (s := slotOf k.val) (s' := slotOf (k.val + 1)) rfl rfl (hM _)) $$ [HC HT HF HW HD]
      isplitl [HC]; · iexact HC
      isplitl [HT]; · iexact HT
      isplitl [HW]; · iexact HW
      isplitl [HF]; · iexact HF
      iexact HD
    iintro %y ⟨%hy, HC, HT, HF, HA, HD⟩
    isplitr; · ipureintro; rw [hy, hacc]; rfl
    isplitl [HC]; · iexact HC
    isplitl [HT]; · iexact HT
    isplitl [HF]
    · have e : slotOf (k.val + 1 + 1) = slotOf k.val := Fin.ext (by show (k.val + 1 + 1) % 2 = k.val % 2; omega)
      rw [e]; iexact HF
    isplitl [HA]; · iexact HA
    iexact HD
  · unfold loopInv
    isplitr; · ipureintro; rfl
    isplitl [HC]; · iexact HC
    isplitl [HT]; · iexact HT
    isplitl [HF]; · iexact HF
    isplitl [HA]; · iexact HA
    iexact HD
  iintro %acc HI
  have hn : Scf.trips (k0_t1_loop v15).lb (k0_t1_loop v15).ub (k0_t1_loop v15).st = nch v15 := trips_t1 hv
  have hA : ahead c (slotOf (nch v15)) (pages tab r (nch v15)) fK fV (nch v15 < nch v15) = slotFree c (slotOf (nch v15)) := if_neg (Nat.lt_irrefl _)
  rw [hn]
  unfold loopInv
  rw [hA]
  icases HI with ⟨%hacc, HC, HT, HF, HA, HD⟩
  ihave HB := (free_both c (nch v15)) $$ [HF HA]
  · isplitl [HF]; · iexact HF
    iexact HA
  icases HB with ⟨H0, H1⟩
  iapply HK
  isplitr; · ipureintro; exact hacc
  isplitl [HC]; · iexact HC
  isplitl [HT]; · iexact HT
  isplitl [H0]; · iexact H0
  isplitl [H1]; · iexact H1
  iexact HD

/-- A loop of no trips leaves what it was given. -/
theorem no_trips {σ : Type} {l : Scf.Loop 32} (hl : l.trips = 0) {hok : l.OK} {init : σ}
    {body : Fin l.trips → σ → Prog (TpuEff nD τ sig (Elt F) Λ₀ .tc) σ} {kk : σ → Prog (TpuEff nD τ sig (Elt F) Λ₀ .tc) α} :
    iprop(wp frame (wpE (defs₀ (F := F)) 𝒱₀ (c : Thread nD τ) none) Set.univ (kk init) Q)
      ⊢ wp frame (wpE (defs₀ (F := F)) 𝒱₀ (c : Thread nD τ) none) Set.univ (Scf.Loop.for l hok init body >>= kk) Q := by
  iintro HK
  iapply (Scf.wp_for_bind frame (wpE (defs₀ (F := F)) 𝒱₀ (c : Thread nD τ) none) Set.univ l.lb l.ub l.st hok init body
    (fun _ acc => iprop(⌜acc = init⌝)) (fun k _ => absurd (k.isLt.trans_le (le_of_eq hl)) (Nat.not_lt_zero _)))
  · ipureintro; rfl
  iintro %acc %hacc
  rw [hacc]
  iexact HK

end Loop

end Cert.Proof
-- ==== Proof.Talk.lean ====
/- The exchange between partner devices: the cells, what is paid into each, and what a device holds before, between and
   after. -/
module

public import proofs.«01_k».proof.Proof.Row

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The four buffers of partial sums -/

abbrev accM : Memref sig .tc .vmem S32x16x128 .f32 := Memref.whole cc0_scratch2
abbrev sumM : Memref sig .tc .vmem S32x16 .f32 := Memref.whole cc0_scratch3
abbrev paccM : Memref sig .tc .vmem S32x16x128 .f32 := Memref.whole cc0_scratch4
abbrev psumM : Memref sig .tc .vmem S32x16 .f32 := Memref.whole cc0_scratch5

abbrev Acc (F : FTy → Type) : Type := S32x16x128.Idx → Elt F .f32
abbrev Sums (F : FTy → Type) : Type := S32x16.Idx → Elt F .f32

/-- The device's own weighted sums, its own sums of weights, and the partner's two, each held whole. -/
def accP (c : Dev nD) (f : Acc F) : sProp 𝕄 := accM.view.loc (c : Thread nD τ) ↦{fullShare} f
def sumP (c : Dev nD) (f : Sums F) : sProp 𝕄 := sumM.view.loc (c : Thread nD τ) ↦{fullShare} f
def paccP (c : Dev nD) (f : Acc F) : sProp 𝕄 := paccM.view.loc (c : Thread nD τ) ↦{fullShare} f
def psumP (c : Dev nD) (f : Sums F) : sProp 𝕄 := psumM.view.loc (c : Thread nD τ) ↦{fullShare} f

instance accP_storable (c : Dev nD) (f : Acc F) : BI.Storable (upEmb : UEmb _ 𝕄) (accP c f) := by unfold accP; infer_instance
instance sumP_storable (c : Dev nD) (f : Sums F) : BI.Storable (upEmb : UEmb _ 𝕄) (sumP c f) := by unfold sumP; infer_instance
instance paccP_storable (c : Dev nD) (f : Acc F) : BI.Storable (upEmb : UEmb _ 𝕄) (paccP c f) := by unfold paccP; infer_instance
instance psumP_storable (c : Dev nD) (f : Sums F) : BI.Storable (upEmb : UEmb _ 𝕄) (psumP c f) := by unfold psumP; infer_instance

/-- The bytes of the two copies, as the semaphores count them. -/
def accN : ℕ := paccM.view.dmaCredit
def sumN : ℕ := psumM.view.dmaCredit
theorem accN_pos : 0 < accN := View.dmaCredit_pos _ (by decide)
theorem sumN_pos : 0 < sumN := View.dmaCredit_pos _ (by decide)

variable (A : Dev nD → Acc F) (B : Dev nD → Sums F)

/-! ## The schedule -/

/-- Paid to a device's barrier by its partner: the partner's two receive buffers, and that the partner's receive
    semaphores are open. -/
def barPay (c : Dev nD) : sProp 𝕄 :=
  iprop((∃ f, paccP (F := F) (pr c) f) ∗ (∃ f, psumP (F := F) (pr c) f) ∗ reached ER (recvCell (pr c) 0) 0 ∗ reached ER (recvCell (pr c) 1) 0)

abbrev IsTalk (g : GSem nD τ sig) : Prop :=
  g.1.2 = .tc ∧ (g.2 = .reg barS ∨ g.2 = .dma (sendS 0) ∨ g.2 = .dma (sendS 1) ∨ g.2 = .dma (recvS 0) ∨ g.2 = .dma (recvS 1))

/-- One duty on the barrier and on each send and receive semaphore. -/
def rd : Rounds.Schedule (GSem nD τ sig) Unit 𝕄 where
  duties g r := if r = 0 ∧ IsTalk g then {()} else ∅
  unitless _ := False
  amount g _ _ := if g.2 = .reg barS then 1 else if g.2 = .dma (sendS 0) ∨ g.2 = .dma (recvS 0) then accN else sumN
  payload g _ _ :=
    if g.2 = .reg barS then barPay g.1.1
    else if g.2 = .dma (recvS 0) then paccP g.1.1 (A (pr g.1.1))
    else if g.2 = .dma (recvS 1) then psumP g.1.1 (B (pr g.1.1))
    else if g.2 = .dma (sendS 0) then accP g.1.1 (A g.1.1)
    else if g.2 = .dma (sendS 1) then sumP g.1.1 (B g.1.1)
    else iprop(emp)
  amount_pos g _ _ _ := by
    split
    · exact Nat.one_pos
    · split
      · exact accN_pos
      · exact sumN_pos

instance rd_payload_storable (g : GSem nD τ sig) (r : ℕ) (d : Unit) :
    BI.Storable (upEmb : UEmb _ 𝕄) ((rd A B).payload g r d) := by
  dsimp only [rd]
  unfold barPay
  (repeat' split) <;> infer_instance

section Sched

variable (c : Dev nD)

theorem dma_ne_bar (s : DmaSem sig) : (SemLoc.dma s : SemLoc sig) ≠ .reg barS := fun h => by cases h

theorem duties_bar : (rd A B).duties (barCell c) 0 = {()} := by dsimp only [rd]; exact if_pos ⟨rfl, rfl, .inl rfl⟩
theorem duties_send (s : Fin 2) : (rd A B).duties (sendCell c s) 0 = {()} := by
  match s with
  | 0 => dsimp only [rd]; exact if_pos ⟨rfl, rfl, .inr (.inl rfl)⟩
  | 1 => dsimp only [rd]; exact if_pos ⟨rfl, rfl, .inr (.inr (.inl rfl))⟩
theorem duties_recv (s : Fin 2) : (rd A B).duties (recvCell c s) 0 = {()} := by
  match s with
  | 0 => dsimp only [rd]; exact if_pos ⟨rfl, rfl, .inr (.inr (.inr (.inl rfl)))⟩
  | 1 => dsimp only [rd]; exact if_pos ⟨rfl, rfl, .inr (.inr (.inr (.inr rfl)))⟩
theorem duties_later (g : GSem nD τ sig) : ∀ r, 1 ≤ r → (rd A B).duties g r = ∅ :=
  fun r hr => by dsimp only [rd]; rw [if_neg (fun h => by omega)]

/-- The bytes of copy `s`. -/
def copyN (s : Fin 2) : ℕ := if s = 0 then accN else sumN
theorem copyN_pos (s : Fin 2) : 0 < copyN s := by unfold copyN; split; exacts [accN_pos, sumN_pos]

theorem amount_bar (u : Unit) : (rd A B).amount (barCell c) 0 u = 1 := by dsimp only [rd]; exact if_pos rfl
theorem amount_send (s : Fin 2) (u : Unit) : (rd A B).amount (sendCell c s) 0 u = copyN s := by
  match s with
  | 0 => dsimp only [rd]; rw [if_neg (dma_ne_bar _), if_pos (.inl rfl)]; rfl
  | 1 => dsimp only [rd]; rw [if_neg (dma_ne_bar _), if_neg (by decide)]; rfl
theorem amount_recv (s : Fin 2) (u : Unit) : (rd A B).amount (recvCell c s) 0 u = copyN s := by
  match s with
  | 0 => dsimp only [rd]; rw [if_neg (dma_ne_bar _), if_pos (.inr rfl)]; rfl
  | 1 => dsimp only [rd]; rw [if_neg (dma_ne_bar _), if_neg (by decide)]; rfl

theorem expect_bar : (rd A B).expect (barCell c) 0 = 1 := by
  unfold Schedule.expect Schedule.amountOf; rw [duties_bar, Finset.sum_singleton, amount_bar]
theorem expect_send (s : Fin 2) : (rd A B).expect (sendCell c s) 0 = copyN s := by
  unfold Schedule.expect Schedule.amountOf; rw [duties_send, Finset.sum_singleton, amount_send]
theorem expect_recv (s : Fin 2) : (rd A B).expect (recvCell c s) 0 = copyN s := by
  unfold Schedule.expect Schedule.amountOf; rw [duties_recv, Finset.sum_singleton, amount_recv]

theorem payload_bar (u : Unit) : (rd A B).payload (barCell c) 0 u = barPay c := by dsimp only [rd]; exact if_pos rfl
theorem payload_recv0 (u : Unit) : (rd A B).payload (recvCell c 0) 0 u = paccP c (A (pr c)) := by
  dsimp only [rd]; rw [if_neg (dma_ne_bar _), if_pos rfl]
theorem payload_recv1 (u : Unit) : (rd A B).payload (recvCell c 1) 0 u = psumP c (B (pr c)) := by
  dsimp only [rd]; rw [if_neg (dma_ne_bar _), if_neg (by decide), if_pos rfl]
theorem payload_send0 (u : Unit) : (rd A B).payload (sendCell c 0) 0 u = accP c (A c) := by
  dsimp only [rd]; rw [if_neg (dma_ne_bar _), if_neg (by decide), if_neg (by decide), if_pos rfl]
theorem payload_send1 (u : Unit) : (rd A B).payload (sendCell c 1) 0 u = sumP c (B c) := by
  dsimp only [rd]; rw [if_neg (dma_ne_bar _), if_neg (by decide), if_neg (by decide), if_neg (by decide), if_pos rfl]

/-- All that a round of one duty pays out. -/
theorem rest_of {g : GSem nD τ sig} {P : sProp (MT nD τ sig Unit (Elt F) ℕ UU ℕ)} (hd : (rd A B).duties g 0 = {()}) (hp : (rd A B).payload g 0 () = P) :
    bigSep ((rd A B).duties g 0 \ ∅) (fun u => (rd A B).payload g 0 u) = P := by
  rw [Finset.sdiff_empty, hd, bigSep_singleton, hp]

end Sched

/-! ## What a device owes, and for what it may wait -/

/-- The two copies to the partner. -/
def owed₁ (c : Dev nD) : CellTallies nD τ sig Unit := tallyAt (recvCell (pr c) 1) () (copyN 1) + tallyAt (recvCell (pr c) 0) () (copyN 0)
/-- And before them the signal of the partner's barrier. -/
def owed₀ (c : Dev nD) : CellTallies nD τ sig Unit := owed₁ c + tallyAt (barCell (pr c)) () 1

theorem L_of_ne (g : GSem nD τ sig) (h : g.1.2 ≠ .tc) : L g = ∅ := if_neg h
theorem L_tc (c : Dev nD) (sm : SemLoc sig) : L ((c : Thread nD τ), sm) = {()} := if_pos rfl

theorem owed₁_cell {c : Dev nD} {g : GSem nD τ sig} {u : Unit} (h : 0 < owed₁ c g u) : ∃ s, g = recvCell (pr c) s := by
  by_contra hn
  have hn : ∀ s, g ≠ recvCell (pr c) s := fun s h => hn ⟨s, h⟩
  have h1 : ¬ (g = recvCell (pr c) 1 ∧ u = ()) := fun h => hn 1 h.1
  have h0 : ¬ (g = recvCell (pr c) 0 ∧ u = ()) := fun h => hn 0 h.1
  have e : owed₁ c g u = tallyAt (recvCell (pr c) 1) () (copyN 1) g u + tallyAt (recvCell (pr c) 0) () (copyN 0) g u := rfl
  rw [e, tallyAt_apply, tallyAt_apply, if_neg h1, if_neg h0] at h
  exact absurd h (Nat.lt_irrefl 0)

theorem lv_recv (c : Dev nD) (s : Fin 2) (u : Unit) : lv (recvCell c s) u = 2 := by
  match s with
  | 0 => dsimp only [lv]; rw [if_neg (dma_ne_bar _), if_pos (.inl rfl)]
  | 1 => dsimp only [lv]; rw [if_neg (dma_ne_bar _), if_pos (.inr rfl)]
theorem lv_page (c : Dev nD) (s : Fin 2) (u : Unit) : lv (pageCell c s) u = 0 := by
  match s with
  | 0 => dsimp only [lv]; rw [if_neg (dma_ne_bar _), if_neg (by decide)]
  | 1 => dsimp only [lv]; rw [if_neg (dma_ne_bar _), if_neg (by decide)]
theorem lv_bar (c : Dev nD) (u : Unit) : lv (barCell c) u = 1 := by dsimp only [lv]; rw [if_pos rfl]

/-- While it owes the two copies a device may wait on any semaphore of its own that is no receive semaphore. -/
theorem mayWait₁ (c : Dev nD) {sm : SemLoc sig} (h : lv ((c : Thread nD τ), sm) () ≤ 1) :
    (levAts L lv : sProp 𝕄) ⊢ MayWait (c : Thread nD τ) sm () (owed₁ c) :=
  MayOwe.of_cut (L := L) (lev := lv) 1 (fun p hp => by rw [Finset.mem_singleton.mp hp, L_tc]; exact Finset.mem_singleton_self _)
    (fun g u hg => by obtain ⟨s, rfl⟩ := owed₁_cell hg; rw [L_tc]; exact Finset.mem_singleton_self _)
    (fun p hp => by rw [Finset.mem_singleton.mp hp]; exact h)
    (fun g u hg => by obtain ⟨s, rfl⟩ := owed₁_cell hg; rw [lv_recv]; decide)

theorem mayWait_page (c : Dev nD) (s : Fin 2) :
    (levAts L lv : sProp 𝕄) ⊢ MayWait (c : Thread nD τ) (.dma (pageS s)) () (owed₁ c) :=
  mayWait₁ c (le_of_eq_of_le (lv_page c s ()) (Nat.zero_le 1))

theorem mayWait_bar (c : Dev nD) : (levAts L lv : sProp 𝕄) ⊢ MayWait (c : Thread nD τ) (.reg barS) () (owed₁ c) :=
  mayWait₁ c (le_of_eq (lv_bar c ()))

/-! ## What a device holds of the exchange -/

/-- The cells a device opens, at the names they were allocated at. -/
def invs (K : GSem nD τ sig → ℕ) (c : Dev nD) : sProp 𝕄 :=
  iprop(cellInv ER (rd A B) (K (barCell c)) (barCell c)
    ∗ cellInv ER (rd A B) (K (sendCell c 0)) (sendCell c 0) ∗ cellInv ER (rd A B) (K (sendCell c 1)) (sendCell c 1)
    ∗ cellInv ER (rd A B) (K (recvCell c 0)) (recvCell c 0) ∗ cellInv ER (rd A B) (K (recvCell c 1)) (recvCell c 1)
    ∗ cellInv ER (rd A B) (K (barCell (pr c))) (barCell (pr c))
    ∗ cellInv ER (rd A B) (K (recvCell (pr c) 0)) (recvCell (pr c) 0) ∗ cellInv ER (rd A B) (K (recvCell (pr c) 1)) (recvCell (pr c) 1))

instance invs_persistent (K : GSem nD τ sig → ℕ) (c : Dev nD) : BI.Persistent (invs A B K c) := by unfold invs; infer_instance

/-- What stays with the device from the first point to the last: its positions on its send and receive semaphores, the
    duties it pays there and on the partner's receive semaphores, the credits it waits with. -/
def held (c : Dev nD) : sProp 𝕄 :=
  iprop(atPos ER (sendCell c 0) 0 ∅ 0 ∗ atPos ER (sendCell c 1) 0 ∅ 0 ∗ atPos ER (recvCell c 0) 0 ∅ 0 ∗ atPos ER (recvCell c 1) 0 ∅ 0
    ∗ reached ER (sendCell c 0) 0 ∗ reached ER (sendCell c 1) 0
    ∗ dutyTok ER (sendCell c 0) 0 () ∗ dutyTok ER (sendCell c 1) 0 ()
    ∗ dutyTok ER (recvCell (pr c) 0) 0 () ∗ dutyTok ER (recvCell (pr c) 1) 0 ()
    ∗ cred (tallyAt (recvCell c 0) () (copyN 0)) ∗ cred (tallyAt (recvCell c 1) () (copyN 1)))

/-- Before the first point. -/
def talk₀ (K : GSem nD τ sig → ℕ) (c : Dev nD) : sProp 𝕄 :=
  iprop(invs A B K c ∗ held (F := F) c ∗ atPos ER (barCell c) 0 ∅ 0 ∗ reached ER (barCell (pr c)) 0 ∗ dutyTok ER (barCell (pr c)) 0 ()
    ∗ cred (tallyAt (barCell c) () 1) ∗ reached ER (recvCell c 0) 0 ∗ reached ER (recvCell c 1) 0
    ∗ (∃ f, paccP (F := F) c f) ∗ (∃ f, psumP (F := F) c f) ∗ debt c (owed₀ c))

/-- Between the handshake and the copies. -/
def talk₁ (K : GSem nD τ sig → ℕ) (c : Dev nD) : sProp 𝕄 :=
  iprop(invs A B K c ∗ held (F := F) c ∗ atPos ER (barCell c) (0 + 1) ∅ 0 ∗ reached ER (recvCell (pr c) 0) 0 ∗ reached ER (recvCell (pr c) 1) 0
    ∗ (∃ f, paccP (F := F) (pr c) f) ∗ (∃ f, psumP (F := F) (pr c) f) ∗ debt c (owed₁ c))

/-- After the copies: every semaphore of the exchange at zero, nothing owed. -/
def talk₂ (c : Dev nD) : sProp 𝕄 :=
  iprop(semVal (barCell c) 0 ∗ semVal (sendCell c 0) 0 ∗ semVal (sendCell c 1) 0 ∗ semVal (recvCell c 0) 0 ∗ semVal (recvCell c 1) 0
    ∗ accP c (A c) ∗ sumP c (B c) ∗ paccP c (A (pr c)) ∗ psumP c (B (pr c)) ∗ debt (F := F) c 0)

theorem close (κ : ℕ) (g : GSem nD τ sig) :
    iprop(cellInv ER (rd A B) κ g ∗ atPos ER g (0 + 1) ∅ 0) ⊢ (|={Set.univ}=> semVal g 0 : sProp 𝕄) :=
  Rounds.cell_close ER (rd A B) (Set.mem_univ κ) id (duties_later A B g)

end Cert.Proof
-- ==== Proof.Front.lean ====
/- How a point of the grid starts: at the first one the handshake with the partner, at each one the read of how many pages
   the row has here. -/
module

public import proofs.«01_k».proof.Proof.Talk

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The number of pages of each row as the core holds it. -/
abbrev Counts : Type := S32.Idx → BitVec 32
abbrev nLoc (c : Dev nD) : Loc nD τ sig := (Memref.whole main_v25).view.loc (c : Thread nD τ)

/-- The counts held whole. -/
def counts (c : Dev nD) (cnt : Counts) : sProp 𝕄 := nLoc c ↦{fullShare} (show Buf (Elt F) (nLoc c) from cnt)

section

variable {Λ : Labels} {defs : Defs nD τ sig (Elt F) Λ} {α : Type} {Q : α → sProp (MT nD τ sig Unit (Elt F) ℕ UU ℕ)} {c : Dev nD}

/-- What a load of one count reads. -/
theorem count_read {cnt : Counts} {r : Fin 32} {off : Fin 1 → ℕ} (ho : off = ![r.val]) {hin}
    (x : (Rect.unit (s := S32) off S1.size hin).shape.Idx) :
    (show BitVec 32 from ((Memref.whole main_v25).access (Rect.unit (s := S32) off S1.size hin)).read (Elt F) cnt x) = cnt (ix1 r) := by
  subst ho
  show ((Memref.whole main_v25).access (Rect.unit (s := S32) ![r.val] S1.size hin)).read (Elt F) cnt x = cnt (ix1 r)
  rw [View.read_apply]
  refine congrArg cnt ?_
  refine funext fun a => Fin.ext ?_
  have hx : (x a).val = 0 := by have := (x a).isLt; fin_cases a <;> (revert this; simp [S1])
  refine (rect_emb_unit_val _ _ _ _ _).trans ?_
  rw [hx]
  fin_cases a
  rfl

/-- Read a count and pass the check on it. -/
theorem wp_count {cnt : Counts} {r : Fin 32} {off : Fin 1 → ℕ} (ho : off = ![r.val]) {hin hw}
    {x : (Rect.unit (s := S32) off S1.size hin).shape.Idx}
    {P : ((Rect.unit (s := S32) off S1.size hin).shape.Idx → Elt F .i32) → Prop} {d : ∀ w, Decidable (P w)}
    (hP : ∀ f, f x = cnt (ix1 r) → P f)
    {k : ∀ w, PLift (P w) → Prog (TpuEff nD τ sig (Elt F) Λ .tc) α} :
    counts (F := F) c cnt ⊢ iprop((∀ f, ⌜f x = cnt (ix1 r)⌝ -∗ ∀ h, counts (F := F) c cnt -∗ wp frame (wpE defs 𝒱₀ (c : Thread nD τ) none) Set.univ (k f h) Q)
      -∗ wp frame (wpE defs 𝒱₀ (c : Thread nD τ) none) Set.univ
        (.op (.load (e := .i32) (Memref.whole main_v25) (Rect.unit (s := S32) off S1.size hin).toLoadRect hw) (fun w => .op (.assume (P w) (d w)) (k w))) Q) := by
  have e := fun x => count_read (F := F) (cnt := cnt) ho (hin := hin) x
  unfold counts
  iintro HT Hw
  iapply (wp_load_rect 𝒱₀ (c : Thread nD τ) none Set.univ (m := Memref.whole main_v25)
    (r := Rect.unit (s := S32) off S1.size hin) (Finset.subset_univ _)) $$ HT
  iintro HT
  iapply (wp_assume 𝒱₀ (c : Thread nD τ) none Set.univ (hP _ (e x)))
  iapply Hw $$ [] HT
  ipureintro; exact e x

end

/-! ## The handshake -/

variable (A : Dev nD → Acc F) (B : Dev nD → Sums F)

/-- The signal of the partner's barrier and the wait on the own: each hands the other its receive buffers. -/
theorem handshake {Λ : Labels} {defs : Defs nD τ sig (Elt F) Λ} {α : Type} {Q : α → sProp (MT nD τ sig Unit (Elt F) ℕ UU ℕ)}
    (K : GSem nD τ sig → ℕ) (c p : Dev nD) (hp : p = pr c) {k : PUnit → Prog (TpuEff nD τ sig (Elt F) Λ .tc) α} :
    talk₀ A B K c ⊢ iprop((talk₁ A B K c -∗ wp frame (wpE defs 𝒱₀ (c : Thread nD τ) none) Set.univ (k ⟨⟩) Q)
      -∗ wp frame (wpE defs 𝒱₀ (c : Thread nD τ) none) Set.univ
        (.op (.semSignal ((p, .tc) : Thread nD τ) barS (1#32).toInt) fun _ => .op (.semWait barS (1#32).toInt) k) Q) := by
  subst hp
  unfold talk₀ talk₁ invs debt
  iintro ⟨⟨#Ib, #Is0, #Is1, #Ir0, #Ir1, #Ibp, #Irp0, #Irp1⟩, HH, HatB, #HrP, HtP, HcB, #Hr0, #Hr1, HA, HB, ⟨%W, HO⟩, #Hlev⟩ Hk
  iapply (Rounds.wp_signal 𝒱₀ ER (rd A B) (c : Thread nD τ) none (dst := (pr c : Thread nD τ)) (sem := barS) (r := 0) (d := ()) (κ := K (barCell (pr c)))
      (by rw [duties_bar]; exact Finset.mem_singleton_self _) (amount_bar A B (pr c) ()) () (owed₁ c) rfl)
    $$ [HO HtP HA HB]
  · isplitr; · iexact Ibp
    isplitl [HO]; · iexact HO
    isplitl [HtP]; · iexact HtP
    isplitl [HA HB]
    · rw [payload_bar]; unfold barPay; rw [pr_pr]
      isplitl [HA]; · iexact HA
      isplitl [HB]; · iexact HB
      isplitr; · iexact Hr0
      iexact Hr1
    · iexact HrP
  iintro HO
  iapply (Rounds.wp_wait_rest_token 𝒱₀ ER (rd A B) (c : Thread nD τ) none (κ := K (barCell c))
      (wpE_semWait_eq 𝒱₀ (c : Thread nD τ) none Set.univ) (Set.mem_univ _) () (O := owed₁ c) (W := W) (R := 0) (m := 0) (T := ∅)
      ((Nat.zero_add 1).trans (expect_bar A B c).symm)) $$ [HcB HO HatB]
  · isplitr; · iexact Ib
    isplitl [HcB]; · iexact HcB
    isplitl [HO]; · iexact HO
    isplitr; · iapply (mayWait_bar c); iexact Hlev
    iexact HatB
  iintro ⟨HO, HatB, -, Hpay⟩
  ihave Hp := (Entails.of_eq (rest_of A B (duties_bar A B c) (payload_bar A B c ()))) $$ Hpay
  unfold barPay
  icases Hp with ⟨HA, HB, #Hn0, #Hn1⟩
  iapply Hk
  isplitr
  · isplitr; · iexact Ib
    isplitr; · iexact Is0
    isplitr; · iexact Is1
    isplitr; · iexact Ir0
    isplitr; · iexact Ir1
    isplitr; · iexact Ibp
    isplitr; · iexact Irp0
    iexact Irp1
  isplitl [HH]; · iexact HH
  isplitl [HatB]; · iexact HatB
  isplitr; · iexact Hn0
  isplitr; · iexact Hn1
  isplitl [HA]; · iexact HA
  isplitl [HB]; · iexact HB
  isplitl [HO]; · iexists _; iexact HO
  iexact Hlev

/-- What a device holds of the exchange before point `t`. -/
def talkAt (K : GSem nD τ sig → ℕ) (c : Dev nD) (t : ℕ) : sProp 𝕄 := if t = 0 then talk₀ A B K c else talk₁ A B K c

/-- Before which point the body is, by its coordinate. -/
theorem cond1_iff (i : grid0.Coords) : k0_cond1 i = 1#1 ↔ (i 0).val = 0 := by
  have h : (i 0).val < 32 := (i 0).isLt
  unfold k0_cond1
  generalize (i 0).val = n at h
  revert n
  decide

theorem front {K : GSem nD τ sig → ℕ} {c : Dev nD} {cnt : Counts} (hcnt : ∀ j, (cnt j).toNat ≤ 256) {r : Fin 32}
    {i : grid0.Coords} (hi : (i 0).val = r.val)
    {arg3 : Memref sig .tc .vmem S1x1x16x128 .f32} {harg3 : arg3.IsWhole}
    {arg6 : Memref sig .tc .vmem S32x1x16x128 .f32} {harg6 : arg6.IsWhole} :
    iprop(talkAt A B K c r.val ∗ counts (F := F) c cnt)
      ⊢ wp frame (wpE (defs₀ (F := F)) 𝒱₀ (c : Thread nD τ) none) Set.univ
        (k0_part22 i (Memref.whole main_v23) (Memref.isWhole_whole _) (Memref.whole main_v25) (Memref.isWhole_whole _) arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) accM (Memref.isWhole_whole _) sumM (Memref.isWhole_whole _) paccM (Memref.isWhole_whole _)
          psumM (Memref.isWhole_whole _) cc0_scratch6 cc0_scratch7 cc0_scratch8)
        fun x => iprop(⌜x.2.1 = c ∧ x.2.2.2.2.2.1 = cnt (ix1 r)⌝ ∗ talk₁ A B K c ∗ counts (F := F) c cnt) := by
  rw [k0_part22_eq_skeleton]
  unfold k0_part22_skel talkAt
  by_cases h1 : k0_cond1 i = 1#1
  · have h0 : r.val = 0 := hi.symm.trans ((cond1_iff i).mp h1)
    rw [if_pos h0]
    simp only [dif_pos h1, bind_assoc, semSignalWord, semWaitWord, smemLoad, smemLoadElt, Prog.bind_op, Prog.bind_ret, Prog.bind_lift, Prog.pure_eq_ret, wp_deviceId]
    iintro ⟨HK, HN⟩
    iapply (handshake A B K c _ (dev1_pr c _)) $$ HK
    iintro HK
    iapply (wp_count (r := r) ((k0_off1_eq i).trans (by rw [hi])) (fun f hf => chk9_of_le i (by rw [hf]; exact hcnt _))) $$ HN
    iintro %f %hf %h HN
    rw [wp_ret]; imodintro
    isplitr; · ipureintro; exact ⟨rfl, hf⟩
    isplitl [HK]; · iexact HK
    iexact HN
  · have h0 : r.val ≠ 0 := fun h => h1 ((cond1_iff i).mpr (hi.trans h))
    rw [if_neg h0]
    simp only [dif_neg h1, bind_assoc, smemLoad, smemLoadElt, Prog.bind_op, Prog.bind_ret, Prog.bind_lift, Prog.pure_eq_ret, wp_deviceId]
    iintro ⟨HK, HN⟩
    iapply (wp_count (r := r) ((k0_off1_eq i).trans (by rw [hi])) (fun f hf => chk9_of_le i (by rw [hf]; exact hcnt _))) $$ HN
    iintro %f %hf %h HN
    rw [wp_ret]; imodintro
    isplitr; · ipureintro; exact ⟨rfl, hf⟩
    isplitl [HK]; · iexact HK
    iexact HN

end Cert.Proof
-- ==== Proof.Back.lean ====
/- The copies of the two partial sums to the partner, and the waits for them. -/
module

public import proofs.«01_k».proof.Proof.Front

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem acc_set (c : Dev nD) (f : Acc F) : accP c f = (accM.view.loc (c : Thread nD τ) ↦[accM.view.set]{fullShare} f : sProp 𝕄) := by
  unfold accP; rw [View.set_whole]
theorem sum_set (c : Dev nD) (f : Sums F) : sumP c f = (sumM.view.loc (c : Thread nD τ) ↦[sumM.view.set]{fullShare} f : sProp 𝕄) := by
  unfold sumP; rw [View.set_whole]
theorem pacc_set (c : Dev nD) (f : Acc F) : paccP c f = (paccM.view.loc (c : Thread nD τ) ↦[paccM.view.set]{fullShare} f : sProp 𝕄) := by
  unfold paccP; rw [View.set_whole]
theorem psum_set (c : Dev nD) (f : Sums F) : psumP c f = (psumM.view.loc (c : Thread nD τ) ↦[psumM.view.set]{fullShare} f : sProp 𝕄) := by
  unfold psumP; rw [View.set_whole]

theorem acc_write (c : Dev nD) (fd fs : Acc F) :
    paccM.view.write (Elt F) fd (accM.view.read (Elt F) fs) Finset.univ = fs := by
  show (View.whole cc0_scratch4).write (Elt F) fd ((View.whole cc0_scratch2).read (Elt F) fs) Finset.univ = fs
  rw [View.read_whole]
  exact View.write_whole_univ _ _ _
theorem sum_write (c : Dev nD) (fd fs : Sums F) :
    psumM.view.write (Elt F) fd (sumM.view.read (Elt F) fs) Finset.univ = fs := by
  show (View.whole cc0_scratch5).write (Elt F) fd ((View.whole cc0_scratch3).read (Elt F) fs) Finset.univ = fs
  rw [View.read_whole]
  exact View.write_whole_univ _ _ _

theorem send_sem {s : Fin 2} {off : Fin 1 → ℕ} (ho : off = ![s.val]) {h} :
    ((cc0_scratch7.slice (Rect.unit (s := S2) off S1.size h)).squeeze S_ squeezes_S1_S_).sem = sendS s := Fin.ext (pair_sem _ ho)
theorem recv_sem {s : Fin 2} {off : Fin 1 → ℕ} (ho : off = ![s.val]) {h} :
    ((cc0_scratch8.slice (Rect.unit (s := S2) off S1.size h)).squeeze S_ squeezes_S1_S_).sem = recvS s := Fin.ext (pair_sem _ ho)

theorem acc_credit : (accM : Memref sig .tc .vmem S32x16x128 .f32).view.dmaCredit = copyN 0 := rfl
theorem pacc_credit : (paccM : Memref sig .tc .vmem S32x16x128 .f32).view.dmaCredit = copyN 0 := rfl
theorem sum_credit : (sumM : Memref sig .tc .vmem S32x16 .f32).view.dmaCredit = copyN 1 := rfl
theorem psum_credit : (psumM : Memref sig .tc .vmem S32x16 .f32).view.dmaCredit = copyN 1 := rfl

variable (A : Dev nD → Acc F) (B : Dev nD → Sums F)

/-- Both copies on their way. -/
def flying (K : GSem nD τ sig → ℕ) (c : Dev nD) : sProp 𝕄 :=
  iprop(invs A B K c ∗ atPos ER (barCell c) (0 + 1) ∅ 0
    ∗ atPos ER (sendCell c 0) 0 ∅ 0 ∗ atPos ER (sendCell c 1) 0 ∅ 0 ∗ atPos ER (recvCell c 0) 0 ∅ 0 ∗ atPos ER (recvCell c 1) 0 ∅ 0
    ∗ cred (tallyAt (sendCell c 0) () (copyN 0)) ∗ cred (tallyAt (sendCell c 1) () (copyN 1))
    ∗ cred (tallyAt (recvCell c 0) () (copyN 0)) ∗ cred (tallyAt (recvCell c 1) () (copyN 1)) ∗ debt (F := F) c 0)

section

variable {Λ : Labels} {defs : Defs nD τ sig (Elt F) Λ} {α : Type} {Q : α → sProp (MT nD τ sig Unit (Elt F) ℕ UU ℕ)}
  {k : PUnit → Prog (TpuEff nD τ sig (Elt F) Λ .tc) α}

/-- The two copies: the own sums go, the partner's buffers are rewritten by them. -/
theorem send_both (K : GSem nD τ sig → ℕ) (c p p' : Dev nD) (hp : p = pr c) (hp' : p' = pr c) {s0 s1 r0 r1 : DmaSem sig}
    (es0 : s0 = sendS 0) (es1 : s1 = sendS 1) (er0 : r0 = recvS 0) (er1 : r1 = recvS 1) {hc : (paccM : Memref sig .tc .vmem S32x16x128 .f32).view.ref.isScScratch = false}
    {hc' : (psumM : Memref sig .tc .vmem S32x16 .f32).view.ref.isScScratch = false} {h1 h2 h4 h5}
    {h3 : DmaTarget.Typed .vmem (.dma r0) (.remote (Dev.tc p : Thread nD τ) paccM (.dma s0) hc)}
    {h6 : DmaTarget.Typed .vmem (.dma r1) (.remote (Dev.tc p' : Thread nD τ) psumM (.dma s1) hc')} :
    iprop(talk₁ A B K c ∗ accP c (A c) ∗ sumP c (B c))
      ⊢ iprop((flying A B K c -∗ wp frame (wpE defs 𝒱₀ (c : Thread nD τ) none) Set.univ (k ⟨⟩) Q)
      -∗ wp frame (wpE defs 𝒱₀ (c : Thread nD τ) none) Set.univ
        (.op (.enqueueDma accM (.remote (Dev.tc p) paccM (.dma s0) hc) (.dma r0) h1 h2 h3) fun _ =>
          .op (.enqueueDma sumM (.remote (Dev.tc p') psumM (.dma s1) hc') (.dma r1) h4 h5 h6) k) Q) := by
  subst hp hp' es0 es1 er0 er1
  unfold talk₁ flying held invs debt
  iintro ⟨⟨⟨#Ib, #Is0, #Is1, #Ir0, #Ir1, #Ibp, #Irp0, #Irp1⟩, ⟨As0, As1, Ar0, Ar1, #Rs0, #Rs1, Ds0, Ds1, Dr0, Dr1, Cr0, Cr1⟩, HatB, #Rn0, #Rn1,
    ⟨%fa, HPA⟩, ⟨%fb, HPB⟩, ⟨%W, HO⟩, #Hlev⟩, HA, HB⟩ Hk
  ihave HA := (Entails.of_eq (acc_set c (A c))) $$ HA
  ihave HB := (Entails.of_eq (sum_set c (B c))) $$ HB
  ihave HPA := (Entails.of_eq (pacc_set (pr c) fa)) $$ HPA
  ihave HPB := (Entails.of_eq (psum_set (pr c) fb)) $$ HPB
  iapply (Rounds.wp_send_pointsTo 𝒱₀ ER (rd A B) (c : Thread nD τ) none (c' := (pr c : Thread nD τ)) (src := accM) (dst := paccM)
      (sS := .dma (sendS 0)) (sem := .dma (recvS 0)) (q := fullShare) (fs := A c) (κ₁ := K (sendCell c 0)) (κ₂ := K (recvCell (pr c) 0))
      (r₁ := 0) (r₂ := 0) (d₁ := ()) (d₂ := ()) (fd := fa)
      (by rw [duties_send]; exact Finset.mem_singleton_self _) (by rw [duties_recv]; exact Finset.mem_singleton_self _)
      () () (copyN 0) rfl (amount_send A B c 0 ()) (amount_recv A B (pr c) 0 ()) (tallyAt (recvCell (pr c) 1) () (copyN 1)) rfl (W := W)
      (by rw [payload_send0, acc_set])
      (by rw [payload_recv0, acc_write c, pr_pr, pacc_set])) $$ [HA HPA HO Ds0 Dr0]
  · isplitr; · iexact Is0
    isplitr; · iexact Irp0
    isplitl [HA]; · iexact HA
    isplitl [HPA]; · iexact HPA
    isplitl [HO]; · iexact HO
    isplitl [Ds0]; · iexact Ds0
    isplitr; · iexact Rs0
    isplitl [Dr0]; · iexact Dr0
    iexact Rn0
  iintro ⟨Cs0, HO⟩
  iapply (Rounds.wp_send_pointsTo 𝒱₀ ER (rd A B) (c : Thread nD τ) none (c' := (pr c : Thread nD τ)) (src := sumM) (dst := psumM)
      (sS := .dma (sendS 1)) (sem := .dma (recvS 1)) (q := fullShare) (fs := B c) (κ₁ := K (sendCell c 1)) (κ₂ := K (recvCell (pr c) 1))
      (r₁ := 0) (r₂ := 0) (d₁ := ()) (d₂ := ()) (fd := fb)
      (by rw [duties_send]; exact Finset.mem_singleton_self _) (by rw [duties_recv]; exact Finset.mem_singleton_self _)
      () () (copyN 1) rfl (amount_send A B c 1 ()) (amount_recv A B (pr c) 1 ()) 0 (by rw [zero_add]) (W := W)
      (by rw [payload_send1, sum_set])
      (by rw [payload_recv1, sum_write c, pr_pr, psum_set])) $$ [HB HPB HO Ds1 Dr1]
  · isplitr; · iexact Is1
    isplitr; · iexact Irp1
    isplitl [HB]; · iexact HB
    isplitl [HPB]; · iexact HPB
    isplitl [HO]; · iexact HO
    isplitl [Ds1]; · iexact Ds1
    isplitr; · iexact Rs1
    isplitl [Dr1]; · iexact Dr1
    iexact Rn1
  iintro ⟨Cs1, HO⟩
  iapply Hk
  isplitr
  · isplitr; · iexact Ib
    isplitr; · iexact Is0
    isplitr; · iexact Is1
    isplitr; · iexact Ir0
    isplitr; · iexact Ir1
    isplitr; · iexact Ibp
    isplitr; · iexact Irp0
    iexact Irp1
  isplitl [HatB]; · iexact HatB
  isplitl [As0]; · iexact As0
  isplitl [As1]; · iexact As1
  isplitl [Ar0]; · iexact Ar0
  isplitl [Ar1]; · iexact Ar1
  isplitl [Cs0]; · iexact Cs0
  isplitl [Cs1]; · iexact Cs1
  isplitl [Cr0]; · iexact Cr0
  isplitl [Cr1]; · iexact Cr1
  isplitl [HO]; · iexists _; iexact HO
  iexact Hlev

/-- A wait for one of the copies, nothing owed: what it carried comes to hand. -/
theorem wait_copy {c : Dev nD} {κ n : ℕ} {sm sem : DmaSem sig} {P : sProp (MT nD τ sig Unit (Elt F) ℕ UU ℕ)} (es : sem = sm)
    (hd : (rd A B).duties ((c : Thread nD τ), .dma sm) 0 = {()}) (he : (rd A B).expect ((c : Thread nD τ), .dma sm) 0 = n)
    (hp : (rd A B).payload ((c : Thread nD τ), .dma sm) 0 () = P)
    {sp sp' : Space} {sh : Shape} {e : EltTy} {srcw : Memref sig .tc sp' sh e}
    {sh' : Shape} {e' : EltTy} {dstw : Memref sig .tc sp sh' e'} (hN : dstw.view.dmaCredit = n) {h1 h2} :
    iprop(cellInv ER (rd A B) κ ((c : Thread nD τ), .dma sm) ∗ cred (tallyAt ((c : Thread nD τ), .dma sm) () n)
        ∗ atPos ER ((c : Thread nD τ), .dma sm) 0 ∅ 0 ∗ debt c 0)
      ⊢ iprop((iprop(atPos ER ((c : Thread nD τ), .dma sm) (0 + 1) ∅ 0 ∗ P ∗ debt c 0) -∗ wp frame (wpE defs 𝒱₀ (c : Thread nD τ) none) Set.univ (k ⟨⟩) Q)
      -∗ wp frame (wpE defs 𝒱₀ (c : Thread nD τ) none) Set.univ (.op (.waitDma2 sem srcw dstw h1 h2) k) Q) := by
  subst es hN
  unfold debt
  iintro ⟨#HI, Hc, Hat, ⟨%W, HO⟩, #Hlev⟩ Hk
  iapply (Rounds.wp_wait_rest_token 𝒱₀ ER (rd A B) (c : Thread nD τ) none (κ := κ)
      (wpE_waitDma2_eq 𝒱₀ (c : Thread nD τ) none Set.univ) (Set.mem_univ _) () (O := 0) (W := W) (R := 0) (m := 0) (T := ∅)
      ((Nat.zero_add _).trans he.symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_of A B hd hp)) $$ Hpay
  iapply Hk
  isplitl [Hat]; · iexact Hat
  isplitl [Hp]; · iexact Hp
  isplitl [HO]; · iexists _; iexact HO
  iexact Hlev

end

/-- The weighted sums are exchanged, the sums of weights still on their way. -/
def halfway (K : GSem nD τ sig → ℕ) (c : Dev nD) : sProp 𝕄 :=
  iprop(invs A B K c ∗ atPos ER (barCell c) (0 + 1) ∅ 0
    ∗ atPos ER (sendCell c 0) (0 + 1) ∅ 0 ∗ atPos ER (sendCell c 1) 0 ∅ 0 ∗ atPos ER (recvCell c 0) (0 + 1) ∅ 0 ∗ atPos ER (recvCell c 1) 0 ∅ 0
    ∗ cred (tallyAt (sendCell c 1) () (copyN 1)) ∗ cred (tallyAt (recvCell c 1) () (copyN 1))
    ∗ accP c (A c) ∗ paccP c (A (pr c)) ∗ debt (F := F) c 0)

theorem back {K : GSem nD τ sig → ℕ} {c : Dev nD} {i : grid0.Coords}
    {arg3 : Memref sig .tc .vmem S1x1x16x128 .f32} {harg3 : arg3.IsWhole}
    {arg6 : Memref sig .tc .vmem S32x1x16x128 .f32} {harg6 : arg6.IsWhole} {v3 v6 v9 : BitVec 32} {h5 : k0_cond5 i = 1#1} :
    iprop(talk₁ A B K c ∗ accP c (A c) ∗ sumP c (B c))
      ⊢ wp frame (wpE (defs₀ (F := F)) 𝒱₀ (c : Thread nD τ) none) Set.univ
        (k0_part21 i (Memref.whole main_v23) (Memref.isWhole_whole _) (Memref.whole main_v25) (Memref.isWhole_whole _) arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) accM (Memref.isWhole_whole _) sumM (Memref.isWhole_whole _) paccM (Memref.isWhole_whole _)
          psumM (Memref.isWhole_whole _) cc0_scratch6 cc0_scratch7 cc0_scratch8 c v3 v6 v9 h5)
        fun _ => halfway A B K c := by
  rw [k0_part21_eq_skeleton]
  unfold k0_part21_skel
  simp only [Prog.bind_op, Prog.bind_ret, Prog.bind_lift, Prog.pure_eq_ret]
  iintro H
  iapply (send_both A B K c _ _ (dev2_pr c _) (dev3_pr c _) (send_sem rfl) (send_sem rfl) (recv_sem rfl) (recv_sem rfl)) $$ H
  unfold flying halfway invs
  iintro ⟨⟨#Ib, #Is0, #Is1, #Ir0, #Ir1, #Ibp, #Irp0, #Irp1⟩, HatB, As0, As1, Ar0, Ar1, Cs0, Cs1, Cr0, Cr1, HD⟩
  iapply (wait_copy A B (κ := K (sendCell c 0)) (send_sem (s := 0) rfl) (duties_send A B c 0) (expect_send A B c 0) (payload_send0 A B c ()) acc_credit) $$ [Cs0 As0 HD]
  · isplitr; · iexact Is0
    isplitl [Cs0]; · iexact Cs0
    isplitl [As0]; · iexact As0
    iexact HD
  iintro ⟨As0, HA, HD⟩
  iapply (wait_copy A B (κ := K (recvCell c 0)) (recv_sem (s := 0) rfl) (duties_recv A B c 0) (expect_recv A B c 0) (payload_recv0 A B c ()) pacc_credit) $$ [Cr0 Ar0 HD]
  · isplitr; · iexact Ir0
    isplitl [Cr0]; · iexact Cr0
    isplitl [Ar0]; · iexact Ar0
    iexact HD
  iintro ⟨Ar0, HPA, HD⟩
  rw [wp_ret]; imodintro
  isplitr
  · isplitr; · iexact Ib
    isplitr; · iexact Is0
    isplitr; · iexact Is1
    isplitr; · iexact Ir0
    isplitr; · iexact Ir1
    isplitr; · iexact Ibp
    isplitr; · iexact Irp0
    iexact Irp1
  isplitl [HatB]; · iexact HatB
  isplitl [As0]; · iexact As0
  isplitl [As1]; · iexact As1
  isplitl [Ar0]; · iexact Ar0
  isplitl [Ar1]; · iexact Ar1
  isplitl [Cs1]; · iexact Cs1
  isplitl [Cr1]; · iexact Cr1
  isplitl [HA]; · iexact HA
  isplitl [HPA]; · iexact HPA
  iexact HD

end Cert.Proof
-- ==== Proof.Rows.lean ====
/- Loads and stores of whole buffers, and the store of one row of the sums. -/
module

public import proofs.«01_k».proof.Proof.Back

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section

variable {Λ : Labels} {defs : Defs nD τ sig (Elt F) Λ} {α : Type} {Q : α → sProp (MT nD τ sig Unit (Elt F) ℕ UU ℕ)} {c : Dev nD}

/-- The rectangle of a whole shape is the shape. -/
theorem rect_all {s : Shape} {off : Fin s.rank → ℕ} (ho : ∀ a, off a = 0) (h) (x : s.Idx) : (Rect.unit (s := s) off s.size h).emb x = x :=
  funext fun a => Fin.ext ((rect_emb_unit_val _ _ _ _ _).trans (by rw [ho a, Nat.zero_add]))

theorem read_all {sp : Space} {s : Shape} (m : Memref sig .tc sp s .f32) {off : Fin s.rank → ℕ} (ho : ∀ a, off a = 0) (h)
    (f : m.view.ty.Contents (Elt F)) : (m.access (Rect.unit (s := s) off s.size h)).read (Elt F) f = m.view.read (Elt F) f :=
  funext fun x => (View.read_apply _ _).trans (Eq.trans (by
    show _ = _root_.cast _ (f (m.view.emb x))
    rw [show (m.access (Rect.unit (s := s) off s.size h)).emb x = m.view.emb ((Rect.unit (s := s) off s.size h).emb x) from rfl, rect_all ho]) (View.read_apply _ _).symm)

theorem read_stored {sp : Space} {s : Shape} (m : Memref sig .tc sp s .f32) {off : Fin s.rank → ℕ} (ho : ∀ a, off a = 0) (h)
    (f : m.view.ty.Contents (Elt F)) (w : s.Idx → Elt F .f32) :
    m.view.read (Elt F) ((m.access (Rect.unit (s := s) off s.size h)).write (Elt F) f w Finset.univ) = w := by
  rw [← read_all m ho h]
  exact View.read_write_univ _ _

theorem set_all {sp : Space} {s : Shape} (m : Memref sig .tc sp s .f32) (r : Rect s) : (m.access r).set ⊆ m.view.set := by
  intro i hi
  obtain ⟨x, -, rfl⟩ := Finset.mem_map.mp hi
  exact View.emb_mem_set _ _

/-- A load of a whole buffer reads what it holds. -/
theorem load_all {s : Shape} {m : Memref sig .tc .vmem s .f32} {X : s.Idx → Elt F .f32} {off : Fin s.rank → ℕ} (ho : ∀ a, off a = 0) {h hl}
    {k : (s.Idx → Elt F .f32) → Prog (TpuEff nD τ sig (Elt F) Λ .tc) α} :
    owns (c : Thread nD τ) m fullShare X
      ⊢ iprop((owns (c : Thread nD τ) m fullShare X -∗ wp frame (wpE defs 𝒱₀ (c : Thread nD τ) none) Set.univ (k X) Q)
      -∗ wp frame (wpE defs 𝒱₀ (c : Thread nD τ) none) Set.univ (.op (.load (e := .f32) m (Rect.unit (s := s) off s.size h).toLoadRect hl) k) Q) := by
  unfold owns
  iintro ⟨%f, %hf, HX⟩ Hk
  iapply (wp_load_rect 𝒱₀ (c : Thread nD τ) none Set.univ (m := m) (r := Rect.unit (s := s) off s.size h) (set_all m _)) $$ HX
  iintro HX
  iapply (Entails.of_eq (congrArg (fun v => wp frame (wpE defs 𝒱₀ (c : Thread nD τ) none) Set.univ (k v) Q) ((read_all m ho h f).trans hf).symm))
  iapply Hk
  iexists f
  isplitr; · ipureintro; exact hf
  iexact HX

/-- A store of a whole buffer leaves what was stored. -/
theorem store_all {s : Shape} {m : Memref sig .tc .vmem s .f32} {X w : s.Idx → Elt F .f32} {off : Fin s.rank → ℕ} (ho : ∀ a, off a = 0) {h hx hm}
    {k : PUnit → Prog (TpuEff nD τ sig (Elt F) Λ .tc) α} :
    owns (c : Thread nD τ) m fullShare X
      ⊢ iprop((owns (c : Thread nD τ) m fullShare w -∗ wp frame (wpE defs 𝒱₀ (c : Thread nD τ) none) Set.univ (k ⟨⟩) Q)
      -∗ wp frame (wpE defs 𝒱₀ (c : Thread nD τ) none) Set.univ (.op (.store (e := .f32) m (Rect.unit (s := s) off s.size h) w Finset.univ hx hm) k) Q) := by
  unfold owns
  iintro ⟨%f, %hf, HX⟩ Hk
  iapply (wp_store 𝒱₀ (c : Thread nD τ) none Set.univ (m := m) (r := Rect.unit (s := s) off s.size h) (w := w) (Mk := Finset.univ)
    (set_all m (Rect.unit (s := s) off s.size h))) $$ HX
  iintro HX
  iapply Hk
  iexists _
  isplitr; · ipureintro; exact read_stored m ho h f w
  iexact HX

end

/-! ## The rows of the sums stored so far -/

variable (A : Dev nD → Acc F) (B : Dev nD → Sums F)

/-- The first `n` rows of the two sums hold what they are to hold. -/
def rows (c : Dev nD) (n : ℕ) : sProp 𝕄 :=
  iprop((∃ f, ⌜∀ x, (x 0).val < n → f x = A c x⌝ ∗ accP c f) ∗ ∃ f, ⌜∀ x, (x 0).val < n → f x = B c x⌝ ∗ sumP c f)

/-- All thirty-two of them. -/
theorem rows_all (c : Dev nD) : rows A B c 32 ⊢ iprop(accP c (A c) ∗ sumP c (B c)) := by
  unfold rows
  iintro ⟨⟨%f, %hf, HA⟩, ⟨%g, %hg, HB⟩⟩
  obtain rfl : f = A c := funext fun x => hf x (x 0).isLt
  obtain rfl : g = B c := funext fun x => hg x (x 0).isLt
  isplitl [HA]; · iexact HA
  iexact HB

theorem acc_row {off : Fin 3 → ℕ} {r : Fin 32} (ho : off = ![r.val, 0, 0]) (h) (f P : Acc F) (w : S1x16x128.Idx → Elt F .f32)
    (hf : ∀ x, (x 0).val < r.val → f x = P x) (hw : ∀ a b, w (ix3 0 a b) = P (ix3 r a b)) (x : S32x16x128.Idx) (hx : (x 0).val < r.val + 1) :
    (accM.access (Rect.unit (s := S32x16x128) off S1x16x128.size h)).write (Elt F) f w Finset.univ x = P x := by
  subst ho
  have e : ∀ y a, ((Rect.unit (s := S32x16x128) ![r.val, 0, 0] S1x16x128.size h).emb y a : ℕ) = ![r.val, 0, 0] a + (y a).val := fun y a => rect_emb_unit_val _ _ _ y a
  by_cases hr : (x 0).val < r.val
  · refine (View.write_of_not_mem _ _ _ ?_).trans (hf x hr)
    intro hm
    obtain ⟨y, -, hy⟩ := Finset.mem_map.mp hm
    have h0 := (e y 0).symm.trans (congrArg (fun z : S32x16x128.Idx => (z 0).val) hy)
    have : r.val + (y 0).val = (x 0).val := h0
    omega
  · have h0 : (x 0).val = r.val := by omega
    have hxy : x = (accM.access (Rect.unit (s := S32x16x128) ![r.val, 0, 0] S1x16x128.size h)).emb (ix3 (0 : Fin 1) (x 1) (x 2)) := by
      refine funext fun a => Fin.ext ?_
      refine Eq.trans ?_ (e _ a).symm
      fin_cases a
      · exact h0
      · exact (Nat.zero_add _).symm
      · exact (Nat.zero_add _).symm
    refine (congrArg _ hxy).trans ((View.write_emb_of_mem _ _ (Finset.mem_univ _)).trans ?_)
    refine (hw (x 1) (x 2)).trans (congrArg P (funext fun a => ?_))
    fin_cases a
    · exact Fin.ext h0.symm
    · rfl
    · rfl

theorem sum_row {off : Fin 2 → ℕ} {r : Fin 32} (ho : off = ![r.val, 0]) (h) (f P : Sums F) (w : S1x16.Idx → Elt F .f32)
    (hf : ∀ x, (x 0).val < r.val → f x = P x) (hw : ∀ a, w (ix2 0 a) = P (ix2 r a)) (x : S32x16.Idx) (hx : (x 0).val < r.val + 1) :
    (sumM.access (Rect.unit (s := S32x16) off S1x16.size h)).write (Elt F) f w Finset.univ x = P x := by
  subst ho
  have e : ∀ y a, ((Rect.unit (s := S32x16) ![r.val, 0] S1x16.size h).emb y a : ℕ) = ![r.val, 0] a + (y a).val := fun y a => rect_emb_unit_val _ _ _ y a
  by_cases hr : (x 0).val < r.val
  · refine (View.write_of_not_mem _ _ _ ?_).trans (hf x hr)
    intro hm
    obtain ⟨y, -, hy⟩ := Finset.mem_map.mp hm
    have h0 := (e y 0).symm.trans (congrArg (fun z : S32x16.Idx => (z 0).val) hy)
    have : r.val + (y 0).val = (x 0).val := h0
    omega
  · have h0 : (x 0).val = r.val := by omega
    have hxy : x = (sumM.access (Rect.unit (s := S32x16) ![r.val, 0] S1x16.size h)).emb (ix2 (0 : Fin 1) (x 1)) := by
      refine funext fun a => Fin.ext ?_
      refine Eq.trans ?_ (e _ a).symm
      fin_cases a
      · exact h0
      · exact (Nat.zero_add _).symm
    refine (congrArg _ hxy).trans ((View.write_emb_of_mem _ _ (Finset.mem_univ _)).trans ?_)
    refine (hw (x 1)).trans (congrArg P (funext fun a => ?_))
    fin_cases a
    · exact Fin.ext h0.symm
    · rfl

section

variable {Λ : Labels} {defs : Defs nD τ sig (Elt F) Λ} {α : Type} {Q : α → sProp (MT nD τ sig Unit (Elt F) ℕ UU ℕ)} {c : Dev nD}

/-- The end of a row: its two sums are stored, each after a load whose value is not used. -/
theorem store_rows {r : Fin 32} {off : Fin 3 → ℕ} {off' : Fin 2 → ℕ} (ho : off = ![r.val, 0, 0]) (ho' : off' = ![r.val, 0]) {h h' hl hl' hx hx' hm hm'}
    {w : S1x16x128.Idx → Elt F .f32} {w' : S1x16.Idx → Elt F .f32}
    (hw : ∀ a b, w (ix3 0 a b) = A c (ix3 r a b)) (hw' : ∀ a, w' (ix2 0 a) = B c (ix2 r a)) {k : PUnit → Prog (TpuEff nD τ sig (Elt F) Λ .tc) α} :
    rows A B c r.val
      ⊢ iprop((rows A B c (r.val + 1) -∗ wp frame (wpE defs 𝒱₀ (c : Thread nD τ) none) Set.univ (k ⟨⟩) Q)
      -∗ wp frame (wpE defs 𝒱₀ (c : Thread nD τ) none) Set.univ
        (.op (.load (e := .f32) accM (Rect.unit (s := S32x16x128) off S1x16x128.size h).toLoadRect hl) fun _ =>
          .op (.store (e := .f32) accM (Rect.unit (s := S32x16x128) off S1x16x128.size h) w Finset.univ hx hm) fun _ =>
          .op (.load (e := .f32) sumM (Rect.unit (s := S32x16) off' S1x16.size h').toLoadRect hl') fun _ =>
          .op (.store (e := .f32) sumM (Rect.unit (s := S32x16) off' S1x16.size h') w' Finset.univ hx' hm') k) Q) := by
  unfold rows accP sumP
  iintro ⟨⟨%f, %hf, HA⟩, ⟨%g, %hg, HB⟩⟩ Hk
  iapply (wp_load_rect 𝒱₀ (c : Thread nD τ) none Set.univ (m := accM) (r := Rect.unit (s := S32x16x128) off S1x16x128.size h) (Finset.subset_univ _)) $$ HA
  iintro HA
  iapply (wp_store 𝒱₀ (c : Thread nD τ) none Set.univ (m := accM) (r := Rect.unit (s := S32x16x128) off S1x16x128.size h) (w := w) (Mk := Finset.univ)
    (Finset.subset_univ _)) $$ HA
  iintro HA
  iapply (wp_load_rect 𝒱₀ (c : Thread nD τ) none Set.univ (m := sumM) (r := Rect.unit (s := S32x16) off' S1x16.size h') (Finset.subset_univ _)) $$ HB
  iintro HB
  iapply (wp_store 𝒱₀ (c : Thread nD τ) none Set.univ (m := sumM) (r := Rect.unit (s := S32x16) off' S1x16.size h') (w := w') (Mk := Finset.univ)
    (Finset.subset_univ _)) $$ HB
  iintro HB
  iapply Hk
  isplitl [HA]
  · iexists _
    isplitr; · ipureintro; exact acc_row ho h f (A c) w hf hw
    iexact HA
  · iexists _
    isplitr; · ipureintro; exact sum_row ho' h' g (B c) w' hg hw'
    iexact HB

end

end Cert.Proof
-- ==== Proof.Point.lean ====
/- One point of the grid: the body at a row, from the state before it to the state before the next. -/
module

public import proofs.«01_k».proof.Proof.Rows

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Dev nD → Acc F) (B : Dev nD → Sums F)

/-- What a device leaves in its result. -/
def result (c : Dev nD) : S32x1x16x128.Idx → Elt F .f32 := k0_pay12 (B c) (B (pr c)) (A c) (A (pr c))

/-- What a device holds of the exchange and of the sums before point `t`; `t = 32` is after the last. -/
def exch (K : GSem nD τ sig → ℕ) (c : Dev nD) (t : ℕ) : sProp 𝕄 :=
  if t = 32 then talk₂ A B c else iprop(talkAt A B K c t ∗ rows A B c t)

theorem cond5_iff (i : grid0.Coords) : k0_cond5 i = 1#1 ↔ (i 0).val = 31 := by
  have h : (i 0).val < 32 := (i 0).isLt
  unfold k0_cond5
  generalize (i 0).val = n at h
  revert n
  decide

theorem acc_own (c : Dev nD) (f : Acc F) : accP c f ⊢ (owns (c : Thread nD τ) accM fullShare f : sProp 𝕄) :=
  Entails.of_eq (owns_whole (c : Thread nD τ) cc0_scratch2 fullShare f).symm
theorem sum_own (c : Dev nD) (f : Sums F) : sumP c f ⊢ (owns (c : Thread nD τ) sumM fullShare f : sProp 𝕄) :=
  Entails.of_eq (owns_whole (c : Thread nD τ) cc0_scratch3 fullShare f).symm
theorem pacc_own (c : Dev nD) (f : Acc F) : paccP c f ⊢ (owns (c : Thread nD τ) paccM fullShare f : sProp 𝕄) :=
  Entails.of_eq (owns_whole (c : Thread nD τ) cc0_scratch4 fullShare f).symm
theorem psum_own (c : Dev nD) (f : Sums F) : psumP c f ⊢ (owns (c : Thread nD τ) psumM fullShare f : sProp 𝕄) :=
  Entails.of_eq (owns_whole (c : Thread nD τ) cc0_scratch5 fullShare f).symm
theorem own_acc (c : Dev nD) (f : Acc F) : (owns (c : Thread nD τ) accM fullShare f : sProp 𝕄) ⊢ accP c f :=
  Entails.of_eq (owns_whole (c : Thread nD τ) cc0_scratch2 fullShare f)
theorem own_sum (c : Dev nD) (f : Sums F) : (owns (c : Thread nD τ) sumM fullShare f : sProp 𝕄) ⊢ sumP c f :=
  Entails.of_eq (owns_whole (c : Thread nD τ) cc0_scratch3 fullShare f)
theorem own_pacc (c : Dev nD) (f : Acc F) : (owns (c : Thread nD τ) paccM fullShare f : sProp 𝕄) ⊢ paccP c f :=
  Entails.of_eq (owns_whole (c : Thread nD τ) cc0_scratch4 fullShare f)
theorem own_psum (c : Dev nD) (f : Sums F) : (owns (c : Thread nD τ) psumM fullShare f : sProp 𝕄) ⊢ psumP c f :=
  Entails.of_eq (owns_whole (c : Thread nD τ) cc0_scratch5 fullShare f)

/-- A step run by what was proved of it, the rest by what is proved of the rest. -/
theorem wp_then {Λ : Labels} {defs : Defs nD τ sig (Elt F) Λ} {α β : Type} {Q : α → sProp (MT nD τ sig Unit (Elt F) ℕ UU ℕ)} {c : Dev nD}
    {R S G : sProp (MT nD τ sig Unit (Elt F) ℕ UU ℕ)} {p : Prog (TpuEff nD τ sig (Elt F) Λ .tc) β}
    (Q' : β → sProp (MT nD τ sig Unit (Elt F) ℕ UU ℕ)) {k : β → Prog (TpuEff nD τ sig (Elt F) Λ .tc) α}
    (hG : G ⊢ iprop(R ∗ S)) (h : R ⊢ wp frame (wpE defs 𝒱₀ (c : Thread nD τ) none) Set.univ p Q')
    (hk : ∀ x, iprop(Q' x ∗ S) ⊢ wp frame (wpE defs 𝒱₀ (c : Thread nD τ) none) Set.univ (k x) Q) :
    G ⊢ wp frame (wpE defs 𝒱₀ (c : Thread nD τ) none) Set.univ (p >>= k) Q := by
  refine hG.trans ?_
  iintro ⟨HR, HS⟩
  iapply (wp_call h) $$ HR
  iintro %x HQ
  iapply (hk x) $$ [HQ HS]
  isplitl [HQ]; · iexact HQ
  iexact HS

theorem off4 : ∀ a, (![0, 0, 0, 0] : Fin 4 → ℕ) a = 0 := by decide
theorem off3 : ∀ a, (![0, 0, 0] : Fin 3 → ℕ) a = 0 := by decide
theorem off2 : ∀ a, (![0, 0] : Fin 2 → ℕ) a = 0 := by decide

/-- A branch and what follows it, the rest proved once. -/
theorem wp_fork {Λ : Labels} {defs : Defs nD τ sig (Elt F) Λ} {α : Type} {Q : α → sProp (MT nD τ sig Unit (Elt F) ℕ UU ℕ)} {c : Dev nD}
    {G M : sProp (MT nD τ sig Unit (Elt F) ℕ UU ℕ)} {b : Prop} [Decidable b]
    {p : b → Prog (TpuEff nD τ sig (Elt F) Λ .tc) α} {e : Prog (TpuEff nD τ sig (Elt F) Λ .tc) α}
    (h0 : ¬ b → G ⊢ M) (h1 : ∀ h, (M ⊢ wp frame (wpE defs 𝒱₀ (c : Thread nD τ) none) Set.univ e Q) → G ⊢ wp frame (wpE defs 𝒱₀ (c : Thread nD τ) none) Set.univ (p h) Q)
    (he : M ⊢ wp frame (wpE defs 𝒱₀ (c : Thread nD τ) none) Set.univ e Q) :
    G ⊢ wp frame (wpE defs 𝒱₀ (c : Thread nD τ) none) Set.univ (if h : b then p h else e) Q := by
  by_cases h : b
  · rw [dif_pos h]; exact h1 h he
  · rw [dif_neg h]; exact (h0 h).trans he

section Body

variable {K : GSem nD τ sig → ℕ} {c : Dev nD} {tab : Table} {cnt : Counts} {fK fV : Cache F} (htab : ∀ j, (tab j).toNat < 256)
  (hcnt : ∀ j, (cnt j).toNat ≤ 256) {r : Fin 32} {i : grid0.Coords} (hi : (i 0).val = r.val)
  {arg3 : Memref sig .tc .vmem S1x1x16x128 .f32} {harg3 : arg3.IsWhole}
  {arg6 : Memref sig .tc .vmem S32x1x16x128 .f32} {harg6 : arg6.IsWhole} {q : Vec F S1x1x16x128 .f32} {d : S32x1x16x128.Idx → Elt F .f32}
  (hA : ∀ a b, k0_pay10 (carry tab r fK fV (cnt (ix1 r)) q (nch (cnt (ix1 r)))).1 (ix3 0 a b) = A c (ix3 r a b))
  (hB : ∀ a, k0_pay11 (carry tab r fK fV (cnt (ix1 r)) q (nch (cnt (ix1 r)))).2 (ix2 0 a) = B c (ix2 r a))

/-- The tables, the caches and the two page slots, free. -/
def still (c : Dev nD) (tab : Table) (cnt : Counts) (fK fV : Cache F) : sProp 𝕄 :=
  iprop(table (F := F) c tab ∗ counts (F := F) c cnt ∗ caches c fK fV ∗ slotFree c 0 ∗ slotFree c 1)

include htab hcnt hi hA hB in
theorem point :
    iprop(exch A B K c r.val ∗ still c tab cnt fK fV ∗ owns (c : Thread nD τ) arg3 fullShare q ∗ owns (c : Thread nD τ) arg6 fullShare d)
      ⊢ wp frame (wpE (defs₀ (F := F)) 𝒱₀ (c : Thread nD τ) none) Set.univ
        (cc0_body i (Memref.whole main_v23) (Memref.isWhole_whole _) (Memref.whole main_v25) (Memref.isWhole_whole _) arg3 harg3 (Memref.whole main_arg1) (Memref.isWhole_whole _)
          (Memref.whole main_arg2) (Memref.isWhole_whole _) arg6 harg6 (Memref.whole cc0_scratch0) (Memref.isWhole_whole _)
          (Memref.whole cc0_scratch1) (Memref.isWhole_whole _) accM (Memref.isWhole_whole _) sumM (Memref.isWhole_whole _) paccM (Memref.isWhole_whole _)
          psumM (Memref.isWhole_whole _) cc0_scratch6 cc0_scratch7 cc0_scratch8)
        fun _ => iprop(exch A B K c (r.val + 1) ∗ still c tab cnt fK fV ∗ owns (c : Thread nD τ) arg3 fullShare q
          ∗ owns (c : Thread nD τ) arg6 fullShare (if r.val = 31 then result A B c else d)) := by
  have hr : r.val < 32 := r.isLt
  rw [cc0_body_eq_skeleton]
  unfold cc0_body_skel
  refine wp_then (R := iprop(talkAt A B K c r.val ∗ counts (F := F) c cnt))
    (S := iprop(rows A B c r.val ∗ table (F := F) c tab ∗ caches c fK fV ∗ slotFree c 0 ∗ slotFree c 1 ∗ owns (c : Thread nD τ) arg3 fullShare q ∗ owns (c : Thread nD τ) arg6 fullShare d))
    _ ?_ (front A B hcnt hi) ?_
  · unfold exch still
    rw [if_neg (by omega)]
    iintro ⟨⟨HK, HR⟩, ⟨HT, HN, HC, H0, H1⟩, H3, H6⟩
    isplitl [HK HN]
    · isplitl [HK]; · iexact HK
      iexact HN
    isplitl [HR]; · iexact HR
    isplitl [HT]; · iexact HT
    isplitl [HC]; · iexact HC
    isplitl [H0]; · iexact H0
    isplitl [H1]; · iexact H1
    isplitl [H3]; · iexact H3
    iexact H6
  rintro ⟨arg0, d0, v3, v6, v9, v15, h9, v34, v36⟩
  refine BIBase.Entails.trans (Q := iprop(⌜d0 = c ∧ v15 = cnt (ix1 r)⌝ ∧ (talk₁ A B K c ∗ counts (F := F) c cnt ∗ rows A B c r.val ∗ table (F := F) c tab ∗ caches c fK fV ∗ slotFree c 0 ∗ slotFree c 1 ∗ owns (c : Thread nD τ) arg3 fullShare q ∗ owns (c : Thread nD τ) arg6 fullShare d))) ?_ ?_
  · iintro ⟨⟨%h, HK, HN⟩, HR⟩
    isplitr; · ipureintro; exact h
    isplitl [HK]; · iexact HK
    isplitl [HN]; · iexact HN
    iexact HR
  refine pure_elim_left ?_
  rintro ⟨rfl, rfl⟩
  have hv := hcnt (ix1 r)
  simp only [smemLoad, smemLoadElt, Prog.bind_op, Prog.bind_ret, Prog.bind_lift, Prog.pure_eq_ret]
  refine wp_fork (M := iprop(talk₁ A B K d0 ∗ counts (F := F) d0 cnt ∗ rows A B d0 r.val ∗ table (F := F) d0 tab ∗ caches d0 fK fV
    ∗ ahead d0 0 (pages tab r 0) fK fV (0 < nch (cnt (ix1 r))) ∗ slotFree d0 1 ∗ owns (d0 : Thread nD τ) arg3 fullShare q ∗ owns (d0 : Thread nD τ) arg6 fullShare d)) ?_ ?_ ?_
  · intro h2
    unfold ahead
    rw [if_neg (fun h => h2 ((cond2_iff hv).mpr h))]
  · intro h2 he
    iintro ⟨HK, HN, HR, HT, HC, H0, HS⟩
    imod (fill_start d0 0 (pages tab r 0) fK fV) $$ [HC H0] with HF
    · isplitl [HC]; · iexact HC
      iexact H0
    iapply (wp_call (first1 htab hi)) $$ [HF HT]
    · isplitl [HF]; · iexact HF
      iexact HT
    iintro %x ⟨%hx, HF, HT⟩
    iapply (wp_call (first2 htab hi hx)) $$ [HF HT]
    · isplitl [HF]; · iexact HF
      iexact HT
    iintro %x1 ⟨%hx1, HF, HT⟩
    iapply (wp_call (first3 htab hi hx1)) $$ [HF HT]
    · isplitl [HF]; · iexact HF
      iexact HT
    iintro %x2 ⟨%hx2, HF, HT⟩
    iapply (wp_call (first4 htab hi hx2)) $$ [HF HT]
    · isplitl [HF]; · iexact HF
      iexact HT
    iintro %x3 ⟨HF, HT⟩
    iapply (wp_entry (r := r) (n := 7) (by omega) ((k0_off16_eq i).trans (by rw [hi])) (fun f hf _ => inb_page (entry_lt htab hf))) $$ HT
    iintro %f' %hf' %h' HT
    iapply (issueK (n := 14) rfl (by omega) (entry_lt htab hf') (congrArg BitVec.toNat hf'.symm) rfl rfl (page_sem rfl)) $$ HF
    iintro HF
    iapply (issueV (n := 15) rfl (by omega) (entry_lt htab hf') (congrArg BitVec.toNat hf'.symm) rfl rfl (page_sem rfl)) $$ HF
    iintro HF
    ihave HF2 := (fill_done d0 0 (pages tab r 0) fK fV) $$ HF
    icases HF2 with ⟨HC, H0⟩
    iapply he
    unfold ahead
    rw [if_pos ((cond2_iff hv).mp h2)]
    isplitl [HK]; · iexact HK
    isplitl [HN]; · iexact HN
    isplitl [HR]; · iexact HR
    isplitl [HT]; · iexact HT
    isplitl [HC]; · iexact HC
    isplitl [H0]; · iexact H0
    iexact HS
  unfold talk₁
  iintro ⟨⟨HI, HH, Hb, Hr0, Hr1, Hp, Hs, HD⟩, HN, HR, HT, HC, HA, H1, H3, H6⟩
  iapply (load_all off4) $$ H3
  iintro H3
  iapply (row_loop htab hi hv (mayWait_page d0)) $$ [HT HC HA H1 HD]
  · isplitl [HC]; · iexact HC
    isplitl [HT]; · iexact HT
    isplitl [H1]; · iexact H1
    isplitl [HA]; · iexact HA
    iexact HD
  iintro %acc ⟨%hacc, HC, HT, H0, H1, HD⟩
  subst hacc
  iapply (no_trips (trips_t2 hv))
  iapply (store_rows A B ((k0_off120_eq i).trans (by rw [hi])) ((k0_off121_eq i).trans (by rw [hi])) hA hB) $$ HR
  iintro HR
  by_cases h5 : k0_cond5 i = 1#1
  · have h31 : r.val = 31 := hi.symm.trans ((cond5_iff i).mp h5)
    have h32 : r.val + 1 = 32 := by omega
    rw [dif_pos h5, if_pos h31]
    rw [h32]
    ihave HR2 := (rows_all A B) $$ HR
    icases HR2 with ⟨HAc, HSu⟩
    iapply (wp_call (back A B)) $$ [HI HH Hb Hr0 Hr1 Hp Hs HD HAc HSu]
    · unfold talk₁
      isplitr [HAc HSu]
      · isplitl [HI]; · iexact HI
        isplitl [HH]; · iexact HH
        isplitl [Hb]; · iexact Hb
        isplitl [Hr0]; · iexact Hr0
        isplitl [Hr1]; · iexact Hr1
        isplitl [Hp]; · iexact Hp
        isplitl [Hs]; · iexact Hs
        iexact HD
      isplitl [HAc]; · iexact HAc
      iexact HSu
    unfold halfway invs
    iintro %x ⟨⟨#HIb, #HIs0, #HIs1, #HIr0, #HIr1, -⟩, Hb, Hs0, Hs1, Hr0, Hr1, Hcs, Hcr, HAc, HPa, HD⟩
    iapply (wait_copy A B (send_sem (s := 1) rfl) (duties_send A B d0 1) (expect_send A B d0 1) (payload_send1 A B d0 ()) sum_credit) $$ [Hcs Hs1 HD]
    · isplitr; · iexact HIs1
      isplitl [Hcs]; · iexact Hcs
      isplitl [Hs1]; · iexact Hs1
      iexact HD
    iintro ⟨Hs1, HSu, HD⟩
    iapply (wait_copy A B (recv_sem (s := 1) rfl) (duties_recv A B d0 1) (expect_recv A B d0 1) (payload_recv1 A B d0 ()) psum_credit) $$ [Hcr Hr1 HD]
    · isplitr; · iexact HIr1
      isplitl [Hcr]; · iexact Hcr
      isplitl [Hr1]; · iexact Hr1
      iexact HD
    iintro ⟨Hr1, HPs, HD⟩
    ihave HAc := (acc_own d0 (A d0)) $$ HAc
    ihave HSu := (sum_own d0 (B d0)) $$ HSu
    ihave HPa := (pacc_own d0 (A (pr d0))) $$ HPa
    ihave HPs := (psum_own d0 (B (pr d0))) $$ HPs
    iapply (load_all off2) $$ HSu
    iintro HSu
    iapply (load_all off2) $$ HPs
    iintro HPs
    iapply (load_all off3) $$ HAc
    iintro HAc
    iapply (load_all off3) $$ HPa
    iintro HPa
    iapply (load_all off4) $$ H6
    iintro H6
    iapply (store_all off4) $$ H6
    iintro H6
    ihave HAc := (own_acc d0 (A d0)) $$ HAc
    ihave HSu := (own_sum d0 (B d0)) $$ HSu
    ihave HPa := (own_pacc d0 (A (pr d0))) $$ HPa
    ihave HPs := (own_psum d0 (B (pr d0))) $$ HPs
    rw [wp_ret]
    imod (close A B (K (barCell d0)) (barCell d0)) $$ [Hb] with Hb
    · isplitr; · iexact HIb
      iexact Hb
    imod (close A B (K (sendCell d0 0)) (sendCell d0 0)) $$ [Hs0] with Hs0
    · isplitr; · iexact HIs0
      iexact Hs0
    imod (close A B (K (sendCell d0 1)) (sendCell d0 1)) $$ [Hs1] with Hs1
    · isplitr; · iexact HIs1
      iexact Hs1
    imod (close A B (K (recvCell d0 0)) (recvCell d0 0)) $$ [Hr0] with Hr0
    · isplitr; · iexact HIr0
      iexact Hr0
    imod (close A B (K (recvCell d0 1)) (recvCell d0 1)) $$ [Hr1] with Hr1
    · isplitr; · iexact HIr1
      iexact Hr1
    imodintro
    unfold exch talk₂ still
    rw [if_pos rfl]
    isplitl [Hb Hs0 Hs1 Hr0 Hr1 HAc HSu HPa HPs HD]
    · isplitl [Hb]; · iexact Hb
      isplitl [Hs0]; · iexact Hs0
      isplitl [Hs1]; · iexact Hs1
      isplitl [Hr0]; · iexact Hr0
      isplitl [Hr1]; · iexact Hr1
      isplitl [HAc]; · iexact HAc
      isplitl [HSu]; · iexact HSu
      isplitl [HPa]; · iexact HPa
      isplitl [HPs]; · iexact HPs
      iexact HD
    isplitl [HT HN HC H0 H1]
    · isplitl [HT]; · iexact HT
      isplitl [HN]; · iexact HN
      isplitl [HC]; · iexact HC
      isplitl [H0]; · iexact H0
      iexact H1
    isplitl [H3]; · iexact H3
    iexact H6
  · have h31 : ¬ r.val = 31 := fun h => h5 ((cond5_iff i).mpr (hi.trans h))
    rw [dif_neg h5, if_neg h31, wp_ret]; imodintro
    unfold exch talkAt still talk₁
    rw [if_neg (by omega), if_neg (by omega)]
    isplitl [HI HH Hb Hr0 Hr1 Hp Hs HD HR]
    · isplitr [HR]
      · isplitl [HI]; · iexact HI
        isplitl [HH]; · iexact HH
        isplitl [Hb]; · iexact Hb
        isplitl [Hr0]; · iexact Hr0
        isplitl [Hr1]; · iexact Hr1
        isplitl [Hp]; · iexact Hp
        isplitl [Hs]; · iexact Hs
        iexact HD
      iexact HR
    isplitl [HT HN HC H0 H1]
    · isplitl [HT]; · iexact HT
      isplitl [HN]; · iexact HN
      isplitl [HC]; · iexact HC
      isplitl [H0]; · iexact H0
      iexact H1
    isplitl [H3]; · iexact H3
    iexact H6

end Body

end Cert.Proof
-- ==== Proof.Named.lean ====
/- Names for what the grid reads and leaves, over the contents the buffers have when the grid is entered. -/
module

public import proofs.«01_k».proof.Proof.Point
public import proofs.«01_k».proof.Proof.Gen.KernelIdeal.Regions

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (W : Dev nD → Valuation τ sig (Elt F))

/-- The page table of a device. -/
def tabOf (c : Dev nD) : Table := W c main_v23
/-- The page counts of a device. -/
def cntOf (c : Dev nD) : Counts := W c main_v25
/-- The keys of a device. -/
def keyOf (c : Dev nD) : Cache F := W c main_arg1
/-- The values of a device. -/
def valOf (c : Dev nD) : Cache F := W c main_arg2
/-- The queries of a device. -/
def qryOf (c : Dev nD) : S32x1x16x128.Idx → Elt F .f32 := W c main_arg0
/-- The query of row `r`. -/
def qRow (c : Dev nD) (r : Fin 32) : Vec F S1x1x16x128 .f32 := fun j => qryOf W c (ix4 r 0 (j 2) (j 3))

/-- The sums of row `r`, after all its pages. -/
def sumsOf (c : Dev nD) (r : Fin 32) : FVec F S16x128 .f32 × FVec F S1x16 .f32 :=
  carry (tabOf W c) r (keyOf W c) (valOf W c) (cntOf W c (ix1 r)) (qRow W c r) (nch (cntOf W c (ix1 r)))
/-- The weighted sums of the values, all rows. -/
def accOf (c : Dev nD) : Acc F := fun j => k0_pay10 (sumsOf W c (j 0)).1 (ix3 0 (j 1) (j 2))
/-- The sums of the weights, all rows. -/
def sumOf (c : Dev nD) : Sums F := fun j => k0_pay11 (sumsOf W c (j 0)).2 (ix2 0 (j 1))
/-- The result of a device. -/
def resOf (c : Dev nD) : S32x1x16x128.Idx → Elt F .f32 := result (accOf W) (sumOf W) c

theorem ok_any (pf : pre0.Contents (Elt F)) : ok0 pf := by rw [ok0.eq_1]; trivial

/-- The tables the grid of a device is run at. -/
def adm (c : Dev nD) : (p : Fin 1) → (pcfgs (F := F) p).Adm := fun _ =>
  ⟨fun k => W c (pre0.ref k), ok_any (F := F) fun k => W c (pre0.ref k)⟩

/-- What a device owes before point `t`. -/
def owedAt (c : Dev nD) (t : ℕ) : CellTallies nD τ sig Unit := if t = 0 then owed₀ c else if t = 32 then 0 else owed₁ c

/-- After the last point, what is left of the exchange but the debt. -/
def talkEnd (c : Dev nD) : sProp 𝕄 :=
  iprop(semVal (barCell c) 0 ∗ semVal (sendCell c 0) 0 ∗ semVal (sendCell c 1) 0 ∗ semVal (recvCell c 0) 0 ∗ semVal (recvCell c 1) 0
    ∗ accP c (accOf W c) ∗ sumP c (sumOf W c) ∗ paccP c (accOf W (pr c)) ∗ psumP c (sumOf W (pr c)))

/-- What a device keeps from point to point. -/
def keep (c : Dev nD) (t : ℕ) : sProp 𝕄 :=
  iprop((levAts L lv ∗ if t = 32 then talkEnd W c
      else ∃ K, (debt (F := F) c (owedAt c t) -∗ exch (accOf W) (sumOf W) K c t))
    ∗ still c (tabOf W c) (cntOf W c) (keyOf W c) (valOf W c))

set_option backward.isDefEq.respectTransparency.types false in
/-- The run of the grid on a device. -/
def dats (p : Fin 1) (c : Dev nD) : Pipeline.Dat τ (Elt F) Unit ℕ UU ℕ (Pipeline.pinD (pcfgs (F := F)) (adm W) c p) c where
  A := fun | 0 => W c main_arg0 | 1 => W c main_v26
  after := fun | 0 => fun t => qRow W c (t.cast N_0) | 1 => fun _ => resOf W c
  Φ := fun t => keep W c t.val
  q := fun _ => fullShare
  owed := fun t => owedAt c t.val

theorem keep_open (c : Dev nD) {t : ℕ} (ht : t ≠ 32) :
    iprop(keep W c t ∗ ∃ Wd, owes (c : Thread nD τ) (owedAt c t) Wd)
      ⊢ iprop(∃ K, exch (accOf W) (sumOf W) K c t ∗ still c (tabOf W c) (cntOf W c) (keyOf W c) (valOf W c)) := by
  unfold keep debt
  rw [if_neg ht]
  iintro ⟨⟨⟨#HL, %K, HK⟩, HS⟩, HO⟩
  iexists K
  isplitr [HS]
  · iapply HK
    isplitl [HO]; · iexact HO
    iexact HL
  iexact HS

theorem exch_debt (K : GSem nD τ sig → ℕ) (c : Dev nD) {t : ℕ} (h0 : t ≠ 0) (ht : t ≠ 32) :
    exch (accOf W) (sumOf W) K c t ⊢ iprop(debt (F := F) c (owedAt c t) ∗ (debt (F := F) c (owedAt c t) -∗ exch (accOf W) (sumOf W) K c t)) := by
  unfold exch talkAt owedAt
  rw [if_neg ht, if_neg h0, if_neg h0, if_neg ht]
  unfold talk₁
  iintro ⟨⟨H1, H2, H3, H4, H5, H6, H7, HD⟩, HR⟩
  isplitl [HD]; · iexact HD
  iintro HD
  isplitr [HR]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HD
  iexact HR

theorem keep_last (c : Dev nD) : keep W c 32 = iprop((levAts L lv ∗ talkEnd W c) ∗ still c (tabOf W c) (cntOf W c) (keyOf W c) (valOf W c)) := by
  unfold keep; rw [if_pos rfl]
theorem exch_last (A : Dev nD → Acc F) (B : Dev nD → Sums F) (K : GSem nD τ sig → ℕ) (c : Dev nD) : exch A B K c 32 = talk₂ A B c := by
  unfold exch; rw [if_pos rfl]
theorem owed_last (c : Dev nD) : owedAt c 32 = 0 := by
  unfold owedAt; rw [if_neg (by decide), if_pos rfl]
theorem owed_first (c : Dev nD) : owedAt c 0 = owed₀ c := by
  unfold owedAt; rw [if_pos rfl]

theorem keep_close (K : GSem nD τ sig → ℕ) (c : Dev nD) {t : ℕ} (h0 : t ≠ 0) :
    iprop(exch (accOf W) (sumOf W) K c t ∗ still c (tabOf W c) (cntOf W c) (keyOf W c) (valOf W c))
      ⊢ iprop(keep W c t ∗ ∃ Wd, owes (c : Thread nD τ) (owedAt c t) Wd) := by
  by_cases ht : t = 32
  · subst ht
    rw [keep_last, exch_last, owed_last]
    unfold talk₂ talkEnd debt
    iintro ⟨⟨H1, H2, H3, H4, H5, H6, H7, H8, H9, HO, #HL⟩, HS⟩
    isplitr [HO]
    · isplitr [HS]
      · isplitr; · iexact HL
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      iexact HS
    iexact HO
  · unfold keep
    rw [if_neg ht]
    iintro ⟨HE, HS⟩
    ihave HE2 := (exch_debt W K c h0 ht) $$ HE
    unfold debt
    icases HE2 with ⟨⟨HO, #HL⟩, HK⟩
    isplitr [HO]
    · isplitr [HS]
      · isplitr; · iexact HL
        iexists K
        iexact HK
      iexact HS
    iexact HO

end Cert.Proof
-- ==== Proof.Stage.lean ====
/- What the two windows' staging buffers hold at a point: the row's query, and nothing of the result before the last point. -/
module

public import proofs.«01_k».proof.Proof.Named
public import Idealize.ShloMosaic.Lib.Pipeline.ValueKit
public import Idealize.ShloMosaic.Lib.Pipeline.FrameBody

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (W : Dev nD → Valuation τ sig (Elt F))

/-- The grid as device `c` runs it. -/
abbrev grid (c : Dev nD) : Pipeline.Cfg sig Λ₀ := Pipeline.pinD (pcfgs (F := F)) (adm W) c 0

theorem coord_val : ∀ t : Fin grid0.N, (grid0.coords t 0).val = t.val := by decide +kernel

theorem block0 : ∀ (t : Fin grid0.N) (a : Fin 4), cc0_transform_0 (grid0.coords t) a = ![t.val, 0, 0, 0] a := by decide +kernel
theorem block1 : ∀ (t : Fin grid0.N) (a : Fin 4), cc0_transform_3 (grid0.coords t) a = 0 := by decide +kernel

/-- The coordinates of the query block of row `t`. -/
theorem block_coord (t : Fin 32) (j : S1x1x16x128.Idx) (n : ℕ) (b : Fin 4) (hn : n = ![t.val, 0, 0, 0] b) :
    n * S1x1x16x128.size b + (j b : ℕ) = ((ValueIdx.ix4 t 0 (j 2) (j 3) : S32x1x16x128.Idx) b : ℕ) := by
  subst hn
  match b with
  | 0 => have h1 : (j 0 : ℕ) < 1 := (j 0).isLt; show t.val * 1 + (j 0 : ℕ) = t.val; omega
  | 1 => have h1 : (j 1 : ℕ) < 1 := (j 1).isLt; show 0 * 1 + (j 1 : ℕ) = 0; omega
  | 2 => show 0 * 16 + (j 2 : ℕ) = (j 2 : ℕ); omega
  | 3 => show 0 * 128 + (j 3 : ℕ) = (j 3 : ℕ); omega

set_option backward.isDefEq.respectTransparency.types false in
theorem block_query (c : Dev nD) (t : Fin (grid W c).N) : (dats W 0 c).blockOf 0 t = qRow W c (t.cast N_0) := by
  funext j
  unfold Pipeline.Dat.blockOf
  rw [View.read_apply]
  show W c main_arg0 _ = W c main_arg0 _
  refine congrArg (W c main_arg0) ?_
  refine funext fun a => Fin.ext ?_
  refine (view_emb_slice_whole_unit_val main_arg0 _ _ _ j a).trans ?_
  have e : ((grid W c).win 0).index t a = ![t.val, 0, 0, 0] a := block0 t a
  exact block_coord _ j _ a e

theorem find_query (c : Dev nD) (t : Fin (grid W c).N) (d) : (dats W 0 c).before 0 t d = qRow W c (t.cast N_0) :=
  ((dats W 0 c).before_in_eq_fetched 0 rfl (fun _ => rfl) (fun _ _ _ => rfl) (fun t => (block_query W c t).symm) t d).trans (block_query W c t)

theorem no_flush (c : Dev nD) (t : Fin (grid W c).N) (h : t.val ≠ 31) : ((grid W c).win 1).flush t = false := by
  rw [Pipeline.Window.flush_eq_flushOf]
  unfold Pipeline.Window.flushOf
  have h32 : grid0.N = 32 := N_0
  have ht : t.val < grid0.N := t.isLt
  rw [show ((grid W c).win 1).isOut = true from rfl, Bool.true_and, Bool.or_eq_false_iff]
  refine ⟨decide_eq_false fun e => h ?_, decide_eq_false ?_⟩
  · have e' : t.val + 1 = grid0.N := e
    omega
  · rintro ⟨h1, h2⟩
    exact h2 (funext fun a => (block1 ⟨t.val + 1, h1⟩ a).trans (block1 t a).symm)

end Cert.Proof
-- ==== Proof.Body.lean ====
/- The body's obligation at every point of the grid. -/
module

public import proofs.«01_k».proof.Proof.Stage

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (W : Dev nD → Valuation τ sig (Elt F))

theorem owes_intro {cfg : Pipeline.Cfg sig Λ₀} {c : Dev nD} (dat : Pipeline.Dat τ (Elt F) Unit ℕ UU ℕ cfg c) (t : Fin (cfg.N + 1))
    (O : CellTallies nD τ sig Unit) (h0 : dat.owed t = O) (hr : dat.recorded t = Set.univ) :
    iprop(∃ Wd, owes (c : Thread nD τ) O Wd) ⊢ (dat.owesAt () t : sProp 𝕄) := by
  unfold Pipeline.Dat.owesAt Pipeline.owesWithin Pipeline.Dat.bound
  rw [h0, hr]
  iintro ⟨%Wd, HO⟩
  iexists Wd
  isplitr; · ipureintro; exact fun _ _ => Or.inl trivial
  iexact HO

theorem owes_elim {cfg : Pipeline.Cfg sig Λ₀} {c : Dev nD} (dat : Pipeline.Dat τ (Elt F) Unit ℕ UU ℕ cfg c) (t : Fin (cfg.N + 1))
    (O : CellTallies nD τ sig Unit) (h0 : dat.owed t = O) :
    (dat.owesAt () t : sProp 𝕄) ⊢ iprop(∃ Wd, owes (c : Thread nD τ) O Wd) := by
  unfold Pipeline.Dat.owesAt Pipeline.owesWithin
  rw [h0]
  iintro ⟨%Wd, -, HO⟩
  iexists Wd
  iexact HO

/-- The body the grid runs at point `t`. -/
theorem body_row (c : Dev nD) (t : Fin (grid W c).N) (s : (w : Fin (grid W c).W) → Fin ((grid W c).win w).nbuf) :
    defs₀ (F := F) .tc (grid W c).body ((grid W c).bodyArgs t s)
      = cc0_body (grid0.coords t) (Memref.whole main_v23) (Memref.isWhole_whole _) (Memref.whole main_v25) (Memref.isWhole_whole _)
          (spec0_0.stage (s 0)) (hstage0_0 ((s 0).cast nbuf0_0)) (Memref.whole main_arg1) (Memref.isWhole_whole _)
          (Memref.whole main_arg2) (Memref.isWhole_whole _) (spec0_1.stage (s 1)) (hstage0_1 ((s 1).cast nbuf0_1)) (Memref.whole cc0_scratch0) (Memref.isWhole_whole _)
          (Memref.whole cc0_scratch1) (Memref.isWhole_whole _) accM (Memref.isWhole_whole _) sumM (Memref.isWhole_whole _) paccM (Memref.isWhole_whole _)
          psumM (Memref.isWhole_whole _) cc0_scratch6 cc0_scratch7 cc0_scratch8 := by
  unfold defs₀; rw [Defs.onTc_tc]

theorem accOf_row (c : Dev nD) (r : Fin 32) (a b) :
    k0_pay10 (carry (tabOf W c) r (keyOf W c) (valOf W c) (cntOf W c (ValueIdx.ix1 r)) (qRow W c r) (nch (cntOf W c (ValueIdx.ix1 r)))).1 (ValueIdx.ix3 0 a b)
      = accOf W c (ValueIdx.ix3 r a b) := rfl
theorem sumOf_row (c : Dev nD) (r : Fin 32) (a) :
    k0_pay11 (carry (tabOf W c) r (keyOf W c) (valOf W c) (cntOf W c (ValueIdx.ix1 r)) (qRow W c r) (nch (cntOf W c (ValueIdx.ix1 r)))).2 (ValueIdx.ix2 0 a)
      = sumOf W c (ValueIdx.ix2 r a) := rfl

theorem idle_before (c : Dev nD) (t : Fin (grid W c).N) (h : t.val ≠ 31) : (grid W c).idle 1 ((grid W c).grid.coords t) = true := by
  show (!(k0_cond5 (grid0.coords t) == 1#1)) = true
  rw [Bool.not_eq_true', beq_eq_false_iff_ne]
  exact fun e => h ((coord_val t).symm.trans ((cond5_iff _).mp e))
theorem busy_last (c : Dev nD) (t : Fin (grid W c).N) (h : t.val = 31) : (grid W c).idle 1 ((grid W c).grid.coords t) = false := by
  show (!(k0_cond5 (grid0.coords t) == 1#1)) = false
  rw [Bool.not_eq_false', beq_iff_eq]
  exact (cond5_iff _).mpr ((coord_val t).trans h)

variable (htab : ∀ c j, (tabOf W c j).toNat < 256) (hcnt : ∀ c j, (cntOf W c j).toNat ≤ 256)

include htab hcnt in
set_option backward.isDefEq.respectTransparency.types false in
theorem body_obligation (c : Dev nD) : Pipeline.BodyObligation (dats W 0 c) (defs₀ (F := F)) 𝒱₀ () Set.univ := fun t => by
  rw [bigSep_W0, bigSep_W0, body_row]
  have hN : t.val < 32 := lt_of_lt_of_eq t.isLt N_0
  have hc : (grid0.coords t 0).val = (t.cast N_0 : Fin 32).val := coord_val t
  show iprop(keep W c t.val ∗ (dats W 0 c).owesAt () t.castSucc ∗ _) ⊢ wp _ _ _ _ fun _ => iprop(keep W c (t.val + 1) ∗ (dats W 0 c).owesAt () t.succ ∗ _)
  iintro ⟨HK, HO, ⟨%d0, H3⟩, ⟨%d1, H6⟩⟩
  ihave HO := (owes_elim (dats W 0 c) t.castSucc (owedAt c t.val) rfl) $$ HO
  ihave HK := (keep_open W c (t := t.val) (by omega)) $$ [HK HO]
  · isplitl [HK]; · iexact HK
    iexact HO
  icases HK with ⟨%K, HE, HS⟩
  rw [find_query]
  iapply (wp_wand _ _ _) $$ [HE HS H3 H6]
  · iapply (point (accOf W) (sumOf W) (K := K) (r := t.cast N_0) (fK := keyOf W c) (fV := valOf W c)
      (q := qRow W c (t.cast N_0)) (d := (dats W 0 c).before 1 t d1) (htab c) (hcnt c) hc (accOf_row W c _) (sumOf_row W c _))
    isplitl [HE]; · iexact HE
    isplitl [HS]; · iexact HS
    isplitl [H3]; · iexact H3
    iexact H6
  iintro %x ⟨HE, HS, H3, H6⟩
  ihave HK := (keep_close W K c (t := t.val + 1) (by omega)) $$ [HE HS]
  · isplitl [HE]; · iexact HE
    iexact HS
  icases HK with ⟨HK, HO⟩
  isplitl [HK]; · iexact HK
  isplitl [HO]
  · iapply (owes_intro (dats W 0 c) t.succ (owedAt c (t.val + 1)) rfl rfl) $$ HO
  isplitl [H3]; · iexact H3
  dsimp only
  by_cases h : t.val = 31
  · have h' : (t.cast N_0 : Fin 32).val = 31 := h
    have e : idle0 1 (((pcfgs (F := F) 0).gridAt (adm W c 0).1).coords t) = false := busy_last W c t h
    rw [e, if_pos h']
    iexact H6
  · have h' : ¬ (t.cast N_0 : Fin 32).val = 31 := h
    have e : idle0 1 (((pcfgs (F := F) 0).gridAt (adm W c 0).1).coords t) = true := idle_before W c t h
    rw [e, if_neg h']
    dsimp only
    split
    · iexists d1
      iexact H6
    · next hf => exact absurd (hf.symm.trans (no_flush W c t h)) (by decide)

end Cert.Proof
-- ==== Proof.Deal.lean ====
/- What a device is dealt at the launch, and what it has once its own send and receive semaphores are open. -/
module

public import proofs.«01_k».proof.Proof.Body

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Semaphores of the grid -/

/-- The semaphores the body uses for itself: pages, sends, receives. -/
def own6 : Fin 6 → SemLoc sig := fun
  | 0 => .dma (pageS 0) | 1 => .dma (pageS 1)
  | 2 => .dma (sendS 0) | 3 => .dma (sendS 1) | 4 => .dma (recvS 0) | 5 => .dma (recvS 1)

/-- Where each stands before the grid and after it: at zero. -/
theorem own6_eq (c : Dev nD) : (Pipeline.ownSems0 own6 c : sProp 𝕄)
    = iprop(semVal (pageCell c 0) 0 ∗ semVal (pageCell c 1) 0 ∗ semVal (sendCell c 0) 0 ∗ semVal (sendCell c 1) 0
        ∗ semVal (recvCell c 0) 0 ∗ semVal (recvCell c 1) 0) := by
  unfold Pipeline.ownSems0
  rw [bigSep_univ_eq_bigSepL [0, 1, 2, 3, 4, 5] (by decide) (by decide)]
  simp only [bigSepL_cons_cons, bigSepL_singleton]
  rfl

variable (A : Dev nD → Acc F) (B : Dev nD → Sums F)

/-- What a device is dealt: the cells it will use, the right to open its own four, its place on its barrier, the duties it
    pays, and the credits for what it waits for. -/
def dealt (K : GSem nD τ sig → ℕ) (c : Dev nD) : sProp 𝕄 :=
  iprop(invs A B K c ∗ atPos ER (barCell c) 0 ∅ 0 ∗ reached ER (barCell (pr c)) 0
    ∗ (openTok ER (sendCell c 0) ∗ openTok ER (sendCell c 1) ∗ openTok ER (recvCell c 0) ∗ openTok ER (recvCell c 1))
    ∗ (dutyTok ER (barCell (pr c)) 0 () ∗ dutyTok ER (sendCell c 0) 0 () ∗ dutyTok ER (sendCell c 1) 0 ()
      ∗ dutyTok ER (recvCell (pr c) 0) 0 () ∗ dutyTok ER (recvCell (pr c) 1) 0 ())
    ∗ (cred (tallyAt (barCell c) () 1) ∗ cred (tallyAt (recvCell c 0) () (copyN 0)) ∗ cred (tallyAt (recvCell c 1) () (copyN 1))))

/-- The same with the four semaphores open. -/
def opened (K : GSem nD τ sig → ℕ) (c : Dev nD) : sProp 𝕄 :=
  iprop(invs A B K c ∗ held (F := F) c ∗ atPos ER (barCell c) 0 ∅ 0 ∗ reached ER (barCell (pr c)) 0 ∗ dutyTok ER (barCell (pr c)) 0 ()
    ∗ cred (tallyAt (barCell c) () 1) ∗ reached ER (recvCell c 0) 0 ∗ reached ER (recvCell c 1) 0)

theorem open_cell (κ : ℕ) (g : GSem nD τ sig) :
    iprop(cellInv ER (rd A B) κ g ∗ openTok ER g ∗ semVal g 0) ⊢ (|={Set.univ}=> iprop(atPos ER g 0 ∅ 0 ∗ reached ER g 0) : sProp 𝕄) := by
  iintro ⟨#HI, Ho, Hs⟩
  imod (Rounds.cell_open ER (rd A B) (g := g) (Set.mem_univ κ)) $$ [Ho Hs] with ⟨Hat, #Hr⟩
  · isplitr; · iexact HI
    isplitl [Ho] <;> iassumption
  imodintro
  isplitl [Hat]; · iexact Hat
  iexact Hr

theorem open_all (K : GSem nD τ sig → ℕ) (c : Dev nD) :
    iprop(dealt A B K c ∗ semVal (sendCell c 0) 0 ∗ semVal (sendCell c 1) 0 ∗ semVal (recvCell c 0) 0 ∗ semVal (recvCell c 1) 0)
      ⊢ (|={Set.univ}=> opened A B K c : sProp 𝕄) := by
  unfold dealt invs
  iintro ⟨⟨⟨#I1, #I2, #I3, #I4, #I5, #I6, #I7, #I8⟩, Hat, #Hr, ⟨O1, O2, O3, O4⟩, ⟨T0, T1, T2, T3, T4⟩, C0, C1, C2⟩, S1, S2, S3, S4⟩
  imod (open_cell A B (K (sendCell c 0)) (sendCell c 0)) $$ [O1 S1] with ⟨P1, #R1⟩
  · isplitr; · iexact I2
    isplitl [O1] <;> iassumption
  imod (open_cell A B (K (sendCell c 1)) (sendCell c 1)) $$ [O2 S2] with ⟨P2, #R2⟩
  · isplitr; · iexact I3
    isplitl [O2] <;> iassumption
  imod (open_cell A B (K (recvCell c 0)) (recvCell c 0)) $$ [O3 S3] with ⟨P3, #R3⟩
  · isplitr; · iexact I4
    isplitl [O3] <;> iassumption
  imod (open_cell A B (K (recvCell c 1)) (recvCell c 1)) $$ [O4 S4] with ⟨P4, #R4⟩
  · isplitr; · iexact I5
    isplitl [O4] <;> iassumption
  imodintro
  unfold opened invs held
  isplitr
  · isplitr; · iexact I1
    isplitr; · iexact I2
    isplitr; · iexact I3
    isplitr; · iexact I4
    isplitr; · iexact I5
    isplitr; · iexact I6
    isplitr; · iexact I7
    iexact I8
  isplitl [P1 P2 P3 P4 T1 T2 T3 T4 C1 C2]
  · isplitl [P1]; · iexact P1
    isplitl [P2]; · iexact P2
    isplitl [P3]; · iexact P3
    isplitl [P4]; · iexact P4
    isplitr; · iexact R1
    isplitr; · iexact R2
    isplitl [T1]; · iexact T1
    isplitl [T2]; · iexact T2
    isplitl [T3]; · iexact T3
    isplitl [T4]; · iexact T4
    isplitl [C1] <;> iassumption
  isplitl [Hat]; · iexact Hat
  isplitr; · iexact Hr
  isplitl [T0]; · iexact T0
  isplitl [C0]; · iexact C0
  isplitr; · iexact R3
  iexact R4

/-! ## The two slots of the page buffers -/

/-- A buffer held in two disjoint parts that make it up. -/
theorem halves {ℓ : Loc nD τ sig} {I J : Finset (Idx ℓ)} (h : Disjoint I J) (hu : I ∪ J = Finset.univ) :
    (iprop(∃ f, ℓ ↦{fullShare} f) : sProp 𝕄) ⊢ iprop((∃ f, ℓ ↦[I]{fullShare} f) ∗ ∃ f, ℓ ↦[J]{fullShare} f) := by
  rw [← hu]
  iintro ⟨%f, H⟩
  ihave H2 := (pointsTo_union h).1 $$ H
  icases H2 with ⟨H1, H2⟩
  isplitl [H1] <;> (iexists _; iassumption)

theorem whole_of_halves {ℓ : Loc nD τ sig} {I J : Finset (Idx ℓ)} (h : Disjoint I J) (hu : I ∪ J = Finset.univ) :
    (iprop((∃ f, ℓ ↦[I]{fullShare} f) ∗ ∃ f, ℓ ↦[J]{fullShare} f) : sProp 𝕄) ⊢ iprop(∃ f, ℓ ↦{fullShare} f) := by
  rw [← hu]
  iintro ⟨⟨%f, H1⟩, ⟨%g, H2⟩⟩
  iexists _
  iapply (pointsTo_join h)
  isplitl [H1] <;> iassumption

theorem slots_apart : Disjoint (span 0 0 256) (span 1 0 256) := slots_disjoint (by decide) 0 256 0 256

/-- Both page buffers and both page semaphores are the two free slots. -/
theorem slots_of_buffers (c : Dev nD) :
    iprop((∃ f, kLoc c ↦{fullShare} f) ∗ (∃ f, vLoc c ↦{fullShare} f) ∗ semVal (pageCell c 0) 0 ∗ semVal (pageCell c 1) 0)
      ⊢ (iprop(slotFree c 0 ∗ slotFree c 1) : sProp 𝕄) := by
  iintro ⟨HK, HV, S0, S1⟩
  ihave HK2 := (halves (ℓ := kLoc c) slots_apart slots_union) $$ HK
  ihave HV2 := (halves (ℓ := vLoc c) slots_apart slots_union) $$ HV
  icases HK2 with ⟨K0, K1⟩
  icases HV2 with ⟨V0, V1⟩
  unfold slotFree
  isplitl [K0 V0 S0]
  · isplitl [K0]; · iexact K0
    isplitl [V0]; · iexact V0
    iexact S0
  isplitl [K1]; · iexact K1
  isplitl [V1]; · iexact V1
  iexact S1

/-- And back. -/
theorem buffers_of_slots (c : Dev nD) :
    (iprop(slotFree c 0 ∗ slotFree c 1) : sProp 𝕄)
      ⊢ iprop((∃ f, kLoc c ↦{fullShare} f) ∗ (∃ f, vLoc c ↦{fullShare} f) ∗ semVal (pageCell c 0) 0 ∗ semVal (pageCell c 1) 0) := by
  unfold slotFree
  iintro ⟨⟨K0, V0, S0⟩, K1, V1, S1⟩
  isplitl [K0 K1]
  · iapply (whole_of_halves (ℓ := kLoc c) slots_apart slots_union)
    isplitl [K0]; · iexact K0
    iexact K1
  isplitl [V0 V1]
  · iapply (whole_of_halves (ℓ := vLoc c) slots_apart slots_union)
    isplitl [V0]; · iexact V0
    iexact V1
  isplitl [S0]; · iexact S0
  iexact S1

end Cert.Proof
-- ==== Proof.Region.lean ====
/- The grid as one region of the program: what it is entered with and what it leaves. -/
module

public import proofs.«01_k».proof.Proof.Deal

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The device's buffer `b`, whole, at contents `f`. -/
abbrev pt (c : Dev nD) (b : Ref sig .tc) (f : Buf (Elt F) ((c : Thread nD τ).loc b)) : sProp 𝕄 := ((c : Thread nD τ).loc b) ↦{fullShare} f

/-- The buffers the grid reads or writes, and the other two arguments. -/
def used : List (DevRef τ sig) :=
  [Proc.devRef .tc main_arg0, Proc.devRef .tc main_v26, Proc.devRef .tc main_v23, Proc.devRef .tc main_v25,
    Proc.devRef .tc main_arg1, Proc.devRef .tc main_arg2, Proc.devRef .tc main_arg3, Proc.devRef .tc main_arg4]

theorem used_sub : used.toFinset ⊆ Pipeline.ucRefs τ sig := by decide +kernel
theorem used_nodup : used.Nodup := by decide +kernel

/-- Those buffers out of all the unscoped ones. -/
theorem held_used (c : Dev nD) (V : Valuation τ sig (Elt F)) :
    (StableHlo.held (c : Thread nD τ) (Pipeline.ucRefs τ sig) V : sProp 𝕄)
      ⊢ iprop(pt c main_arg0 (V main_arg0) ∗ pt c main_v26 (V main_v26) ∗ pt c main_v23 (V main_v23) ∗ pt c main_v25 (V main_v25)
        ∗ pt c main_arg1 (V main_arg1) ∗ pt c main_arg2 (V main_arg2) ∗ pt c main_arg3 (V main_arg3) ∗ pt c main_arg4 (V main_arg4)) := by
  refine BIBase.Entails.trans (Q := bigSep used.toFinset fun b => (((c : Thread nD τ).1, b) ↦{fullShare} V b : sProp 𝕄)) ?_ ?_
  · exact bigSep_subset used_sub
  · rw [bigSep_eq_bigSepL_of_eq used rfl used_nodup]
    unfold used
    simp only [bigSepL_cons_cons, bigSepL_singleton]
    exact BI.Entails.refl _

variable (W : Dev nD → Valuation τ sig (Elt F))

/-- What the grid is entered with. -/
def enter (c : Dev nD) : sProp 𝕄 :=
  iprop(StableHlo.held (c : Thread nD τ) (Pipeline.ucRefs τ sig) (W c)
    ∗ (∃ K, dealt (accOf W) (sumOf W) K c) ∗ ∃ Wd, owes (c : Thread nD τ) (owed₀ c) Wd)

/-- What of it the body's resources are made of. -/
def inside (c : Dev nD) : sProp 𝕄 :=
  iprop(levAts L lv ∗ (∃ K, opened (accOf W) (sumOf W) K c) ∗ caches c (keyOf W c) (valOf W c)
    ∗ semVal (pageCell c 0) 0 ∗ semVal (pageCell c 1) 0)

/-- What the grid is left with, of the arguments but the query, and of the barrier. -/
def outside (c : Dev nD) : sProp 𝕄 := iprop(semVal (barCell c) 0 ∗ caches c (keyOf W c) (valOf W c))

/-- The two arguments only the host reads. -/
def aside (c : Dev nD) : sProp 𝕄 := iprop(pt c main_arg3 (W c main_arg3) ∗ pt c main_arg4 (W c main_arg4))

/-- What the grid leaves. -/
def leave (c : Dev nD) : sProp 𝕄 :=
  iprop((pt c main_arg0 (W c main_arg0) ∗ pt c main_v26 (resOf W c) ∗ outside W c ∗ aside W c)
    ∗ ∃ Wd, owes (c : Thread nD τ) (0 : CellTallies nD τ sig Unit) Wd)

theorem share_full (c : Dev nD) : ∀ w, (dats W 0 c).share w = fullShare := by
  intro w; unfold Pipeline.Dat.share; split <;> rfl

set_option backward.isDefEq.respectTransparency.types false in
theorem arrays_two (c : Dev nD) (G : (w : Fin (grid W c).W) → Buf (Elt F) (((grid W c).spec w).arr.view.loc (c : Thread nD τ))) :
    ((dats W 0 c).arrays G : sProp 𝕄) = iprop(pt c main_arg0 (G 0) ∗ pt c main_v26 (G 1)) :=
  (Pipeline.PerCore.arrays_eq (Pipeline.pinD pcfgs (adm W)) (dats W) 0 c arr_whole0 (share_full W c) G).trans (bigSep_W0 _)

theorem tables_two (c : Dev nD) (q : Fin 2 → PosShare TreeShare) (V : pre0.Contents (Elt F)) :
    (Pipeline.prefHeld pre0 c q V : sProp 𝕄)
      = iprop((((c : Thread nD τ).loc main_v23) ↦{q 0} V 0) ∗ ((c : Thread nD τ).loc main_v25) ↦{q 1} V 1) :=
  bigSep_W0 _

theorem whole_last (c : Dev nD) (t : Fin (grid W c).N) (ht : t.val = 31) : ((grid W c).win 1).WholeAt t := by
  refine ⟨?_, fun t' h => Fin.ext ?_, fun a => ⟨?_, ?_⟩⟩
  · rw [Pipeline.Window.flush_eq_flushOf]
    unfold Pipeline.Window.flushOf
    have e : t.val + 1 = grid0.N := by rw [ht, N_0]
    rw [show ((grid W c).win 1).isOut = true from rfl, Bool.true_and, decide_eq_true (show t.val + 1 = (grid W c).N from e), Bool.true_or]
  · by_contra hn
    rw [no_flush W c t' (fun h' => hn (h'.trans ht.symm))] at h
    exact absurd h (by decide)
  · exact block1 t a
  · rfl

theorem result_array (c : Dev nD) : (dats W 0 c).arrAt 1 (grid W c).N = resOf W c := by
  have h31 : 31 < (grid W c).N := by rw [show (grid W c).N = 32 from N_0]; decide
  refine (dats W 0 c).arrAt_eq_of_after_last 1 ⟨31, h31⟩ (whole_last W c _ rfl) (resOf W c) fun j => ?_
  rfl

/-! ## Staging waits -/

theorem lv_stage (c : Dev nD) : ∀ (w : Fin 2) (b : Fin (spec0 w).nbuf), lv ((c : Thread nD τ), .dma ((spec0 w).sem b)) () = 0 := by
  intro w b
  have h : ∀ (w : Fin 2) (b : Fin (spec0 w).nbuf), (spec0 w).sem b ≠ recvS 0 ∧ (spec0 w).sem b ≠ recvS 1 := by decide
  dsimp only [lv]
  rw [if_neg (dma_ne_bar _), if_neg]
  rintro (e | e)
  · exact (h w b).1 (SemLoc.dma.inj e)
  · exact (h w b).2 (SemLoc.dma.inj e)

theorem owed₀_cell {c : Dev nD} {g : GSem nD τ sig} {u : Unit} (h : 0 < owed₀ c g u) :
    (∃ s, g = recvCell (pr c) s) ∨ g = barCell (pr c) := by
  by_cases hb : g = barCell (pr c)
  · exact .inr hb
  · refine .inl (owed₁_cell (u := u) ?_)
    have e : owed₀ c g u = owed₁ c g u + tallyAt (barCell (pr c)) () 1 g u := rfl
    rw [e, tallyAt_ne_cell hb] at h
    simpa using h

/-- While it owes the signal too a device may wait for its staging copies. -/
theorem mayWait₀ (c : Dev nD) {sm : SemLoc sig} (h : lv ((c : Thread nD τ), sm) () ≤ 0) :
    (levAts L lv : sProp 𝕄) ⊢ MayWait (c : Thread nD τ) sm () (owed₀ c) :=
  MayOwe.of_cut (L := L) (lev := lv) 0 (fun p hp => by rw [Finset.mem_singleton.mp hp, L_tc]; exact Finset.mem_singleton_self _)
    (fun g u hg => by
      rcases owed₀_cell hg with ⟨s, rfl⟩ | rfl <;> (rw [L_tc]; exact Finset.mem_singleton_self _))
    (fun p hp => by rw [Finset.mem_singleton.mp hp]; exact h)
    (fun g u hg => by
      rcases owed₀_cell hg with ⟨s, rfl⟩ | rfl
      · rw [lv_recv]; decide
      · rw [lv_bar]; decide)

theorem mayWait_owed (c : Dev nD) (t : ℕ) {sm : SemLoc sig} (h : lv ((c : Thread nD τ), sm) () ≤ 0) :
    (levAts L lv : sProp 𝕄) ⊢ MayWait (c : Thread nD τ) sm () (owedAt c t) := by
  unfold owedAt
  split
  · exact mayWait₀ c h
  · split
    · rw [MayWait_zero]; exact BI.Affine.affine
    · exact mayWait₁ c (h.trans (Nat.zero_le 1))

theorem stage_waits (c : Dev nD) : (levAts L lv : sProp 𝕄) ⊢ Pipeline.PerCore.cellsWaits (Pipeline.pinD pcfgs (adm W)) (dats W) () 0 c :=
  Pipeline.PerCore.cellsWaits_intro (Pipeline.pinD pcfgs (adm W)) (dats W) () 0 c fun w s t =>
    mayWait_owed c t.val (le_of_eq (lv_stage c w s))

/-! ## Into the grid -/

theorem region_entry (c : Dev nD) :
    iprop(enter W c ∗ Pipeline.ownSems0 own6 c ∗ levAts L lv)
      ⊢ |={Set.univ}=> iprop((dats W 0 c).arrays ((dats W 0 c).arrAt · 0) ∗ Pipeline.prefHeld pre0 c (fun _ => fullShare) (adm W c 0).1
        ∗ (dats W 0 c).owesAt () 0 ∗ inside W c ∗ aside W c) := by
  rw [arrays_two, tables_two, own6_eq]
  unfold enter inside aside caches
  iintro ⟨⟨HH, ⟨%K, HD⟩, HO⟩, ⟨P0, P1, S0, S1, R0, R1⟩, #HL⟩
  ihave HU := (held_used c (W c)) $$ HH
  icases HU with ⟨U0, U26, U23, U25, U1, U2, U3, U4⟩
  imod (open_all (accOf W) (sumOf W) K c) $$ [HD S0 S1 R0 R1] with HX
  · isplitl [HD]; · iexact HD
    isplitl [S0]; · iexact S0
    isplitl [S1]; · iexact S1
    isplitl [R0] <;> iassumption
  imodintro
  isplitl [U0 U26]
  · isplitl [U0]; · iexact U0
    iexact U26
  isplitl [U23 U25]
  · isplitl [U23]; · iexact U23
    iexact U25
  isplitl [HO]
  · iapply (owes_intro (dats W 0 c) 0 (owed₀ c) rfl rfl)
    iexact HO
  isplitr [U3 U4]
  · isplitr; · iexact HL
    isplitl [HX]; · iexists K; iexact HX
    isplitl [U1 U2]
    · isplitl [U1]; · iexists fullShare; iexact U1
      iexists fullShare; iexact U2
    isplitl [P0] <;> iassumption
  isplitl [U3] <;> iassumption

theorem region_in (c : Dev nD) :
    iprop(inside W c ∗ Pipeline.prefHeld pre0 c (fun _ => fullShare) (adm W c 0).1 ∗ Pipeline.scopedRest spec0 c) ⊢ keep W c 0 := by
  rw [tables_two, scopedRest0_eq]
  unfold inside keep opened
  rw [if_neg (by decide)]
  iintro ⟨⟨#HL, ⟨%K, HI, HH, HA, HR, HT, HC, HR0, HR1⟩, HK, P0, P1⟩, ⟨T, N⟩, B0, B1, ⟨%fa, B2⟩, ⟨%fs, B3⟩, B4, B5⟩
  isplitr [HK P0 P1 T N B0 B1]
  · isplitr; · iexact HL
    iexists K
    iintro HD
    unfold exch talkAt talk₀ rows accP sumP
    rw [if_neg (by decide), if_pos rfl]
    isplitr [B2 B3]
    · isplitl [HI]; · iexact HI
      isplitl [HH]; · iexact HH
      isplitl [HA]; · iexact HA
      isplitl [HR]; · iexact HR
      isplitl [HT]; · iexact HT
      isplitl [HC]; · iexact HC
      isplitl [HR0]; · iexact HR0
      isplitl [HR1]; · iexact HR1
      isplitl [B4]; · iexact B4
      isplitl [B5]; · iexact B5
      iexact HD
    isplitl [B2]
    · iexists fa
      isplitr; · ipureintro; exact fun _ h => absurd h (Nat.not_lt_zero _)
      iexact B2
    iexists fs
    isplitr; · ipureintro; exact fun _ h => absurd h (Nat.not_lt_zero _)
    iexact B3
  unfold still table counts
  isplitl [T]; · iexact T
  isplitl [N]; · iexact N
  isplitl [HK]; · iexact HK
  iapply (slots_of_buffers c)
  isplitl [B0]; · iexact B0
  isplitl [B1]; · iexact B1
  isplitl [P0] <;> iassumption

/-! ## Out of the grid -/

theorem region_out (c : Dev nD) :
    keep W c 32 ⊢ iprop(outside W c ∗ Pipeline.ownSems0 own6 c ∗ Pipeline.scopedRest spec0 c) := by
  rw [keep_last, scopedRest0_eq, own6_eq]
  unfold talkEnd still outside accP sumP paccP psumP
  iintro ⟨⟨-, Hb, S0, S1, R0, R1, B2, B3, B4, B5⟩, -, -, HK, F0, F1⟩
  ihave HF := (buffers_of_slots c) $$ [F0 F1]
  · isplitl [F0] <;> iassumption
  icases HF with ⟨B0, B1, P0, P1⟩
  isplitl [Hb HK]
  · isplitl [Hb] <;> iassumption
  isplitl [P0 P1 S0 S1 R0 R1]
  · isplitl [P0]; · iexact P0
    isplitl [P1]; · iexact P1
    isplitl [S0]; · iexact S0
    isplitl [S1]; · iexact S1
    isplitl [R0] <;> iassumption
  isplitl [B0]; · iexact B0
  isplitl [B1]; · iexact B1
  isplitl [B2]; · iexists _; iexact B2
  isplitl [B3]; · iexists _; iexact B3
  isplitl [B4]; · iexists _; iexact B4
  iexists _; iexact B5

theorem region_exit (c : Dev nD) :
    iprop((dats W 0 c).arrays ((dats W 0 c).arrAt · (grid W c).N) ∗ (dats W 0 c).owesAt () (Fin.last (grid W c).N) ∗ outside W c ∗ aside W c)
      ⊢ |={Set.univ}=> leave W c := by
  rw [arrays_two, result_array, (dats W 0 c).arrAt_in 0 rfl]
  iintro ⟨⟨H0, H1⟩, HO, HY, HZ⟩
  imodintro
  unfold leave
  isplitr [HO]
  · isplitl [H0]; · iexact H0
    isplitl [H1]; · iexact H1
    isplitl [HY] <;> iassumption
  iapply (owes_elim (dats W 0 c) (Fin.last (grid W c).N) 0 (by
    show owedAt c (Fin.last (grid W c).N).val = 0
    rw [Fin.val_last, show (grid W c).N = 32 from N_0, owed_last]))
  iexact HO

theorem own6_facts : Pipeline.OwnSemFacts spec0 own6 := by decide

set_option backward.isDefEq.respectTransparency.types false in
/-- The grid, as the program runs it. -/
def region (htab : ∀ c j, (tabOf W c j).toNat < 256) (hcnt : ∀ c j, (cntOf W c j).toNat ≤ 256) :
    Pipeline.PerCore.RegionSeg (pcfgs (F := F)) (adm W) (dats W) () (defs₀ (F := F)) 𝒱₀ L lv 0 where
  win := winFacts0.to₀
  block_pos := block_pos0
  stage_whole := stage_whole0
  K := Fin 6
  osem := own6
  ho := own6_facts
  hbody c := (body_obligation W htab hcnt c).loose
  hwaits := stage_waits W
  pre := enter W
  post := leave W
  X := inside W
  Y := outside W
  Z := aside W
  hentry := region_entry W
  hin := region_in W
  hout := region_out W
  hexit := region_exit W

end Cert.Proof
-- ==== Proof.Launch.lean ====
/- The launch: how the state of the exchange is made and dealt to the devices. -/
module

public import proofs.«01_k».proof.Proof.Region

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The cells and the duties -/

/-- The four semaphores a device opens for itself. -/
def own4 : Fin 4 → SemLoc sig := fun | 0 => .dma (sendS 0) | 1 => .dma (sendS 1) | 2 => .dma (recvS 0) | 3 => .dma (recvS 1)
theorem own4_inj : Function.Injective own4 := by decide
theorem own4_ne_bar : ∀ k : Fin 4, own4 k ≠ .reg barS := by decide

/-- The five semaphores on which a device's exchange has a duty. -/
def five : Fin 5 → SemLoc sig := fun
  | 0 => .reg barS | 1 => .dma (sendS 0) | 2 => .dma (sendS 1) | 3 => .dma (recvS 0) | 4 => .dma (recvS 1)
theorem five_inj : Function.Injective five := by decide

def barAt : Dev nD ↪ GSem nD τ sig := ⟨fun c => barCell c, fun _ _ h => congrArg (fun g : GSem nD τ sig => g.1.1) h⟩
def ownAt : Dev nD × Fin 4 ↪ GSem nD τ sig :=
  ⟨fun ck => ((ck.1 : Thread nD τ), own4 ck.2), fun _ _ h =>
    Prod.ext (congrArg (fun g : GSem nD τ sig => g.1.1) h) (own4_inj (congrArg Prod.snd h))⟩
def dutyAt : Dev nD × Fin 5 ↪ GSem nD τ sig × ℕ × Unit :=
  ⟨fun ck => (((ck.1 : Thread nD τ), five ck.2), 0, ()), fun _ _ h =>
    Prod.ext (congrArg (fun t : GSem nD τ sig × ℕ × Unit => t.1.1.1) h)
      (five_inj (congrArg (fun t : GSem nD τ sig × ℕ × Unit => t.1.2) h))⟩

/-- The barriers, the devices' own cells, the duties. -/
abbrev bars : Finset (GSem nD τ sig) := Finset.univ.map barAt
abbrev owns4 : Finset (GSem nD τ sig) := Finset.univ.map ownAt
abbrev allDuties : Finset (GSem nD τ sig × ℕ × Unit) := Finset.univ.map dutyAt

theorem bars_owns : Disjoint (bars : Finset (GSem nD τ sig)) owns4 :=
  Finset.disjoint_left.mpr fun g h₁ h₂ => by
    obtain ⟨c, -, rfl⟩ := Finset.mem_map.mp h₁
    obtain ⟨ck, -, h⟩ := Finset.mem_map.mp h₂
    exact own4_ne_bar ck.2 (congrArg Prod.snd h)

theorem mem_bar (c : Dev nD) : barCell c ∈ (bars ∪ owns4 : Finset (GSem nD τ sig)) :=
  Finset.mem_union_left _ (Finset.mem_map_of_mem barAt (Finset.mem_univ c))
theorem mem_own (c : Dev nD) (k : Fin 4) : ((c : Thread nD τ), own4 k) ∈ (bars ∪ owns4 : Finset (GSem nD τ sig)) :=
  Finset.mem_union_right _ (Finset.mem_map_of_mem ownAt (Finset.mem_univ (c, k)))

/-! ## What is dealt -/

section Deal

variable (A : Dev nD → Acc F) (B : Dev nD → Sums F)

/-- What every device may look up: the invariants of all the cells, the barriers open. -/
def board (κ : GSem nD τ sig → ℕ) : sProp 𝕄 :=
  iprop((bigSep (bars ∪ owns4) fun g => cellInv ER (rd A B) (κ g) g) ∗ bigSep bars fun g => reached ER g 0)

instance board_persistent (κ : GSem nD τ sig → ℕ) : BI.Persistent (board A B κ) := by unfold board; infer_instance

theorem board_inv (κ : GSem nD τ sig → ℕ) {g : GSem nD τ sig} (hg : g ∈ (bars ∪ owns4 : Finset (GSem nD τ sig))) :
    (bigSep (bars ∪ owns4) fun g => (cellInv ER (rd A B) (κ g) g : sProp 𝕄)) ⊢ cellInv ER (rd A B) (κ g) g :=
  bigSep_elim hg

theorem board_bar (c : Dev nD) : (bigSep bars fun g => (reached ER g 0 : sProp 𝕄)) ⊢ reached ER (barCell c) 0 :=
  bigSep_elim (Finset.mem_map_of_mem barAt (Finset.mem_univ c))

/-- The tokens of the duties device `c` pays. -/
def pays (c : Dev nD) : sProp 𝕄 :=
  iprop(dutyTok ER (barCell (pr c)) 0 () ∗ dutyTok ER (sendCell c 0) 0 () ∗ dutyTok ER (sendCell c 1) 0 ()
    ∗ dutyTok ER (recvCell (pr c) 0) 0 () ∗ dutyTok ER (recvCell (pr c) 1) 0 ())
/-- The tokens of the duties paid to it. -/
def paid (c : Dev nD) : sProp 𝕄 :=
  iprop(dutyTok ER (barCell c) 0 () ∗ dutyTok ER (sendCell c 0) 0 () ∗ dutyTok ER (sendCell c 1) 0 ()
    ∗ dutyTok ER (recvCell c 0) 0 () ∗ dutyTok ER (recvCell c 1) 0 ())
/-- Its rights to open. -/
def rights (c : Dev nD) : sProp 𝕄 :=
  iprop(openTok ER (sendCell c 0) ∗ openTok ER (sendCell c 1) ∗ openTok ER (recvCell c 0) ∗ openTok ER (recvCell c 1))
/-- Its credits. -/
def credits (c : Dev nD) : sProp 𝕄 :=
  iprop(cred (tallyAt (barCell c) () 1) ∗ cred (tallyAt (recvCell c 0) () (copyN 0)) ∗ cred (tallyAt (recvCell c 1) () (copyN 1)))

theorem deal (κ : GSem nD τ sig → ℕ) (c : Dev nD) :
    iprop(board A B κ ∗ atPos ER (barCell c) 0 ∅ 0 ∗ rights c ∗ pays c ∗ credits c) ⊢ iprop(∃ K, dealt A B K c) := by
  unfold board dealt invs
  iintro ⟨⟨#HI, #HR⟩, HA, HO, HT, HC⟩
  iexists κ
  isplitr
  · isplitr; · iapply (board_inv A B κ (mem_bar c)); iexact HI
    isplitr; · iapply (board_inv A B κ (mem_own c 0)); iexact HI
    isplitr; · iapply (board_inv A B κ (mem_own c 1)); iexact HI
    isplitr; · iapply (board_inv A B κ (mem_own c 2)); iexact HI
    isplitr; · iapply (board_inv A B κ (mem_own c 3)); iexact HI
    isplitr; · iapply (board_inv A B κ (mem_bar (pr c))); iexact HI
    isplitr; · iapply (board_inv A B κ (mem_own (pr c) 2)); iexact HI
    iapply (board_inv A B κ (mem_own (pr c) 3)); iexact HI
  isplitl [HA]; · iexact HA
  isplitr; · iapply (board_bar (F := F) (pr c)); iexact HR
  unfold rights pays credits
  isplitl [HO]; · iexact HO
  isplitl [HT]; · iexact HT
  iexact HC

theorem paid_all : bigSep allDuties (fun x => (dutyTok ER x.1 x.2.1 x.2.2 : sProp 𝕄)) = bigSep Finset.univ fun c : Dev nD => paid c := by
  rw [bigSep_map, bigSep_univ_prod]
  refine bigSep_congr fun c _ => ?_
  rw [bigSep_univ_eq_bigSepL [0, 1, 2, 3, 4] (by decide) (by decide)]
  simp only [bigSepL_cons_cons, bigSepL_singleton]
  rfl

theorem rights_all : bigSep owns4 (fun g => (openTok ER g : sProp 𝕄)) = bigSep Finset.univ fun c : Dev nD => rights c := by
  rw [bigSep_map, bigSep_univ_prod]
  refine bigSep_congr fun c _ => ?_
  rw [bigSep_univ_eq_bigSepL [0, 1, 2, 3] (by decide) (by decide)]
  simp only [bigSepL_cons_cons, bigSepL_singleton]
  rfl

/-- The tokens of the barriers and of the receives cross over to the partner. -/
theorem cross : (bigSep Finset.univ fun c : Dev nD => (paid c : sProp 𝕄)) = bigSep Finset.univ fun c : Dev nD => pays c := by
  unfold paid pays
  simp only [bigSep_sep']
  rw [bigSep_univ_equiv flip (fun c : Dev nD => (dutyTok ER (barCell c) 0 () : sProp 𝕄)),
    bigSep_univ_equiv flip (fun c : Dev nD => (dutyTok ER (recvCell c 0) 0 () : sProp 𝕄)),
    bigSep_univ_equiv flip (fun c : Dev nD => (dutyTok ER (recvCell c 1) 0 () : sProp 𝕄))]
  rfl

end Deal

/-! ## The credit of the launch -/

theorem eq_of_cell {c d : Dev nD} {s s' : SemLoc sig} (h : (((c : Thread nD τ), s) : GSem nD τ sig) = ((pr d : Thread nD τ), s')) : d = pr c := by
  have e : c = pr d := congrArg (fun g : GSem nD τ sig => g.1.1) h
  rw [e, pr_pr]

theorem owed_at (d : Dev nD) (g : GSem nD τ sig) : owed₀ d g () =
    (if g = recvCell (pr d) 1 ∧ () = () then copyN 1 else 0) + (if g = recvCell (pr d) 0 ∧ () = () then copyN 0 else 0)
      + (if g = barCell (pr d) ∧ () = () then 1 else 0) := by
  unfold owed₀ owed₁
  rw [Pi.add_apply, Finsupp.add_apply, Pi.add_apply, Finsupp.add_apply, tallyAt_apply, tallyAt_apply, tallyAt_apply]

theorem sem_ne : (SemLoc.reg barS : SemLoc sig) ≠ .dma (recvS 0) ∧ (SemLoc.reg barS : SemLoc sig) ≠ .dma (recvS 1)
    ∧ (SemLoc.dma (recvS 0) : SemLoc sig) ≠ .dma (recvS 1) := by decide

/-- What device `d` owes on each of the three cells of device `c`: something if it is the partner. -/
theorem owed_bar (d c : Dev nD) : owed₀ d (barCell c) () = if d = pr c then 1 else 0 := by
  rw [owed_at, if_neg (fun h => sem_ne.2.1 (congrArg Prod.snd h.1)), if_neg (fun h => sem_ne.1 (congrArg Prod.snd h.1)), Nat.zero_add]
  by_cases h : d = pr c
  · subst h; rw [pr_pr, if_pos ⟨rfl, rfl⟩, if_pos rfl]
  · rw [if_neg (fun h' => h (eq_of_cell h'.1)), if_neg h]
theorem owed_recv0 (d c : Dev nD) : owed₀ d (recvCell c 0) () = if d = pr c then copyN 0 else 0 := by
  rw [owed_at, if_neg (fun h => sem_ne.2.2 (congrArg Prod.snd h.1)), Nat.zero_add]
  by_cases h : d = pr c
  · subst h; rw [pr_pr, if_pos ⟨rfl, rfl⟩, if_pos rfl, if_neg (fun h => sem_ne.1 (congrArg Prod.snd h.1).symm), Nat.add_zero]
  · rw [if_neg (fun h' => h (eq_of_cell h'.1)), if_neg (fun h' => h (eq_of_cell h'.1)), if_neg h]
theorem owed_recv1 (d c : Dev nD) : owed₀ d (recvCell c 1) () = if d = pr c then copyN 1 else 0 := by
  rw [owed_at]
  by_cases h : d = pr c
  · subst h
    rw [pr_pr, if_pos ⟨rfl, rfl⟩, if_pos rfl, if_neg (fun h => sem_ne.2.2 (congrArg Prod.snd h.1).symm), if_neg (fun h => sem_ne.2.1 (congrArg Prod.snd h.1).symm), Nat.add_zero]
  · rw [if_neg (fun h' => h (eq_of_cell h'.1)), if_neg (fun h' => h (eq_of_cell h'.1)), if_neg (fun h' => h (eq_of_cell h'.1)), if_neg h]

theorem credit_of (c : Dev nD) (g : GSem nD τ sig) (n : ℕ) (h : ∀ d, owed₀ d g () = if d = pr c then n else 0) :
    tallyOn g (launchCredit (Pipeline.owing owed₀) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (pr c) fun _ => n,
    if_pos (Finset.mem_univ _)]

/-- The three semaphores a device waits on with a credit from elsewhere. -/
def three : List (SemLoc sig) := [.reg barS, .dma (recvS 0), .dma (recvS 1)]

theorem credits_intro (c : Dev nD) : (Pipeline.launchCred owed₀ c : sProp 𝕄) ⊢ credits c := by
  unfold Pipeline.launchCred
  refine BIBase.Entails.trans (Q := bigSep three.toFinset fun sm => (cred (tallyOn ((c : Thread nD τ), sm)
    (launchCredit (Pipeline.owing owed₀) 0 ((c : Thread nD τ), sm))) : sProp 𝕄)) (bigSep_subset (Finset.subset_univ _)) ?_
  rw [bigSep_eq_bigSepL_of_eq three rfl (by decide)]
  unfold three credits
  simp only [bigSepL_cons_cons, bigSepL_singleton]
  rw [credit_of c (barCell c) 1 fun d => owed_bar d c, credit_of c (recvCell c 0) (copyN 0) fun d => owed_recv0 d c,
    credit_of c (recvCell c 1) (copyN 1) fun d => owed_recv1 d c]
  exact BI.Entails.refl _

end Cert.Proof
-- ==== Proof.Run.lean ====
/- The run of the whole program on all the devices. -/
module

public import proofs.«01_k».proof.Proof.Launch
public import proofs.«01_k».proof.Proof.Gen.KernelIdeal.Regions

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- What is in the buffers when the grid starts. -/
abbrev mid (c : Dev nD) : Valuation τ sig (Elt F) := V6 m c

/-- What rides along past the host's operations. -/
abbrev rest (c : Dev nD) : sProp 𝕄 :=
  iprop((∃ K, dealt (accOf (mid m)) (sumOf (mid m)) K c) ∗ ∃ Wd, owes (c : Thread nD τ) (owed₀ c) Wd)
abbrev first (c : Dev nD) : sProp 𝕄 := iprop(StableHlo.held (c : Thread nD τ) (Pipeline.ucRefs τ sig) (V0 m c) ∗ rest m c)
abbrev final (c : Dev nD) : sProp 𝕄 :=
  iprop(pt c main_arg0 (mid m c main_arg0) ∗ pt c main_v26 (resOf (mid m) c) ∗ outside (mid m) c ∗ aside (mid m) c)

theorem cells_apart : Function.Injective (Pipeline.PerCore.cellOf (nD := nD) (τ := τ) (Pipeline.pinD (pcfgs (F := F)) (adm (mid m)))) :=
  Pipeline.PerCore.cellOf_injective _
    (fun _ p => match p with | 0 => Pipeline.specSemsDistinct_of_nodup _ (semsDistinct 0))
    (fun _ p p' h => absurd (Subsingleton.elim p p') h)

/-- All the state of the protocols at the launch. -/
def seed : UU :=
  (initOf (Pipeline.PerCore.cells (Pipeline.pinD (pcfgs (F := F)) (adm (mid m))) (cells_apart m))
      (Pipeline.PerCore.launchToks (Pipeline.pinD (pcfgs (F := F)) (adm (mid m))) (cells_apart m)),
    (launchOf bars owns4 allDuties, 1))

/-- All the exchange's state, kept by one device until it is dealt. -/
def kept (c : Dev nD) : sProp 𝕄 := if c = 0 then BI.own (ER (launchOf bars owns4 allDuties)) else iprop(emp)

theorem kept_all : bigSep Finset.univ (kept (F := F)) = BI.own (ER (launchOf bars owns4 allDuties)) := by
  rw [bigSep_univ_at _ (0 : Dev nD), bigSep_congr (s := Finset.univ.erase (0 : Dev nD)) (Ψ := fun _ => (BI.emp : sProp 𝕄))
      fun c hc => by unfold kept; rw [if_neg (Finset.ne_of_mem_erase hc)]; rfl, BI.bigSep_emp_const]
  unfold kept; rw [if_pos rfl]
  exact BI.equiv_iff.mp sep_emp

theorem seed_intro : (ownU (seed m) : sProp 𝕄) ⊢ |={Set.univ}=> iprop(BI.own (EP (initOf
      (Pipeline.PerCore.cells (Pipeline.pinD (pcfgs (F := F)) (adm (mid m))) (cells_apart m))
      (Pipeline.PerCore.launchToks (Pipeline.pinD (pcfgs (F := F)) (adm (mid m))) (cells_apart m))))
    ∗ bigSep Finset.univ (kept (F := F))) := by
  rw [kept_all]
  unfold seed
  iintro Hu
  ihave H := (ownU_pair _ _) $$ Hu
  icases H with ⟨HP, HX⟩
  imodintro
  isplitl [HP]; · iexact HP
  iexact HX

theorem bar_only (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device has at the launch besides the exchange's state. -/
def plain (c : Dev nD) : sProp 𝕄 :=
  iprop(StableHlo.held (c : Thread nD τ) (Pipeline.ucRefs τ sig) (V0 m c) ∗ credits c ∗ owes (c : Thread nD τ) (owed₀ c) ∅)

theorem plain_intro (c : Dev nD) :
    iprop(unscopedBufs c (fun b => m ((c : Thread nD τ).loc b)) ∗ unscopedSems0 c
        ∗ owes (c : Thread nD τ) (owed₀ c) ∅ ∗ Pipeline.launchCred owed₀ c ∗ prngReg c (ρ c) ∗ kept c)
      ⊢ (iprop(plain m c ∗ semVal (barCell c) 0 ∗ kept c) : sProp 𝕄) := by
  rw [show unscopedBufs c (fun b => m ((c : Thread nD τ).loc b)) = StableHlo.held (c : Thread nD τ) (Pipeline.ucRefs τ sig) (V0 m c)
    from Pipeline.unscopedBufs_held c (V0 m c), bar_only]
  unfold plain
  iintro ⟨Hh, Hus, HO, Hcr, -, HG⟩
  ihave Hc := (credits_intro (F := F) c) $$ Hcr
  isplitl [Hh Hc HO]
  · isplitl [Hh]; · iexact Hh
    isplitl [Hc]; · iexact Hc
    iexact HO
  isplitl [Hus]; · iexact Hus
  iexact HG

theorem first_intro (κ : GSem nD τ sig → ℕ) (c : Dev nD) :
    iprop(board (accOf (mid m)) (sumOf (mid m)) κ ∗ ((atPos ER (barCell c) 0 ∅ 0 ∗ rights c ∗ pays c) ∗ plain m c)) ⊢ first m c := by
  unfold plain
  iintro ⟨#HB, ⟨HA, HR, HP⟩, Hh, HC, HO⟩
  isplitl [Hh]; · iexact Hh
  isplitr [HO]
  · iapply (deal (accOf (mid m)) (sumOf (mid m)) κ c)
    isplitr; · iexact HB
    isplitl [HA]; · iexact HA
    isplitl [HR]; · iexact HR
    isplitl [HP]; · iexact HP
    iexact HC
  iexists ∅; iexact HO

theorem begin :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ kept c)) ∗ levAts L lv)
      ⊢ (|={Set.univ}=> bigSep Finset.univ (first m) : sProp 𝕄) := by
  have hv : bigSep Finset.univ (fun c : Dev nD => (semVal (barCell c) 0 : sProp 𝕄)) = bigSep bars (fun g => (semVal g 0 : sProp 𝕄)) :=
    (bigSep_map (s := Finset.univ) barAt (Φ := fun g : GSem nD τ sig => (semVal g 0 : sProp 𝕄))).symm
  have hat : bigSep bars (fun g => (atPos ER g 0 ∅ 0 : sProp 𝕄)) = bigSep Finset.univ (fun c : Dev nD => (atPos ER (barCell c) 0 ∅ 0 : sProp 𝕄)) :=
    bigSep_map (s := Finset.univ) barAt (Φ := fun g : GSem nD τ sig => (atPos ER g 0 ∅ 0 : sProp 𝕄))
  iintro ⟨H, -⟩
  ihave H1 := (show (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ kept c))
      ⊢ (bigSep Finset.univ fun c : Dev nD => iprop(plain m c ∗ semVal (barCell c) 0 ∗ kept c) : sProp 𝕄)
    from bigSep_mono fun c _ => plain_intro m ρ c) $$ H
  ihave H2 := (Entails.of_eq (bigSep_sep' _ _ _)) $$ H1
  icases H2 with ⟨HB, H3⟩
  ihave H4 := (Entails.of_eq (bigSep_sep' _ _ _)) $$ H3
  icases H4 with ⟨Hv, HG⟩
  ihave Hu := (Entails.of_eq (kept_all (F := F))) $$ HG
  ihave Hv2 := (Entails.of_eq hv) $$ Hv
  imod (Rounds.fund_launch ER (rd (accOf (mid m)) (sumOf (mid m))) bars_owns (fun g _ h => h) allDuties) $$ [Hv2 Hu] with ⟨%κ, -, #Hinv, #Hr, Hat, Hopen, Htok⟩
  · isplitl [Hv2]; · iexact Hv2
    iexact Hu
  imodintro
  iapply (bigSep_with_persistent (R := board (accOf (mid m)) (sumOf (mid m)) κ)
    (Φ := fun c => iprop((atPos ER (barCell c) 0 ∅ 0 ∗ rights c ∗ pays c) ∗ plain m c)) fun c _ => first_intro m κ c)
  isplitr
  · unfold board
    isplitr; · iexact Hinv
    iexact Hr
  iapply (Entails.of_eq (bigSep_sep' _ _ _).symm)
  isplitr [HB]
  · iapply (Entails.of_eq (bigSep_sep' _ _ _).symm); isplitl [Hat]; · iapply (Entails.of_eq hat) $$ Hat
    iapply (Entails.of_eq (bigSep_sep' _ _ _).symm); isplitl [Hopen]; · iapply (Entails.of_eq rights_all) $$ Hopen
    iapply (Entails.of_eq (cross (F := F)))
    iapply (Entails.of_eq (paid_all (F := F))) $$ Htok
  iexact HB

/-! ## The run -/

section Run

variable (htab : ∀ c j, (tabOf (mid m) c j).toNat < 256) (hcnt : ∀ c j, (cntOf (mid m) c j).toNat ≤ 256)

set_option backward.isDefEq.respectTransparency.types false in
/-- The program on a device: the host's operations, then the grid. -/
def parts (c : Dev nD) : List (Pipeline.PerCore.Seg (pcfgs (F := F)) (adm (mid m)) (dats (mid m)) () (defs₀ (F := F)) 𝒱₀ L lv) :=
  [.host (seg0 m 𝒱₀ L lv (fun _ => rest m) c), .host (seg1 m 𝒱₀ L lv fun _ => rest m), .host (seg2 m 𝒱₀ L lv fun _ => rest m),
    .host (seg3 m 𝒱₀ L lv fun _ => rest m), .host (seg4 m 𝒱₀ L lv fun _ => rest m), .host (seg5 m 𝒱₀ L lv fun _ => rest m),
    .region (region (mid m) htab hcnt)]

theorem mid_arg (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) : mid m c r = m ((c : Thread nD τ).loc r) :=
  (V6_of m c r h5).trans <| (V5_of m c r h4).trans <| (V4_of m c r h3).trans <| (V3_of m c r h2).trans <| (V2_of m c r h1).trans (V1_of m c r h0)

theorem only_bar : ∀ sm : SemLoc sig, sm.isScoped .tc = false → sm = .reg barS := by decide

/-- What a final memory holds of device `c`. -/
def Ends (c : Dev nD) (s : MemSt nD τ sig (Elt F)) : Prop :=
  (s.mem ((c : Thread nD τ).loc main_arg0) = mid m c main_arg0 ∧ s.mem ((c : Thread nD τ).loc main_arg1) = mid m c main_arg1
    ∧ s.mem ((c : Thread nD τ).loc main_arg2) = mid m c main_arg2 ∧ s.mem ((c : Thread nD τ).loc main_arg3) = mid m c main_arg3
    ∧ s.mem ((c : Thread nD τ).loc main_arg4) = mid m c main_arg4)
  ∧ s.mem ((c : Thread nD τ).loc main_v26) = resOf (mid m) c ∧ s.sem (barCell c) = 0

theorem final_reads (c : Dev nD) (s' : Phys nD τ sig (Elt F)) :
    iprop(final m c ∗ SI s') ⊢ (|={Set.univ}=> iprop(⌜Ends m c s'.mem⌝ ∗ SI s') : sProp 𝕄) := by
  dsimp only [final]
  unfold outside aside caches
  iintro ⟨⟨H0, H26, ⟨Hb, ⟨%q1, H1⟩, ⟨%q2, H2⟩⟩, H3, H4⟩, HSI⟩
  icombine HSI H0 gives %h0
  icombine HSI H1 gives %h1
  icombine HSI H2 gives %h2
  icombine HSI H3 gives %h3
  icombine HSI H4 gives %h4
  icombine HSI H26 gives %h26
  icombine HSI Hb gives %hb
  imodintro
  isplitr
  · ipureintro
    exact ⟨⟨Buf.eq_of_forall_mem_univ h0, Buf.eq_of_forall_mem_univ h1, Buf.eq_of_forall_mem_univ h2, Buf.eq_of_forall_mem_univ h3,
      Buf.eq_of_forall_mem_univ h4⟩, Buf.eq_of_forall_mem_univ h26, by simpa using hb⟩
  iexact HSI

include htab hcnt in
set_option backward.isDefEq.respectTransparency.types false in
/-- From any memory with every semaphore at zero, every fair run of the program ends; the result is `resOf`, the arguments are
    unchanged and every semaphore is at zero. -/
theorem run_of : θ_run defs (onTc (τ := τ) (main (F := F))) ⟨m, fun _ => 0, ρ⟩
    (fun r => (∀ c : Dev nD, Ends m c r.2) ∧ r.2.sem = fun _ => 0) :=
  Pipeline.PerCore.θ_run_regions_kit_sems (pcfgs (F := F)) (adm (mid m)) (dats (mid m)) () (cells_apart m) EP defs₀ 𝒱₀ L lv m ρ main (parts m htab hcnt)
    (fun c Q => by
      rewrite [main_chain c, Pipeline.PerCore.Seg.run_eq_chain,
        show (parts m htab hcnt c).map Pipeline.PerCore.Seg.prog = [
          StableHlo.seq (hostOps0 c), StableHlo.seq hostOps0_1, StableHlo.seq hostOps0_2, StableHlo.seq hostOps0_3,
          StableHlo.seq hostOps0_4, StableHlo.seq hostOps0_5, Prog.lift (.customCall (Pipeline.entry 0) ())] from rfl]
      exact .rfl)
    (fun c => by
      simp only [parts, Pipeline.PerCore.Seg.pipes_host, Pipeline.PerCore.Seg.pipes_region, Pipeline.PerCore.Seg.pipes_nil]; decide)
    (O₀ := owed₀) (hL := L_of_ne) (G := kept) (u₀ := seed m) (hu₀ := seed_intro m)
    (T₀ := first m) (Tₙ := final m)
    (hch := fun c => ⟨.rfl, .rfl, .rfl, .rfl, .rfl, .rfl, .rfl, .rfl⟩)
    (hinit := begin m ρ) (QY := Ends m) (hfin := final_reads m)
    (hQ := fun s h hs => ⟨h, sem_eq_zero hs fun c sm hsm => by obtain rfl := only_bar sm hsm; exact (h c).2.2⟩)

end Run

end Cert.Proof
-- ==== Proof.Sorted.lean ====
/- The sort that puts a device's own pages in front, and the gather that applies it to the page table. -/
module

public import proofs.«01_k».proof.KernelIdeal
public import Idealize.ShloMosaic.Lib.SortFacts
public import Idealize.ShloMosaic.Lib.ReduceAll
public import Idealize.ShloMosaic.Lib.ValueIdx
public import Idealize.ShloMosaic.Lib.ValueLayout

@[expose] public section

noncomputable section

namespace Cert.Proof

open Cert.KernelIdeal Cert.KernelIdeal.Facts₀
open Idealize.ShloMosaic Idealize.ShloMosaic.ValueIdx

variable [Cert.KernelIdeal.Facts]

/-- Entry `t` of row `r`. -/
def entry (r : Fin 32) (t : Fin 256) : S32x256.Idx := ValueIdx.ix2 r t
def entry1 (r : Fin 32) (t : Fin 256) : S32x256x1.Idx := ValueIdx.ix3 r t (0 : Fin 1)

/-- The position in row `r` whose entry the stable sort by the one-bit key `x` moves to position `t`. -/
def source (x : S32x256.Idx → BitVec 1) (r : Fin 32) (t : Fin 256) : Fin 256 :=
  sortedFrom (fun k k' => IntOp.cmpi .ult (x (entry r k)) (x (entry r k')) == 1#1) t

theorem source_injective (x : S32x256.Idx → BitVec 1) (r : Fin 32) : Function.Injective (source x r) := sortedFrom_injective _

/-- Two bits, one not below the other and the lower one set, are both set. -/
theorem key_sorted (x : S32x256.Idx → BitVec 1) (r : Fin 32) (t t' : Fin 256) (h : t ≤ t')
    (h' : x (entry r (source x r t')) = 0#1) : x (entry r (source x r t)) = 0#1 := by
  rcases eq_or_lt_of_le h with rfl | h
  · exact h'
  have bits : ∀ a b d : BitVec 1, (IntOp.cmpi .ult a b == 1#1) = false → (IntOp.cmpi .ult b d == 1#1) = false →
      (IntOp.cmpi .ult a d == 1#1) = false := by decide
  have flip : ∀ a b : BitVec 1, (IntOp.cmpi .ult a b == 1#1) = true → (IntOp.cmpi .ult b a == 1#1) = false := by decide
  have e := sortedFrom_noInversion (fun k k' => IntOp.cmpi .ult (x (entry r k)) (x (entry r k')) == 1#1)
    (fun k k' => IntOp.cmpi .ult (x (entry r k)) (x (entry r k')) == 1#1)
    (fun _ _ => flip _ _) (fun _ _ h => h) (fun _ _ _ => bits _ _ _) t t' h
  have last : ∀ a b : BitVec 1, (IntOp.cmpi .ult a b == 1#1) = false → a = 0#1 → b = 0#1 := by decide
  exact last _ _ e h'

/-- The sorted positions: the second result of the sort of the key with the positions beside it. -/
def order (x : S32x256.Idx → BitVec 1) : S32x256.Idx → BitVec 32 :=
  (Host.sort2 S32x256 1 comparator_i1_i32_d1 x (iotaInDim S32x256 32 1)).2

/-- The second result of a sort of two arrays, at an entry. -/
theorem sort2_second {s : Shape} {d : ℕ} {α β : Type} (cmp : α × β → α × β → BitVec 1) (x : s.Idx → α) (y : s.Idx → β)
    (hd : d < s.rank) (j : s.Idx) : (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

theorem along_second (r : Fin 32) (t k : Fin 256) : Shape.Idx.along (entry r t) (1 : Fin 2) k = entry r k := by
  funext a
  match a with
  | 0 => rfl
  | 1 => rfl

attribute [local irreducible] sortedFrom Host.reduce Host.gather in
theorem order_at (x : S32x256.Idx → BitVec 1) (r : Fin 32) (t : Fin 256) :
    order x (entry r t) = BitVec.ofNat 32 (source x r t).val := by
  unfold order
  refine (sort2_second _ _ _ (by decide) _).trans ?_
  refine (congrArg (iotaInDim S32x256 32 1) (along_second r t _)).trans ?_
  unfold source
  exact congrArg (fun f : Fin 256 → Fin 256 → Bool => BitVec.ofNat 32 (sortedFrom f t).val)
    (funext fun k => funext fun k' => congrArg₂ (fun a b => IntOp.cmpi .ult (x a) (x b) == 1#1) (along_second r t k) (along_second r t k'))

/-- A row of `x` read at the positions `o`, the way the program does it: a negative position counted from the end, and a
    fixed word where the position is not in the row. -/
def picked (x o : S32x256.Idx → BitVec 32) : S32x256.Idx → BitVec 32 :=
  let p : S32x256.Idx → BitVec 32 := select (cmpi .slt o (broadcastInDim S32x256 ![] bcast_S_S32x256 (constantI S_ 32 0#32)))
    (addi o (broadcastInDim S32x256 ![] bcast_S_S32x256 (constantI S_ 32 256#32))) o
  let q : S32x256x1.Idx → BitVec 32 := shapeCast S32x256x1 p shapeCasts_S32x256_S32x256x1
  select (Host.reduce IntOp.andi
      (andi (cmpi .sge q (broadcastInDim S32x256x1 ![] bcast_S_S32x256x1 (constantI S_ 32 0#32)))
        (cmpi .sle q (broadcastInDim S32x256x1 ![0, 1, 2] bcast_S1x1x1_S32x256x1_0_1_2
          (broadcastInDim S1x1x1 ![2] bcast_S1_S1x1x1_2 (constantI S1 32 255#32)))))
      (constantI S_ 1 1#1) reducesTo_S32x256x1_S32x256_d2 h_S_)
    (Host.gather gather_S32x256_S32x256x1_S32x256_n_1_0_0_1_2_11 x q)
    (broadcastInDim S32x256 ![] bcast_S_S32x256 (constantI S_ 32 2147483648#32))

theorem last_axis (p : S32x256.Idx → BitVec 32) (r : Fin 32) (t : Fin 256) :
    shapeCast S32x256x1 p shapeCasts_S32x256_S32x256x1 (entry1 r t) = p (entry r t) :=
  congrArg p (Shape.reshapeEquiv_eq_of_rowMajor _ (by
    rw [Shape.rowMajor_val_three, Shape.rowMajor_val_two]
    show r.val * 256 + t.val = (r.val * 256 + t.val) * 1 + 0
    omega))

theorem entry1_all (i : S32x256x1.Idx) : ∃ r t, i = entry1 r t := by
  refine ⟨i 0, i 1, funext fun a => ?_⟩
  match a with
  | 0 => rfl
  | 1 => rfl
  | 2 => exact Subsingleton.elim (α := Fin 1) _ _

/-- The gather of one entry per position, at an entry: its row, at the position the index array names there. -/
theorem gather_at (x : S32x256.Idx → BitVec 32) (q : S32x256x1.Idx → BitVec 32) (r : Fin 32) (t n : Fin 256)
    (hn : q (entry1 r t) = BitVec.ofNat 32 n.val) :
    Host.gather gather_S32x256_S32x256x1_S32x256_n_1_0_0_1_2_11 x q (entry r t) = x (entry r n) := by
  unfold Host.gather
  refine congrArg x (funext fun a => Fin.ext ?_)
  let d := gather_S32x256_S32x256x1_S32x256_n_1_0_0_1_2_11
  show d.start (entry r t) q a + d.batchCoord (entry r t) a + d.offCoord (entry r t) a = _
  match a with
  | 0 =>
    rw [d.start_batching (entry r t) q 0 (List.mem_singleton.mpr rfl),
      d.offCoord_eq_zero (entry r t) 0 (fun h => ((d.mem_sKept _).mp h).2 (List.mem_singleton.mpr rfl))]
    unfold GatherDims.batchCoord
    rw [dif_pos (show (0 : Fin 2) ∈ d.operandBatchingDims from List.mem_singleton.mpr rfl)]
    simp only [Nat.zero_add, Nat.add_zero]
    rfl
  | 1 =>
    rw [d.batchCoord_eq_zero (entry r t) 1 (fun h => by simp [d, gather_S32x256_S32x256x1_S32x256_n_1_0_0_1_2_11] at h),
      d.offCoord_eq_zero (entry r t) 1 (fun h => ((d.mem_sKept _).mp h).1 (List.mem_singleton.mpr rfl))]
    unfold GatherDims.start
    rw [dif_pos (show (1 : Fin 2) ∈ d.startIndexMap from List.mem_singleton.mpr rfl)]
    have e : d.siIdx (entry r t) ⟨List.idxOf (1 : Fin 2) d.startIndexMap, List.idxOf_lt_length_iff.2 (List.mem_singleton.mpr rfl)⟩
        = entry1 r t := by
      funext b; refine Fin.ext ?_
      match b with
      | ⟨0, _⟩ => rfl
      | ⟨1, _⟩ => rfl
      | ⟨2, _⟩ => rfl
    rw [e, hn]
    have hlt : n.val < 256 := n.isLt
    have h1 : (BitVec.ofNat 32 n.val).toInt.toNat = n.val := by
      rw [BitVec.toInt_eq_toNat_of_lt (by rw [BitVec.toNat_ofNat]; omega), BitVec.toNat_ofNat]
      omega
    show min (BitVec.ofNat 32 n.val).toInt.toNat (256 - 1) + 0 + 0 = n.val
    rw [h1]; omega

theorem in_row (n : Fin 256) : IntOp.cmpi .slt (BitVec.ofNat 32 n.val) 0#32 = 0#1
    ∧ IntOp.andi (IntOp.cmpi .sge (BitVec.ofNat 32 n.val) 0#32) (IntOp.cmpi .sle (BitVec.ofNat 32 n.val) 255#32) = 1#1 := by
  revert n; decide +kernel

theorem entry_all (i : S32x256.Idx) : ∃ r t, i = entry r t := by
  refine ⟨i 0, i 1, funext fun a => ?_⟩
  match a with
  | 0 => rfl
  | 1 => rfl

theorem forward (o : S32x256.Idx → BitVec 32) (s : Fin 32 → Fin 256 → Fin 256) (ho : ∀ r t, o (entry r t) = BitVec.ofNat 32 (s r t).val) :
    select (cmpi .slt o (broadcastInDim S32x256 ![] bcast_S_S32x256 (constantI S_ 32 0#32)))
      (addi o (broadcastInDim S32x256 ![] bcast_S_S32x256 (constantI S_ 32 256#32))) o = o := by
  funext i
  obtain ⟨r, t, rfl⟩ := entry_all i
  refine (if_neg (c := IntOp.cmpi .slt (o (entry r t)) 0#32 = 1#1) ?_)
  rw [ho, (in_row _).1]
  decide

attribute [local irreducible] Host.reduce Host.gather in
/-- Read at positions of the row, that is the entry at each position. -/
theorem picked_at (x o : S32x256.Idx → BitVec 32) (s : Fin 32 → Fin 256 → Fin 256)
    (ho : ∀ r t, o (entry r t) = BitVec.ofNat 32 (s r t).val) (r : Fin 32) (t : Fin 256) :
    picked x o (entry r t) = x (entry r (s r t)) := by
  unfold picked
  dsimp only
  rw [forward o s ho]
  refine (if_pos (Host.reduce_andi_one _ _ _ _ _ rfl fun i => ?_)).trans (gather_at x _ r t _ ((last_axis o r t).trans (ho r t)))
  obtain ⟨r', t', rfl⟩ := entry1_all i
  show IntOp.andi (IntOp.cmpi .sge (shapeCast S32x256x1 o _ (entry1 r' t')) 0#32) (IntOp.cmpi .sle (shapeCast S32x256x1 o _ (entry1 r' t')) 255#32) = 1#1
  rw [last_axis o r' t', ho r' t']
  exact (in_row _).2

end Cert.Proof
-- ==== Proof.HostVals.lean ====
/- What the host's operations leave in the page table and the page counts. -/
module

public import proofs.«01_k».proof.Proof.Run
public import proofs.«01_k».proof.Proof.Sorted
public import Idealize.ShloMosaic.Lib.StableHlo.Predicate

@[expose] public section

noncomputable section

namespace Cert.Proof

open Cert.KernelIdeal Cert.KernelIdeal.Gen
open Idealize.ShloMosaic Idealize.ShloMosaic.TcCoe Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- The first page of a device's half of the cache. -/
def half (c : Dev nD) : BitVec 32 := BitVec.ofNat 32 (256 * (c.val / 8 % 2))

/-- Whether entry `j` of a row of the page table is a page of this device: its page `b`, the row's length `len`. -/
def isMine (c : Dev nD) (b len : BitVec 32) (j : ℕ) : BitVec 1 :=
  IntOp.andi (IntOp.andi (IntOp.cmpi .sge (b - half c) 0#32) (IntOp.cmpi .slt (b - half c) 256#32)) (IntOp.cmpi .slt (BitVec.ofNat 32 j) len)

def pagesOf (c : Dev nD) : S32x256.Idx → BitVec 32 := m ((c : Thread nD τ).loc main_arg3)
def lensOf (c : Dev nD) : S32.Idx → BitVec 32 := m ((c : Thread nD τ).loc main_arg4)

theorem half_word (c : Dev nD) : IntOp.muli (IntOp.remui .host (IntOp.divui .host (Dev.word c) 8#32) 2#32) 256#32 = half c := by
  revert c; decide +kernel

theorem local_at (c : Dev nD) (j : S32x256.Idx) : V1 m c main_v7 j = pagesOf m c j - half c := by
  rw [← half_word]
  unfold_abbrev_sides
  after_results
  rfl

theorem along_row (f : S32.Idx → BitVec 32) (j : S32x256.Idx) :
    broadcastInDim S32x256 ![0, 1] bcast_S32x1_S32x256_0_1 (broadcastInDim S32x1 ![0] bcast_S32_S32x1_0 f) j = f (ValueIdx.ix1 (j 0)) := by
  unfold broadcastInDim
  refine congrArg f (funext fun a => ?_)
  match a with
  | 0 => rfl

theorem mine_at (c : Dev nD) (j : S32x256.Idx) : V1 m c main_v19 j = isMine c (pagesOf m c j) (lensOf m c (ValueIdx.ix1 (j 0))) (j 1).val := by
  rw [← along_row (lensOf m c) j]
  unfold isMine
  rw [← half_word]
  unfold_abbrev_sides
  after_results
  rfl

/-- The mask of a device's own entries, and the key its rows are sorted by. -/
def mineOf (c : Dev nD) : S32x256.Idx → BitVec 1 := V1 m c main_v19
def keysOf (c : Dev nD) : S32x256.Idx → BitVec 1 := noti (mineOf m c)
/-- The page numbers with those of other devices made zero. -/
def kepts (c : Dev nD) : S32x256.Idx → BitVec 32 :=
  select (mineOf m c) (V1 m c main_v7 : S32x256.Idx → BitVec 32) (broadcastInDim S32x256 ![] bcast_S_S32x256 (constantI S_ 32 0#32))

theorem keys_eq (c : Dev nD) : (V1 m c main_v20 : S32x256.Idx → BitVec 1) = keysOf m c := by
  unfold keysOf mineOf
  unfold_abbrev_sides
  after_results

attribute [local irreducible] Host.sort2 in
theorem order_of (W : Valuation τ sig (Elt F)) :
    (StableHlo.after hostOps0_1 W main_v21 : S32x256.Idx → BitVec 32) = order (W main_v20) := by
  unfold order
  after_results
  rfl

theorem order_eq (c : Dev nD) : (V2 m c main_v21 : S32x256.Idx → BitVec 32) = order (V1 m c main_v20) := order_of _

theorem kept_eq (c : Dev nD) : (V4 m c main_v22 : S32x256.Idx → BitVec 32) = kepts m c := by
  unfold kepts mineOf
  rw [← V2_of m c main_v19 (by decide), ← V3_of m c main_v19 (by decide), ← V2_of m c main_v7 (by decide), ← V3_of m c main_v7 (by decide)]
  have e : (V3 m c main_c_4 : S_.Idx → BitVec 32) = constantI S_ 32 0#32 := by
    unfold V3
    after_results
  rw [← e]
  unfold V4
  after_results
  rfl

attribute [local irreducible] Host.reduce Host.gather shapeCast in
theorem packed_of (W : Valuation τ sig (Elt F)) :
    (StableHlo.after hostOps0_4 W main_v23 : S32x256.Idx → BitVec 32) = picked (W main_v22) (W main_v21) := by
  unfold picked
  after_results
  rfl

theorem packed_eq (c : Dev nD) : (V5 m c main_v23 : S32x256.Idx → BitVec 32) = picked (V4 m c main_v22) (V4 m c main_v21) := packed_of _

/-- Entry `t` of row `r` of the page table given to the kernel: the kept page number at the position the sort brings there. -/
theorem table_at (c : Dev nD) (r : Fin 32) (t : Fin 256) :
    tabOf (mid m) c (entry r t) = kepts m c (entry r (source (keysOf m c) r t)) := by
  show V6 m c main_v23 (entry r t) = _
  rw [V6_of m c main_v23 (by decide), packed_eq]
  rw [picked_at _ _ (source (keysOf m c)), kept_eq]
  intro r t
  rw [V4_of m c main_v21 (by decide), V3_of m c main_v21 (by decide), order_eq, keys_eq]
  exact order_at _ _ _

/-- The count of row `r`: how many of its entries are the device's own. -/
theorem count_at (c : Dev nD) (r : Fin 32) :
    (cntOf (mid m) c (ValueIdx.ix1 r)).toNat = (Finset.univ.filter fun q : Fin 256 => mineOf m c (entry r q) = 1#1).card := by
  have e : ∀ W : Valuation τ sig (Elt F), (StableHlo.after hostOps0_5 W main_v25 : S32.Idx → BitVec 32)
      = Host.reduce IntOp.addi (extui 32 (W main_v19 : S32x256.Idx → BitVec 1) natLt_1_32) (constantI S_ 32 0#32) reducesTo_S32x256_S32_d1 h_S_ := by
    intro W
    after_results
  show (V6 m c main_v25 (ValueIdx.ix1 r)).toNat = _
  rw [show V6 m c main_v25 = _ from e (V5 m c)]
  rw [StableHlo.Predicate.toNat_reduce_count_cols (by decide)]
  rw [V5_of m c main_v19 (by decide), V4_of m c main_v19 (by decide), V3_of m c main_v19 (by decide), V2_of m c main_v19 (by decide)]
  rfl

theorem mask_of (c : Dev nD) (r : Fin 32) (t : Fin 256) :
    mineOf m c (entry r t) = isMine c (pagesOf m c (entry r t)) (lensOf m c (ValueIdx.ix1 r)) t.val := mine_at m c _

theorem andi_one {a b : BitVec 1} (h : IntOp.andi a b = 1#1) : a = 1#1 ∧ b = 1#1 := by revert a b; decide

/-- A word not below zero and below 256, read signed, is below 256. -/
theorem small_word (w : BitVec 32) (h : IntOp.cmpi .sge w 0#32 = 1#1) (h' : IntOp.cmpi .slt w 256#32 = 1#1) : w.toNat < 256 := by
  have g : (0#32).sle w = true := by
    rcases hb : (0#32).sle w with _ | _
    · exact absurd (h.symm.trans (show IntOp.cmpi .sge w 0#32 = 0#1 by unfold IntOp.cmpi; simp [hb])) (by decide)
    · rfl
  have g' : w.slt 256#32 = true := by
    rcases hb : w.slt 256#32 with _ | _
    · exact absurd (h'.symm.trans (show IntOp.cmpi .slt w 256#32 = 0#1 by unfold IntOp.cmpi; simp [hb])) (by decide)
    · rfl
  rw [BitVec.sle_iff_toInt_le] at g
  rw [BitVec.slt_iff_toInt_lt] at g'
  have e0 : (0#32 : BitVec 32).toInt = 0 := by decide
  have e1 : (256#32 : BitVec 32).toInt = 256 := by decide
  rw [e0] at g
  rw [e1] at g'
  have := BitVec.toInt_eq_toNat_cond w
  split at this <;> omega

theorem kept_small (c : Dev nD) (r : Fin 32) (t : Fin 256) : (kepts m c (entry r t)).toNat < 256 := by
  show (if mineOf m c (entry r t) = 1#1 then (V1 m c main_v7 (entry r t) : BitVec 32) else 0#32).toNat < 256
  split
  · rename_i h
    rw [mask_of] at h
    rw [local_at]
    exact small_word _ (andi_one (andi_one h).1).1 (andi_one (andi_one h).1).2
  · decide

theorem table_small (c : Dev nD) (j : S32x256.Idx) : (tabOf (mid m) c j).toNat < 256 := by
  obtain ⟨r, t, rfl⟩ := entry_all j
  rw [table_at]
  exact kept_small m c _ _

theorem count_small (c : Dev nD) (j : S32.Idx) : (cntOf (mid m) c j).toNat ≤ 256 := by
  obtain ⟨r, rfl⟩ : ∃ r : Fin 32, j = ValueIdx.ix1 r := ⟨j 0, funext fun a => by
    match a with
    | 0 => rfl⟩
  rw [count_at]
  exact (Finset.card_le_univ _).trans (by simp)

/-- The whole run, from any memory whose semaphores are zero. -/
theorem run_main (ρ) : θ_run defs (onTc (τ := τ) (main (F := F))) ⟨m, fun _ => 0, ρ⟩
    (fun r => (∀ c, Ends m c r.2) ∧ r.2.sem = fun _ => 0) :=
  run_of m ρ (table_small m) (count_small m)

end Cert.Proof
-- ==== Proof.Same.lean ====
/- The kernel as it is read at machine floats, and the text read at the reals with its named constant read as the word it stands for, are the
same definitions. -/
module

public import proofs.«01_k».proof.Proof.Gen.KernelIdeal
public import proofs.«01_k».proof.Proof.Gen.Kernel
public import Idealize.ShloMosaic.PureOps.BitExact

@[expose] public section

noncomputable section

namespace Cert.Proof

open Idealize.ShloMosaic Idealize.ShloMosaic.TcCoe

/-- A named constant at machine floats: the word it was written as. -/
instance wordNamed : Named Bits where
  named _ _ {φ} bits := FloatOps.ofBits φ bits

local instance : Cert.Kernel.Facts := Cert.Kernel.Gen.facts
local instance : Cert.KernelIdeal.Facts := Cert.KernelIdeal.Gen.facts

set_option maxHeartbeats 4000000

theorem body_same : @Cert.Kernel.cc0_body Bits _ _ = @Cert.KernelIdeal.cc0_body Bits _ _ _ := by
  rfl

theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    dsimp only
    rw [body_same]
    rfl

theorem defs_same : Cert.Kernel.defs (F := Bits) = Cert.KernelIdeal.defs (F := Bits) :=
  congrArg (Pipeline.defs (Cert.KernelIdeal.pcfgs (F := Bits))) defs₀_same

theorem main_same : Cert.Kernel.main (F := Bits) = Cert.KernelIdeal.main (F := Bits) := by
  rfl

end Cert.Proof
-- ==== Proof.Frames.lean ====
/- The programs run to the end and leave their arguments as they were. -/
module

public import proofs.«01_k».proof.Defs
public import proofs.«01_k».proof.Proof.HostVals
public import proofs.«01_k».proof.Proof.Same

@[expose] public section

noncomputable section

namespace Cert.Proof

open Idealize.ShloMosaic Idealize.ShloMosaic.TcCoe
open Idealize.SL.Sem

variable {F : FTy → Type} [FloatOps F] [Named F]

/-- What a run of the kernel leaves in its arguments. -/
theorem ends_args (m : (ℓ : Loc Cert.KernelIdeal.nD Cert.KernelIdeal.τ Cert.KernelIdeal.sig) → Buf (Elt F) ℓ) (c : Dev Cert.KernelIdeal.nD) (s)
    (h : Ends m c s) :
    s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4) := by
  unfold Ends at h
  obtain ⟨⟨h0, h1, h2, h3, h4⟩, -⟩ := h
  exact ⟨h0.trans (mid_arg m c _ (by decide) (by decide) (by decide) (by decide) (by decide) (by decide)),
    h1.trans (mid_arg m c _ (by decide) (by decide) (by decide) (by decide) (by decide) (by decide)),
    h2.trans (mid_arg m c _ (by decide) (by decide) (by decide) (by decide) (by decide) (by decide)),
    h3.trans (mid_arg m c _ (by decide) (by decide) (by decide) (by decide) (by decide) (by decide)),
    h4.trans (mid_arg m c _ (by decide) (by decide) (by decide) (by decide) (by decide) (by decide))⟩

theorem frame_kernel : Cert.quiescent_Kernel (hKernel := Cert.Kernel.Gen.facts) := by
  intro m ρ _
  rw [defs_same, main_same]
  exact (θ_run Cert.KernelIdeal.defs _ _).mono (fun _ h => ⟨fun c => ends_args (F := Bits) m c _ (h.1 c), h.2⟩) (run_main (F := Bits) m ρ)

theorem frame_ideal : Cert.quiescent_KernelIdeal (hKernelIdeal := Cert.KernelIdeal.Gen.facts) := fun m ρ _ =>
  (θ_run Cert.KernelIdeal.defs _ _).mono (fun _ h => ⟨fun c => ends_args m c _ (h.1 c), h.2⟩) (run_main m ρ)

end Cert.Proof
-- ==== Proof.RefFrame.lean ====
/- The reference runs to the end and leaves its arguments as they were. -/
module

public import proofs.«01_k».proof.Defs
public import proofs.«01_k».proof.Proof.Gen.ReferenceIdeal
public import proofs.«01_k».proof.Proof.Gen.ReferenceIdeal.Run
public import Idealize.ShloMosaic.Lib.Claim

@[expose] public section

noncomputable section

namespace Cert.Proof

open Idealize.ShloMosaic Idealize.ShloMosaic.TcCoe
open Idealize.SL.Sem

theorem frame_reference : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Pays.lean ====
/- The kernel's arithmetic over the reals, read at an entry. -/
module

public import proofs.«01_k».proof.KernelIdeal
public import proofs.«01_k».proof.Proof.Gen.KernelIdeal.Skeleton
public import Idealize.ShloMosaic.Lib.Pointwise

@[expose] public section

set_option maxRecDepth 16384

noncomputable section

namespace Cert.Proof

open Cert.KernelIdeal Cert.KernelIdeal.Facts₀ Cert.KernelIdeal.Gen
open Idealize.ShloMosaic

variable [Cert.KernelIdeal.Facts]

/-- The score of a place of a chunk. -/
def chunkScore (q : Vec Ideal S1x1x16x128 .f32) (x : Vec Ideal S1x256x16x128 .f32) (p : Fin 256) (h : Fin 16) : EReal :=
  (∑ d : Fin 128, x (ix4 0 p h d) * q (ix4 0 0 h d)) * (((Real.sqrt 128)⁻¹ : ℝ) : EReal)

/-- The scale of the scores, by its name. -/
theorem scale_named : (Named.named (F := Ideal) κ "scale" (φ := .f32) 0x3DB504F3#32 : EReal) = (((Real.sqrt 128)⁻¹ : ℝ) : EReal) := rfl

/-- The weight of a place of a chunk: that of its score if its page is in use, and zero otherwise. -/
theorem weight_at (n : BitVec 32) (q : Vec Ideal S1x1x16x128 .f32) (w : BitVec 32) (x : Vec Ideal S1x256x16x128 .f32) (p : Fin 256) (h : Fin 16) :
    k0_pay4 (F := Ideal) n q w (k0_pay13 x) (ix2 p h)
      = Scalar.select (IntOp.cmpi .slt (IntOp.addi (BitVec.ofNat 32 p.val) (Scalar.muli w 256#32)) (Scalar.muli n 32#32)) (Ideal.exp (chunkScore q x p h)) 0 := by
  unfold chunkScore
  rw [← scale_named]
  pointwise [k0_pay4, k0_pay13, k0_pay1]

theorem sum_step (n : BitVec 32) (q : Vec Ideal S1x1x16x128 .f32) (l : FVec Ideal S1x16 .f32) (w : BitVec 32) (x : FVec Ideal S256x16x128 .f32) (h : Fin 16) :
    k0_pay5 (F := Ideal) n q l w x (ix2 0 h) = l (ix2 0 h) + ∑ p : Fin 256, k0_pay4 (F := Ideal) n q w x (ix2 p h) := by
  pointwise [k0_pay5]

theorem acc_step (n : BitVec 32) (q : Vec Ideal S1x1x16x128 .f32) (a : FVec Ideal S16x128 .f32) (w : BitVec 32) (x : FVec Ideal S256x16x128 .f32)
    (v : Vec Ideal S1x256x16x128 .f32) (h : Fin 16) (d : Fin 128) :
    k0_pay6 (F := Ideal) n q a w x v (ix2 h d) = a (ix2 h d) + ∑ p : Fin 256, v (ix4 0 p h d) * k0_pay4 (F := Ideal) n q w x (ix2 p h) := by
  pointwise [k0_pay6]

theorem acc_start (h : Fin 16) (d : Fin 128) : k0_pay2 (F := Ideal) (ix2 h d) = 0 := by
  pointwise [k0_pay2]
theorem sum_start (h : Fin 16) : k0_pay3 (F := Ideal) (ix2 0 h) = 0 := by
  pointwise [k0_pay3]
theorem acc_kept (a : FVec Ideal S16x128 .f32) (h : Fin 16) (d : Fin 128) : k0_pay10 (F := Ideal) a (ix3 0 h d) = a (ix2 h d) := by
  pointwise [k0_pay10]
theorem sum_kept (l : FVec Ideal S1x16 .f32) (h : Fin 16) : k0_pay11 (F := Ideal) l (ix2 0 h) = l (ix2 0 h) := by
  pointwise [k0_pay11]

theorem quotient (l l' : Vec Ideal S32x16 .f32) (a a' : Vec Ideal S32x16x128 .f32) (r : Fin 32) (h : Fin 16) (d : Fin 128) :
    k0_pay12 (F := Ideal) l l' a a' (ix4 r 0 h d) = Ideal.div (a (ix3 r h d) + a' (ix3 r h d)) (l (ix2 r h) + l' (ix2 r h)) := by
  pointwise [k0_pay12]

end Cert.Proof

end
-- ==== Proof.Counting.lean ====
/- Two facts on sums: a sum over the first places of a packed order, and a sum over chunks of pages. -/
module

public import Idealize.ShloMosaic.Lib.Pointwise

@[expose] public section

noncomputable section

namespace Cert.Proof

open scoped BigOperators

/-- A set of places closed downwards is the places below its number of elements. -/
theorem mem_iff_lt_card {n : ℕ} (S : Finset (Fin n)) (hS : ∀ t t' : Fin n, t ≤ t' → t' ∈ S → t ∈ S) (t : Fin n) : t ∈ S ↔ t.val < S.card := by
  constructor
  · intro h
    have h1 : Finset.Iic t ⊆ S := fun u hu => hS u t (Finset.mem_Iic.mp hu) h
    have h2 := Finset.card_le_card h1
    rw [Fin.card_Iic] at h2
    omega
  · intro h
    by_contra hn
    have h1 : S ⊆ Finset.Iio t := fun u hu => Finset.mem_Iio.mpr (lt_of_not_ge fun hge => hn (hS t u hge hu))
    have h2 := Finset.card_le_card h1
    rw [Fin.card_Iio] at h2
    omega

/-- An order of the places that puts the marked ones first: the sum over its first places, as many as are marked, is the sum over the marked ones. -/
theorem sum_packed {n : ℕ} {M : Type*} [AddCommMonoid M] (s : Fin n → Fin n) (hs : Function.Injective s) (mark : Fin n → Prop) [DecidablePred mark]
    (hd : ∀ t t', t ≤ t' → mark (s t') → mark (s t)) (N : ℕ) (hN : N = (Finset.univ.filter mark).card) (g : Fin n → M) :
    (∑ t : Fin n, if t.val < N then g (s t) else 0) = ∑ j : Fin n, if mark j then g j else 0 := by
  have hb : Function.Bijective s := Finite.injective_iff_bijective.mp hs
  have hcard : (Finset.univ.filter fun t => mark (s t)).card = N := by
    rw [hN]
    refine Finset.card_bij (fun t _ => s t) (fun t ht => ?_) (fun _ _ _ _ h => hs h) (fun j hj => ?_)
    · exact Finset.mem_filter.mpr ⟨Finset.mem_univ _, (Finset.mem_filter.mp ht).2⟩
    · obtain ⟨t, rfl⟩ := hb.2 j
      exact ⟨t, Finset.mem_filter.mpr ⟨Finset.mem_univ _, (Finset.mem_filter.mp hj).2⟩, rfl⟩
  rw [← Function.Bijective.sum_comp hb fun j => if mark j then g j else 0]
  refine Finset.sum_congr rfl fun t _ => ?_
  have h := mem_iff_lt_card (Finset.univ.filter fun t => mark (s t))
    (fun t t' h h' => Finset.mem_filter.mpr ⟨Finset.mem_univ _, hd t t' h (Finset.mem_filter.mp h').2⟩) t
  rw [hcard, Finset.mem_filter] at h
  by_cases ht : t.val < N
  · rw [if_pos ht, if_pos (h.mpr ht).2]
  · rw [if_neg ht, if_neg fun hm => ht (h.mp ⟨Finset.mem_univ _, hm⟩)]

/-- The sum over a chunk of eight pages of thirty-two places. -/
theorem sum_chunk {M : Type*} [AddCommMonoid M] (G : ℕ → ℕ → M) (k : ℕ) :
    (∑ p : Fin 256, G (8 * k + p.val / 32) (p.val % 32)) = ∑ j : Fin 8, ∑ i : Fin 32, G (8 * k + j.val) i.val := by
  rw [← Fintype.sum_prod_type' (f := fun (j : Fin 8) (i : Fin 32) => G (8 * k + j.val) i.val)]
  refine (Fintype.sum_equiv (finProdFinEquiv (m := 8) (n := 32)) _ (fun p : Fin (8 * 32) => G (8 * k + p.val / 32) (p.val % 32)) fun x => ?_).symm
  obtain ⟨j, i⟩ := x
  have hj := j.isLt
  have hi := i.isLt
  have h : ((finProdFinEquiv (j, i) : Fin (8 * 32)) : ℕ) = i.val + 32 * j.val := rfl
  rw [h, show (i.val + 32 * j.val) / 32 = j.val by omega, show (i.val + 32 * j.val) % 32 = i.val by omega]

/-- The sum over `N` chunks, of which the first `n` pages count. -/
theorem sum_chunks {M : Type*} [AddCommMonoid M] (G : ℕ → ℕ → M) (N : ℕ) :
    (∑ k ∈ Finset.range N, ∑ p : Fin 256, G (8 * k + p.val / 32) (p.val % 32)) = ∑ t ∈ Finset.range (8 * N), ∑ i : Fin 32, G t i.val := by
  induction N with
  | zero => simp
  | succ N ih =>
    rw [Finset.sum_range_succ, ih, sum_chunk, show 8 * (N + 1) = 8 * N + 8 by ring, Finset.sum_range_add]
    refine congrArg _ ?_
    exact (Finset.sum_range (fun j => ∑ i : Fin 32, G (8 * N + j) i.val)).symm

/-- The sum over the chunks that hold the first `n` pages, the others counting for nothing. -/
theorem sum_pages {M : Type*} [AddCommMonoid M] (G : ℕ → ℕ → M) {n : ℕ} (hn : n ≤ 256) (h0 : ∀ t i, n ≤ t → G t i = 0) :
    (∑ k ∈ Finset.range ((n + 7) / 8), ∑ p : Fin 256, G (8 * k + p.val / 32) (p.val % 32)) = ∑ t : Fin 256, ∑ i : Fin 32, G t.val i.val := by
  rw [sum_chunks, ← Finset.sum_range (fun t => ∑ i : Fin 32, G t i.val)]
  refine Finset.sum_subset (fun t ht => ?_) (fun t _ ht => ?_)
  · rw [Finset.mem_range] at ht ⊢; omega
  · rw [Finset.mem_range] at ht
    exact Finset.sum_eq_zero fun i _ => h0 t i.val (by omega)

end Cert.Proof

end
-- ==== Proof.Sums.lean ====
/- What a row's loop leaves, over the reals: sums over the entries of the page table in use and the places of their pages. -/
module

public import proofs.«01_k».proof.Proof.Row
public import proofs.«01_k».proof.Proof.Pays
public import proofs.«01_k».proof.Proof.Counting
public import Idealize.ShloMosaic.Lib.StableHlo.Predicate

@[expose] public section

set_option maxRecDepth 16384

noncomputable section

namespace Cert.Proof

open Cert.KernelIdeal Cert.KernelIdeal.Gen
open Idealize.ShloMosaic Idealize.ShloMosaic.TcCoe

/-- Place `i` of a page. -/
def place (i : ℕ) : Fin 32 := ⟨i % 32, Nat.mod_lt _ (by decide)⟩

/-- A cache read at place `i` of page `w`. -/
def readAt (f : Cache Ideal) (w : BitVec 32) (i : ℕ) (h : Fin 16) (d : Fin 128) : EReal := f (ValueIdx.ix4 (Fin.ofNat 256 w.toNat) (place i) h d)

/-- The weight of place `i` of page `w`. -/
def weightOf (q : Vec Ideal S1x1x16x128 .f32) (fK : Cache Ideal) (h : Fin 16) (w : BitVec 32) (i : ℕ) : EReal :=
  Ideal.exp ((∑ d : Fin 128, readAt fK w i h d * q (ValueIdx.ix4 0 0 h d)) * (((Real.sqrt 128)⁻¹ : ℝ) : EReal))

variable {tab : Table} {r : Fin 32} {fK fV : Cache Ideal} {n : BitVec 32} {q : Vec Ideal S1x1x16x128 .f32}

/-- A place of a chunk is a place of one of its eight pages. -/
theorem slab_read (f : Cache Ideal) (k : ℕ) (p : Fin 256) (h : Fin 16) (d : Fin 128) :
    slabV f (pages tab r k) (ValueIdx.ix4 0 p h d) = readAt f (tabAt tab r (8 * k + p.val / 32)) (p.val % 32) h d := by
  have e : place (p.val % 32) = ⟨p.val % 32, Nat.mod_lt _ (by decide)⟩ := Fin.ext (Nat.mod_mod _ _)
  unfold readAt
  rw [e]
  rfl

/-- A chunk's mask: the place's page is among the `n` in use. -/
theorem mask_iff (hn : n.toNat ≤ 256) {k : ℕ} (hk : k < 32) (p : Fin 256) :
    IntOp.cmpi .slt (IntOp.addi (BitVec.ofNat 32 p.val) (Scalar.muli (Scf.iv 0#32 1#32 k) 256#32)) (Scalar.muli n 32#32) = 1#1
      ↔ 8 * k + p.val / 32 < n.toNat := by
  have hp := p.isLt
  have e1 : (IntOp.addi (BitVec.ofNat 32 p.val) (Scalar.muli (Scf.iv 0#32 1#32 k) 256#32)).toNat = p.val + k * 256 := by
    rw [iv_word]
    show (BitVec.ofNat 32 p.val + BitVec.ofNat 32 k * 256#32).toNat = _
    simp only [BitVec.toNat_add, BitVec.toNat_mul, BitVec.toNat_ofNat]
    omega
  have e2 : (Scalar.muli n 32#32).toNat = n.toNat * 32 := by
    show (n * 32#32).toNat = _
    simp only [BitVec.toNat_mul, BitVec.toNat_ofNat]
    omega
  rw [StableHlo.Predicate.slt_iff_toNat (by omega) (by omega), e1, e2]
  omega

/-- The weight of a place of a chunk. -/
theorem chunk_weight (hn : n.toNat ≤ 256) {k : ℕ} (hk : k < 32) (p : Fin 256) (h : Fin 16) :
    k0_pay4 (F := Ideal) n q (Scf.iv 0#32 1#32 k) (k0_pay13 (slabV fK (pages tab r k))) (ValueIdx.ix2 p h)
      = if 8 * k + p.val / 32 < n.toNat then weightOf q fK h (tabAt tab r (8 * k + p.val / 32)) (p.val % 32) else 0 := by
  refine (weight_at n q (Scf.iv 0#32 1#32 k) (slabV fK (pages tab r k)) p h).trans ?_
  have e : Ideal.exp (chunkScore q (slabV fK (pages tab r k)) p h) = weightOf q fK h (tabAt tab r (8 * k + p.val / 32)) (p.val % 32) := by
    unfold weightOf chunkScore
    refine congrArg (fun x => Ideal.exp (x * _)) (Finset.sum_congr rfl fun d _ => ?_)
    exact congrArg (· * _) (slab_read fK k p h d)
  rw [e]
  unfold Scalar.select
  exact if_congr (mask_iff hn hk p) rfl rfl

theorem carry_sum (hn : n.toNat ≤ 256) (h : Fin 16) (N : ℕ) (hN : N ≤ 32) :
    (carry tab r fK fV n q N).2 (ValueIdx.ix2 0 h)
      = ∑ k ∈ Finset.range N, ∑ p : Fin 256,
          (fun t i => if t < n.toNat then weightOf q fK h (tabAt tab r t) i else 0) (8 * k + p.val / 32) (p.val % 32) := by
  induction N with
  | zero => exact (sum_start h).trans (by simp)
  | succ N ih =>
    rw [Finset.sum_range_succ, ← ih (by omega)]
    refine (sum_step n q (carry tab r fK fV n q N).2 (Scf.iv 0#32 1#32 N) (k0_pay13 (slabV fK (pages tab r N))) h).trans ?_
    exact congrArg _ (Finset.sum_congr rfl fun p _ => chunk_weight hn (by omega) p h)

theorem carry_acc (hn : n.toNat ≤ 256) (h : Fin 16) (d : Fin 128) (N : ℕ) (hN : N ≤ 32) :
    (carry tab r fK fV n q N).1 (ValueIdx.ix2 h d)
      = ∑ k ∈ Finset.range N, ∑ p : Fin 256,
          (fun t i => if t < n.toNat then readAt fV (tabAt tab r t) i h d * weightOf q fK h (tabAt tab r t) i else 0)
            (8 * k + p.val / 32) (p.val % 32) := by
  induction N with
  | zero => exact (acc_start h d).trans (by simp)
  | succ N ih =>
    rw [Finset.sum_range_succ, ← ih (by omega)]
    refine (acc_step n q (carry tab r fK fV n q N).1 (Scf.iv 0#32 1#32 N) (k0_pay13 (slabV fK (pages tab r N))) (slabV fV (pages tab r N)) h d).trans ?_
    refine congrArg _ (Finset.sum_congr rfl fun p _ => ?_)
    refine (congrArg₂ (· * ·) (slab_read fV N p h d) (chunk_weight hn (by omega) p h)).trans ?_
    beta_reduce
    split
    · rfl
    · exact mul_zero _

/-- The sum of the weights a row leaves. -/
theorem row_sum (hn : n.toNat ≤ 256) (h : Fin 16) :
    (carry tab r fK fV n q (nch n)).2 (ValueIdx.ix2 0 h)
      = ∑ t : Fin 256, if t.val < n.toNat then ∑ i : Fin 32, weightOf q fK h (tabAt tab r t.val) i.val else 0 := by
  refine (carry_sum hn h _ (nch_le hn)).trans
    ((sum_pages (fun t i => if t < n.toNat then weightOf q fK h (tabAt tab r t) i else 0) hn fun t i ht => if_neg (by omega)).trans
      (Finset.sum_congr rfl fun t _ => ?_))
  beta_reduce
  split
  · rfl
  · exact Finset.sum_const_zero

/-- The weighted sum of the values a row leaves. -/
theorem row_acc (hn : n.toNat ≤ 256) (h : Fin 16) (d : Fin 128) :
    (carry tab r fK fV n q (nch n)).1 (ValueIdx.ix2 h d)
      = ∑ t : Fin 256, if t.val < n.toNat
          then ∑ i : Fin 32, readAt fV (tabAt tab r t.val) i.val h d * weightOf q fK h (tabAt tab r t.val) i.val else 0 := by
  refine (carry_acc hn h d _ (nch_le hn)).trans
    ((sum_pages (fun t i => if t < n.toNat then readAt fV (tabAt tab r t) i h d * weightOf q fK h (tabAt tab r t) i else 0) hn fun t i ht => if_neg (by omega)).trans
      (Finset.sum_congr rfl fun t _ => ?_))
  beta_reduce
  split
  · rfl
  · exact Finset.sum_const_zero

end Cert.Proof
-- ==== Proof.DevSums.lean ====
/- What a device leaves for the exchange, over the reals: sums over the entries of the page table that name its pages. -/
module

public import proofs.«01_k».proof.Proof.HostVals
public import proofs.«01_k».proof.Proof.Sums

@[expose] public section

set_option maxRecDepth 16384

noncomputable section

namespace Cert.Proof

open Cert.KernelIdeal Cert.KernelIdeal.Gen
open Idealize.ShloMosaic Idealize.ShloMosaic.TcCoe

variable (m : (ℓ : Loc nD τ sig) → Buf (Elt Ideal) ℓ)

theorem mark_iff (c : Dev nD) (r : Fin 32) (j : Fin 256) : mineOf m c (entry r j) = 1#1 ↔ keysOf m c (entry r j) = 0#1 := by
  show _ ↔ ~~~(mineOf m c (entry r j)) = 0#1
  generalize mineOf m c (entry r j) = b
  revert b
  decide

/-- A sum over the entries of the kernel's page table in use is a sum over the entries of the given one that name pages of the device. -/
theorem sum_table (c : Dev nD) (r : Fin 32) (g : BitVec 32 → EReal) :
    (∑ t : Fin 256, if t.val < (cntOf (mid m) c (ValueIdx.ix1 r)).toNat then g (tabAt (tabOf (mid m) c) r t.val) else 0)
      = ∑ j : Fin 256, if mineOf m c (entry r j) = 1#1 then g (pagesOf m c (entry r j) - half c) else 0 := by
  have e : ∀ t : Fin 256, tabAt (tabOf (mid m) c) r t.val = kepts m c (entry r (source (keysOf m c) r t)) := fun t => by
    rw [← table_at]
    unfold tabAt entry
    rw [Fin.ofNat_val_eq_self]
  simp only [e]
  refine (sum_packed (source (keysOf m c) r) (source_injective _ r) (fun j => mineOf m c (entry r j) = 1#1) (fun t t' h h' => ?_) _ (count_at m c r)
    (fun j => g (kepts m c (entry r j)))).trans (Finset.sum_congr rfl fun j _ => ?_)
  · rw [mark_iff] at h' ⊢
    exact key_sorted _ r t t' h h'
  · refine if_congr Iff.rfl rfl rfl |>.trans ?_
    split
    · rename_i h
      refine congrArg g ?_
      rw [← local_at]
      exact if_pos h
    · rfl

/-- The sum of the weights a device leaves for a row and head. -/
theorem sum_at (c : Dev nD) (r : Fin 32) (h : Fin 16) :
    sumOf (mid m) c (ValueIdx.ix2 r h)
      = ∑ j : Fin 256, if mineOf m c (entry r j) = 1#1
          then ∑ i : Fin 32, weightOf (qRow (mid m) c r) (keyOf (mid m) c) h (pagesOf m c (entry r j) - half c) i.val else 0 :=
  (sum_kept _ h).trans ((row_sum (count_small m c _) h).trans
    (sum_table m c r fun w => ∑ i : Fin 32, weightOf (qRow (mid m) c r) (keyOf (mid m) c) h w i.val))

/-- The weighted sum of the values a device leaves for a row, head and column. -/
theorem acc_at (c : Dev nD) (r : Fin 32) (h : Fin 16) (d : Fin 128) :
    accOf (mid m) c (ValueIdx.ix3 r h d)
      = ∑ j : Fin 256, if mineOf m c (entry r j) = 1#1
          then ∑ i : Fin 32, readAt (valOf (mid m) c) (pagesOf m c (entry r j) - half c) i.val h d
            * weightOf (qRow (mid m) c r) (keyOf (mid m) c) h (pagesOf m c (entry r j) - half c) i.val else 0 :=
  (acc_kept _ h d).trans ((row_acc (count_small m c _) h d).trans
    (sum_table m c r fun w => ∑ i : Fin 32, readAt (valOf (mid m) c) w i.val h d * weightOf (qRow (mid m) c r) (keyOf (mid m) c) h w i.val))

end Cert.Proof
-- ==== Proof.Softmax.lean ====
/- The softmax over the extended reals: the shift by a real number cancels, and the division comes out of the weighted sum. -/
module

public import Idealize.ShloMosaic.Lib.Pointwise

@[expose] public section

noncomputable section

namespace Cert.Proof

open Idealize.ShloMosaic
open scoped BigOperators

/-- An extended real that is a real number. -/
def Finite (x : EReal) : Prop := ∃ s : ℝ, x = (s : EReal)

theorem Finite.mul {x y : EReal} (hx : Finite x) (hy : Finite y) : Finite (x * y) := by
  obtain ⟨a, rfl⟩ := hx
  obtain ⟨b, rfl⟩ := hy
  exact ⟨a * b, (EReal.coe_mul a b).symm⟩

theorem Finite.sum {ι : Type*} {S : Finset ι} {f : ι → EReal} (h : ∀ i ∈ S, Finite (f i)) : Finite (∑ i ∈ S, f i) := by
  classical
  induction S using Finset.induction_on with
  | empty => exact ⟨0, by simp⟩
  | insert a S ha ih =>
    obtain ⟨x, hx⟩ := h a (Finset.mem_insert_self a S)
    obtain ⟨y, hy⟩ := ih fun i hi => h i (Finset.mem_insert_of_mem hi)
    exact ⟨x + y, by rw [Finset.sum_insert ha, hx, hy, EReal.coe_add]⟩

/-- The sum of real numbers, as an extended real. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A factor that is a nonnegative real comes out of a sum. -/
theorem sum_mul_coe {ι : Type*} (S : Finset ι) (f : ι → EReal) {a : ℝ} (ha : 0 ≤ a) : ∑ i ∈ S, f i * (a : EReal) = (∑ i ∈ S, f i) * (a : EReal) := by
  classical
  induction S using Finset.induction_on with
  | empty => simp
  | insert b S hb ih =>
    rw [Finset.sum_insert hb, Finset.sum_insert hb, ih,
      EReal.right_distrib_of_nonneg_of_ne_top (EReal.coe_nonneg.mpr ha) (EReal.coe_ne_top a)]

theorem exp_coe (s : ℝ) : Ideal.exp (s : EReal) = (Real.exp s : EReal) := rfl
theorem exp_bot : Ideal.exp ⊥ = 0 := rfl

theorem div_coe (x : EReal) {b : ℝ} (hb : 0 < b) : Ideal.div x (b : EReal) = x * ((b⁻¹ : ℝ) : EReal) := by
  unfold Ideal.div
  rw [if_neg (by exact_mod_cast hb.ne'), EReal.coe_inv]

section

variable {ι : Type*} [Fintype ι] (live : ι → Prop) [DecidablePred live] (f V : ι → EReal)

/-- The score of an entry in use, and `⊥` elsewhere. -/
def masked (i : ι) : EReal := if live i then f i else ⊥

/-- The sum of the weights of the entries in use. -/
def mass : EReal := ∑ i, if live i then Ideal.exp (f i) else 0

/-- The sum of the values of the entries in use by their weights. -/
def moment : EReal := ∑ i, if live i then V i * Ideal.exp (f i) else 0

variable (hf : ∀ i, live i → Finite (f i)) (hl : ∃ i, live i)

include hf hl in
/-- The weighted mean by weights shifted by a real number is that by the weights as they are. -/
theorem softmax {M : EReal} (hM : Finite M) :
    ∑ i, V i * Ideal.div (Ideal.exp (masked live f i - M)) (∑ i', Ideal.exp (masked live f i' - M)) = Ideal.div (moment live f V) (mass live f) := by
  obtain ⟨M, rfl⟩ := hM
  have hs : ∀ i, ∃ s : ℝ, live i → f i = (s : EReal) := fun i => by
    by_cases h : live i
    · obtain ⟨s, hs⟩ := hf i h
      exact ⟨s, fun _ => hs⟩
    · exact ⟨0, fun h' => absurd h' h⟩
  choose s hs using hs
  set w : ι → ℝ := fun i => if live i then Real.exp (s i) else 0 with hw
  have hw0 : ∀ i, 0 ≤ w i := fun i => by
    rw [hw]; dsimp only; split
    · exact (Real.exp_pos _).le
    · exact le_refl _
  have hexp : ∀ i, Ideal.exp (masked live f i - (M : EReal)) = ((w i * Real.exp (-M) : ℝ) : EReal) := fun i => by
    unfold masked
    rw [hw]; dsimp only
    by_cases h : live i
    · rw [if_pos h, if_pos h, hs i h, ← EReal.coe_sub, exp_coe, sub_eq_add_neg, Real.exp_add]
    · rw [if_neg h, if_neg h, EReal.bot_sub, exp_bot]; simp
  have hpos : 0 < ∑ i, w i := by
    obtain ⟨i, hi⟩ := hl
    refine Finset.sum_pos' (fun j _ => hw0 j) ⟨i, Finset.mem_univ i, ?_⟩
    rw [hw]; dsimp only; rw [if_pos hi]; exact Real.exp_pos _
  have hmass : mass live f = ((∑ i, w i : ℝ) : EReal) := by
    unfold mass
    rw [coe_sum]
    refine Finset.sum_congr rfl fun i _ => ?_
    rw [hw]; dsimp only
    by_cases h : live i
    · rw [if_pos h, if_pos h, hs i h, exp_coe]
    · rw [if_neg h, if_neg h, EReal.coe_zero]
  have hmom : moment live f V = ∑ i, V i * (w i : EReal) := by
    unfold moment
    refine Finset.sum_congr rfl fun i _ => ?_
    rw [hw]; dsimp only
    by_cases h : live i
    · rw [if_pos h, if_pos h, hs i h, exp_coe]
    · rw [if_neg h, if_neg h, EReal.coe_zero, mul_zero]
  have htot : ∑ i', Ideal.exp (masked live f i' - (M : EReal)) = (((∑ i, w i) * Real.exp (-M) : ℝ) : EReal) := by
    rw [Finset.sum_mul, coe_sum]
    exact Finset.sum_congr rfl fun i _ => hexp i
  rw [htot, hmass, hmom, div_coe _ hpos, ← sum_mul_coe _ _ (inv_nonneg.mpr hpos.le)]
  refine Finset.sum_congr rfl fun i _ => ?_
  rw [hexp i, div_coe _ (mul_pos hpos (Real.exp_pos _)), mul_assoc, ← EReal.coe_mul, ← EReal.coe_mul]
  congr 2
  have h1 : Real.exp (-M) ≠ 0 := (Real.exp_pos _).ne'
  have h2 := hpos.ne'
  field_simp

include hf hl in
/-- The largest of the scores is a real number. -/
theorem fold_max_finite : Finite (Finset.univ.fold max ⊥ (masked live f)) := by
  have hlt : Finset.univ.fold max ⊥ (masked live f) < ⊤ := by
    refine (Finset.fold_max_lt _).mpr ⟨bot_lt_top, fun i _ => ?_⟩
    unfold masked
    by_cases h : live i
    · rw [if_pos h]; obtain ⟨s, hs⟩ := hf i h; rw [hs]; exact EReal.coe_lt_top s
    · rw [if_neg h]; exact bot_lt_top
  have hgt : ⊥ < Finset.univ.fold max ⊥ (masked live f) := by
    obtain ⟨i, hi⟩ := hl
    refine (Finset.lt_fold_max _).mpr (.inr ⟨i, Finset.mem_univ i, ?_⟩)
    unfold masked
    rw [if_pos hi]; obtain ⟨s, hs⟩ := hf i hi; rw [hs]; exact EReal.bot_lt_coe s
  exact ⟨_, (EReal.coe_toReal hlt.ne hgt.ne').symm⟩

end

end Cert.Proof

end
-- ==== Proof.RefRead.lean ====
/- The reference over the reals, read at an entry. -/
module

public import proofs.«01_k».proof.ReferenceIdeal
public import proofs.«01_k».proof.Proof.Gen.ReferenceIdeal
public import proofs.«01_k».proof.Proof.Gen.ReferenceIdeal.Run
public import proofs.«01_k».proof.Proof.Softmax
public import Idealize.ShloMosaic.Lib.Pointwise

@[expose] public section

set_option maxRecDepth 16384

noncomputable section

namespace Cert.Proof.Ref

open Cert.ReferenceIdeal Cert.ReferenceIdeal.Facts₀ Cert.ReferenceIdeal.Facts
open Idealize.ShloMosaic

variable [Cert.ReferenceIdeal.Facts]

/-- The pages of the row, a negative number counted from the end. -/
def page (bt : S32x256.Idx → BitVec 32) : S32x256x1.Idx → BitVec 32 :=
  broadcastInDim S32x256x1 ![0, 1] bcast_S32x256_S32x256x1_0_1 (select (cmpi .slt bt (broadcastInDim S32x256 ![] bcast_S_S32x256 (constantI S_ 32 0#32))) (addi bt (broadcastInDim S32x256 ![] bcast_S_S32x256 (constantI S_ 32 512#32))) bt)

/-- The entries in use. -/
def live (lens : S32.Idx → BitVec 32) : S32x16x1x256x32.Idx → BitVec 1 :=
  broadcastInDim S32x16x1x256x32 ![0, 1, 2, 3, 4] bcast_S32x1x1x256x1_S32x16x1x256x32_0_1_2_3_4 (broadcastInDim S32x1x1x256x1 ![0, 3] bcast_S32x256_S32x1x1x256x1_0_3 (cmpi .slt (broadcastInDim S32x256 ![0, 1] bcast_S1x256_S32x256_0_1 (broadcastInDim S1x256 ![1] bcast_S256_S1x256_1 (iotaInDim S256 32 0))) (broadcastInDim S32x256 ![0, 1] bcast_S32x1_S32x256_0_1 (broadcastInDim S32x1 ![0] bcast_S32_S32x1_0 lens))))

/-- The pages of a cache. -/
def cached (K : FVec Ideal S512x32x16x128 .f32) (bt : S32x256.Idx → BitVec 32) : FVec Ideal S32x256x32x16x128 .f32 :=
  Host.gather gather_S512x32x16x128_S32x256x1_S32x256x32x16x128_234_0_n_n_0_2_13216128 K (page bt)

/-- The scores, of the entries in use. -/
def score (Q : FVec Ideal S32x1x16x128 .f32) (Kg : FVec Ideal S32x256x32x16x128 .f32) (lens : S32.Idx → BitVec 32) : FVec Ideal S32x16x1x256x32 .f32 :=
  select (live lens) (Host.divf (Host.dotGeneral dot_S32x1x16x128_S32x256x32x16x128_S32x16x1x256x32_3_4_1_12_02_03 none Q Kg) (broadcastInDim S32x16x1x256x32 ![] bcast_S_S32x16x1x256x32 (Host.sqrt (constant S_ .f32 0x43000000#32)))) (broadcastInDim S32x16x1x256x32 ![] bcast_S_S32x16x1x256x32 (id (constant S_ .f32 0xFF800000#32)))

/-- The largest score of each row and head. -/
def top (S : FVec Ideal S32x16x1x256x32 .f32) : FVec Ideal S32x16x1 .f32 :=
  Host.reduce FloatOps.maximumf S (constant S_ .f32 0xFF800000#32) reducesTo_S32x16x1x256x32_S32x16x1_d3_4 h_S_

/-- A row and head's value, at each of its scores. -/
def spread (x : FVec Ideal S32x16x1 .f32) : FVec Ideal S32x16x1x256x32 .f32 :=
  broadcastInDim S32x16x1x256x32 ![0, 1, 2, 3, 4] bcast_S32x16x1x1x1_S32x16x1x256x32_0_1_2_3_4 (broadcastInDim S32x16x1x1x1 ![0, 1, 2] bcast_S32x16x1_S32x16x1x1x1_0_1_2 x)

/-- The weights. -/
def weight (S : FVec Ideal S32x16x1x256x32 .f32) : FVec Ideal S32x16x1x256x32 .f32 := Host.exp (subf S (spread (top S)))

/-- The sum of the weights. -/
def total (P : FVec Ideal S32x16x1x256x32 .f32) : FVec Ideal S32x16x1 .f32 :=
  Host.reduceAdd P (constant S_ .f32 0x00000000#32) reducesTo_S32x16x1x256x32_S32x16x1_d3_4 h_S_

/-- The weighted values. -/
def mixed (Vg : FVec Ideal S32x256x32x16x128 .f32) (P : FVec Ideal S32x16x1x256x32 .f32) : FVec Ideal S32x1x16x128 .f32 :=
  transpose S32x1x16x128 [0, 3, 1, 2] (Host.dotGeneral dot_S32x256x32x16x128_S32x16x1x256x32_S32x16x128x1_21_43_4_2_03_01 none Vg P) transposes_S32x16x128x1_S32x1x16x128_0_3_1_2

/-- The softmax of the scores, times the values. -/
def attend (Vg : FVec Ideal S32x256x32x16x128 .f32) (S : FVec Ideal S32x16x1x256x32 .f32) : FVec Ideal S32x1x16x128 .f32 :=
  mixed Vg (Host.divf (weight S) (spread (total (weight S))))

/-- What the reference leaves. -/
theorem result_eq (m : (ℓ : Loc nD τ sig) → Buf (Elt Ideal) ℓ) (c : Dev nD) :
    Cert.ReferenceIdeal.Value.res_out0 (F := Ideal) m c =
      attend (cached (m ((c.tc : Thread nD τ).loc main_arg2)) (m ((c.tc : Thread nD τ).loc main_arg3)))
        (score (m ((c.tc : Thread nD τ).loc main_arg0)) (cached (m ((c.tc : Thread nD τ).loc main_arg1)) (m ((c.tc : Thread nD τ).loc main_arg3)))
          (m ((c.tc : Thread nD τ).loc main_arg4))) := rfl

/-- The word of `-inf`. -/
theorem ofBits_low : Ideal.ofBits .f32 0xFF800000#32 = ⊥ := by
  simp [Ideal.ofBits, Ideal.ieee]

theorem live_at (lens : S32.Idx → BitVec 32) (r : Fin 32) (h : Fin 16) (t : Fin 256) (k : Fin 32) :
    live lens (ix5 r h 0 t k) = IntOp.cmpi .slt (BitVec.ofNat 32 t.val) (lens (ix1 r)) := by
  pointwise [live]

theorem page_at (bt : S32x256.Idx → BitVec 32) (r : Fin 32) (t : Fin 256) :
    page bt (ix3 r t 0) = Scalar.select (IntOp.cmpi .slt (bt (ix2 r t)) 0#32) (IntOp.addi (bt (ix2 r t)) 512#32) (bt (ix2 r t)) := by
  pointwise [page]

/-- The root the scores are divided by. -/
theorem root_at : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]
    norm_num
  rw [h]
  exact if_neg (by norm_num)

/-- Dividing by it is multiplying by its inverse. -/
theorem divided (x : EReal) : Ideal.div x (Ideal.sqrt (Ideal.ofBits .f32 0x43000000#32)) = x * (((Real.sqrt 128)⁻¹ : ℝ) : EReal) := by
  rw [root_at]
  exact div_coe x (Real.sqrt_pos.mpr (by norm_num))

theorem score_at (Q : FVec Ideal S32x1x16x128 .f32) (Kg : FVec Ideal S32x256x32x16x128 .f32) (lens : S32.Idx → BitVec 32) (r : Fin 32) (h : Fin 16) (t : Fin 256) (k : Fin 32) :
    score Q Kg lens (ix5 r h 0 t k) = Scalar.select (live lens (ix5 r h 0 t k))
      ((∑ d : Fin 128, Q (ix4 r 0 h d) * Kg (ix5 r t k h d)) * (((Real.sqrt 128)⁻¹ : ℝ) : EReal)) ⊥ := by
  rw [← divided]
  pointwise [score]
  exact congrArg _ ofBits_low

theorem drop_iff (r : Fin 32) (h : Fin 16) (i : S32x16x1x256x32.Idx) :
    reducesTo_S32x16x1x256x32_S32x16x1_d3_4.drop i = ix3 r h 0 ↔ ∃ k : Fin 256 × Fin 32, ix5 r h 0 k.1 k.2 = i := by
  constructor
  · intro e
    refine ⟨(i 3, i 4), funext fun a => ?_⟩
    match a with
    | ⟨0, _⟩ => exact (congrFun e 0).symm
    | ⟨1, _⟩ => exact (congrFun e 1).symm
    | ⟨2, _⟩ => exact Subsingleton.elim (α := Fin 1) _ _
    | ⟨3, _⟩ => rfl
    | ⟨4, _⟩ => rfl
  · rintro ⟨k, rfl⟩
    funext a
    match a with
    | ⟨0, _⟩ => rfl
    | ⟨1, _⟩ => rfl
    | ⟨2, _⟩ => rfl

theorem place_injective (r : Fin 32) (h : Fin 16) : Function.Injective fun k : Fin 256 × Fin 32 => (ix5 r h 0 k.1 k.2 : S32x16x1x256x32.Idx) :=
  fun _ _ e => Prod.ext (congrFun e 3) (congrFun e 4)

theorem top_at (S : FVec Ideal S32x16x1x256x32 .f32) (r : Fin 32) (h : Fin 16) :
    top S (ix3 r h 0) = Finset.univ.fold max ⊥ fun k : Fin 256 × Fin 32 => S (ix5 r h 0 k.1 k.2) := by
  pointwise [top]
  rw [ofBits_low]
  exact Finset.fold_filter_eq_fold_of_fiber _ _ (fun k : Fin 256 × Fin 32 => ix5 r h 0 k.1 k.2) (place_injective r h) (drop_iff r h) _ _

theorem total_at (P : FVec Ideal S32x16x1x256x32 .f32) (r : Fin 32) (h : Fin 16) :
    total P (ix3 r h 0) = ∑ k : Fin 256 × Fin 32, P (ix5 r h 0 k.1 k.2) := by
  pointwise [total]
  unfold Ideal.hostReduceAdd
  rw [zero_add]
  refine Finset.sum_filter_eq_sum_of_fiber _ (fun k : Fin 256 × Fin 32 => ix5 r h 0 k.1 k.2) (place_injective r h) (drop_iff r h) _
theorem weight_at (P : FVec Ideal S32x16x1x256x32 .f32) (r : Fin 32) (h : Fin 16) (t : Fin 256) (k : Fin 32) :
    weight P (ix5 r h 0 t k) = Ideal.exp (P (ix5 r h 0 t k) - top P (ix3 r h 0)) := by
  pointwise [weight, spread]
theorem mixed_at (Vg : FVec Ideal S32x256x32x16x128 .f32) (P : FVec Ideal S32x16x1x256x32 .f32) (r : Fin 32) (h : Fin 16) (d : Fin 128) :
    mixed Vg P (ix4 r 0 h d) = ∑ k : Fin 256 × Fin 32, Vg (ix5 r k.1 k.2 h d) * P (ix5 r h 0 k.1 k.2) := by
  pointwise [mixed]
  rw [Finset.sum_comm, ← Fintype.sum_prod_type']
theorem shared_at (P : FVec Ideal S32x16x1x256x32 .f32) (x : FVec Ideal S32x16x1 .f32) (r : Fin 32) (h : Fin 16) (t : Fin 256) (k : Fin 32) :
    Host.divf P (spread x) (ix5 r h 0 t k) = Ideal.div (P (ix5 r h 0 t k)) (x (ix3 r h 0)) := by
  pointwise [spread]

/-- The page a word names. -/
def pg (w : BitVec 32) : Fin 512 := Fin.ofNat 512 w.toNat

theorem page_small (bt : S32x256.Idx → BitVec 32) (r : Fin 32) (t : Fin 256) (hb : (bt (ix2 r t)).toNat < 512) :
    page bt (ix3 r t 0) = bt (ix2 r t) := by
  rw [page_at]
  generalize bt (ix2 r t) = w at hb
  have h : IntOp.cmpi .slt w 0#32 ≠ 1#1 := by
    unfold IntOp.cmpi
    have : w.slt 0#32 = false := by
      rw [BitVec.slt_eq_decide, decide_eq_false_iff_not, BitVec.toInt_eq_toNat_of_lt (by omega)]
      simp
    simp [this]
  exact if_neg h

theorem cached_at (K : FVec Ideal S512x32x16x128 .f32) (bt : S32x256.Idx → BitVec 32) (r : Fin 32) (t : Fin 256) (k : Fin 32) (h : Fin 16) (e : Fin 128)
    (hb : (bt (ix2 r t)).toNat < 512) : cached K bt (ix5 r t k h e) = K (ix4 (pg (bt (ix2 r t))) k h e) := by
  unfold cached Host.gather
  refine congrArg K (funext fun a => Fin.ext ?_)
  let d := gather_S512x32x16x128_S32x256x1_S32x256x32x16x128_234_0_n_n_0_2_13216128
  show d.start (ix5 r t k h e) (page bt) a + d.batchCoord (ix5 r t k h e) a + d.offCoord (ix5 r t k h e) a = _
  rw [d.batchCoord_eq_zero (ix5 r t k h e) a (fun h => by simp [d, gather_S512x32x16x128_S32x256x1_S32x256x32x16x128_234_0_n_n_0_2_13216128] at h)]
  have rest : ∀ a : Fin 4, a ∉ d.startIndexMap → d.offCoord (ix5 r t k h e) a = (ix4 (pg (bt (ix2 r t))) k h e a).val →
      d.start (ix5 r t k h e) (page bt) a + 0 + d.offCoord (ix5 r t k h e) a = (ix4 (pg (bt (ix2 r t))) k h e a).val := fun a h0 h1 => by
    unfold GatherDims.start
    rw [dif_neg h0, Nat.zero_add]
    exact h1
  match a with
  | 0 =>
    rw [d.offCoord_eq_zero (ix5 r t k h e) 0 (fun h => ((d.mem_sKept _).mp h).1 (List.mem_singleton.mpr rfl))]
    unfold GatherDims.start
    rw [dif_pos (show (0 : Fin 4) ∈ d.startIndexMap from List.mem_singleton.mpr rfl)]
    have e : d.siIdx (ix5 r t k h e) ⟨List.idxOf (0 : Fin 4) d.startIndexMap, List.idxOf_lt_length_iff.2 (List.mem_singleton.mpr rfl)⟩
        = ix3 r t 0 := by
      funext b; refine Fin.ext ?_
      match b with
      | ⟨0, _⟩ => rfl
      | ⟨1, _⟩ => rfl
      | ⟨2, _⟩ => rfl
    rw [e, page_small bt r t hb, BitVec.toInt_eq_toNat_of_lt (by omega)]
    show min (bt (ix2 r t)).toNat 511 + 0 + 0 = (bt (ix2 r t)).toNat % 512
    omega
  | 1 => exact rest 1 (by simp [d, gather_S512x32x16x128_S32x256x1_S32x256x32x16x128_234_0_n_n_0_2_13216128]) rfl
  | 2 => exact rest 2 (by simp [d, gather_S512x32x16x128_S32x256x1_S32x256x32x16x128_234_0_n_n_0_2_13216128]) rfl
  | 3 => exact rest 3 (by simp [d, gather_S512x32x16x128_S32x256x1_S32x256x32x16x128_234_0_n_n_0_2_13216128]) rfl

end Cert.Proof.Ref

end
-- ==== Proof.RefVals.lean ====
/- The reference over the reals: each entry of its result is a weighted mean of the values on the pages in use. -/
module

public import proofs.«01_k».proof.Proof.RefRead
public import proofs.«01_k».proof.Proof.Softmax

@[expose] public section

set_option maxRecDepth 16384

noncomputable section

namespace Cert.Proof.Ref

open Cert.ReferenceIdeal Cert.ReferenceIdeal.Facts₀ Cert.ReferenceIdeal.Facts
open Idealize.ShloMosaic

/-- The scale of the scores is a real number. -/
theorem scale_finite : Finite (((Real.sqrt 128)⁻¹ : ℝ) : EReal) := ⟨_, rfl⟩

variable (Q : S32x1x16x128.Idx → EReal) (K V : S512x32x16x128.Idx → EReal) (bt : S32x256.Idx → BitVec 32) (lens : S32.Idx → BitVec 32)

/-- Entry `k.1` of row `r` of the page table is in use. -/
def inUse (r : Fin 32) (k : Fin 256 × Fin 32) : Prop := IntOp.cmpi .slt (BitVec.ofNat 32 k.1.val) (lens (ix1 r)) = 1#1

instance (r : Fin 32) : DecidablePred (inUse lens r) := fun _ => inferInstanceAs (Decidable (_ = _))

/-- The score of row `r` and head `h` at place `k.2` of the page that entry `k.1` names. -/
def scores (r : Fin 32) (h : Fin 16) (k : Fin 256 × Fin 32) : EReal :=
  (∑ d : Fin 128, Q (ix4 r 0 h d) * K (ix4 (pg (bt (ix2 r k.1))) k.2 h d)) * (((Real.sqrt 128)⁻¹ : ℝ) : EReal)

/-- The value there, at column `d`. -/
def values (r : Fin 32) (h : Fin 16) (d : Fin 128) (k : Fin 256 × Fin 32) : EReal := V (ix4 (pg (bt (ix2 r k.1))) k.2 h d)

/-- The weighted mean. -/
def mean (r : Fin 32) (h : Fin 16) (d : Fin 128) : EReal :=
  Ideal.div (moment (inUse lens r) (scores Q K bt r h) (values V bt r h d)) (mass (inUse lens r) (scores Q K bt r h))

variable [Cert.ReferenceIdeal.Facts]

section

variable {Q K bt lens} (hQ : ∀ i, Finite (Q i)) (hK : ∀ i, Finite (K i)) (hbt : ∀ r k, inUse lens r k → (bt (ix2 r k.1)).toNat < 512)

include hQ hK in
theorem scores_finite (r : Fin 32) (h : Fin 16) (k : Fin 256 × Fin 32) : Finite (scores Q K bt r h k) :=
  (Finite.sum fun _ _ => (hQ _).mul (hK _)).mul scale_finite

include hbt in
theorem score_masked (r : Fin 32) (h : Fin 16) (k : Fin 256 × Fin 32) :
    score Q (cached K bt) lens (ix5 r h 0 k.1 k.2) = masked (inUse lens r) (scores Q K bt r h) k := by
  rw [score_at, live_at]
  unfold masked
  by_cases hk : inUse lens r k
  · rw [if_pos hk]
    refine (if_pos hk).trans ?_
    unfold scores
    refine congrArg (· * _) (Finset.sum_congr rfl fun d _ => ?_)
    rw [cached_at K bt r k.1 k.2 h d (hbt r k hk)]
  · rw [if_neg hk]
    exact if_neg hk

include hQ hK hbt in
theorem mean_at (r : Fin 32) (h : Fin 16) (d : Fin 128) (hl : ∃ k, inUse lens r k) :
    attend (cached V bt) (score Q (cached K bt) lens) (ix4 r 0 h d) = mean Q K V bt lens r h d := by
  unfold attend
  have hS := score_masked (Q := Q) (K := K) hbt r h
  generalize score Q (cached K bt) lens = S at hS
  have hw : ∀ k : Fin 256 × Fin 32, weight S (ix5 r h 0 k.1 k.2) = Ideal.exp (masked (inUse lens r) (scores Q K bt r h) k - top S (ix3 r h 0)) := fun k => by
    rw [weight_at, hS]
  have htop : top S (ix3 r h 0) = Finset.univ.fold max ⊥ (masked (inUse lens r) (scores Q K bt r h)) := by
    rw [top_at]
    exact congrArg (Finset.univ.fold max ⊥) (funext hS)
  rw [mixed_at]
  have htot : total (weight S) (ix3 r h 0) = ∑ k, Ideal.exp (masked (inUse lens r) (scores Q K bt r h) k - top S (ix3 r h 0)) := by
    rw [total_at]
    exact Finset.sum_congr rfl fun k _ => hw k
  simp only [shared_at, hw, htot, htop]
  rw [softmax _ _ _ (fun k _ => scores_finite hQ hK r h k) hl (fold_max_finite _ _ (fun k _ => scores_finite hQ hK r h k) hl)]
  unfold mean
  refine congrArg (Ideal.div · _) ?_
  unfold moment
  refine Finset.sum_congr rfl fun k _ => ?_
  by_cases hk : inUse lens r k
  · rw [if_pos hk, if_pos hk]
    exact congrArg (· * _) (cached_at V bt r k.1 k.2 h d (hbt r k hk))
  · rw [if_neg hk, if_neg hk]

end

end Cert.Proof.Ref

end
-- ==== Proof.Blocks.lean ====
/- Which device holds a page, and where: pages 0 to 255 are the pages of devices 0 to 7, pages 256 to 511 those of devices 8 to 15. -/
module

public import proofs.«01_k».proof.Proof.DevSums
public import proofs.«01_k».proof.Proof.RefVals
public import Idealize.ShloMosaic.Lib.Layout

@[expose] public section

set_option maxRecDepth 16384

noncomputable section

namespace Cert.Proof

open Cert.KernelIdeal Cert.KernelIdeal.Gen
open Idealize.ShloMosaic Idealize.ShloMosaic.TcCoe

/-- The half of the pages a device holds. -/
abbrev side (c : Dev nD) : ℕ := c.val / 8 % 2

theorem side_pr (c : Dev nD) : side (pr c) = 1 - side c := by revert c; decide

/-- An array of all the pages. -/
abbrev Whole : Type := (⟨4, ![512, 32, 16, 128]⟩ : Shape).Idx → EReal

/-- The pages of it that a device holds. -/
abbrev blockOf (f : Whole) (c : Dev nD) : Cache Ideal :=
  Layout.blockN ⟨4, ![256, 32, 16, 128]⟩ ⟨4, ![512, 32, 16, 128]⟩ (Layout.meshBlock [2, 2, 4] ![[0], [], [], []] c) f

theorem side_coord (c : Dev nD) : Layout.meshLin [2, 2, 4] c.val [0] = side c := by revert c; decide

theorem block_at (f : Whole) (c : Dev nD) (a : Fin 256) (b : Fin 512) (hb : b.val = side c * 256 + a.val) (i : Fin 32) (h : Fin 16) (d : Fin 128) :
    blockOf f c (ValueIdx.ix4 a i h d) = f (ix4 b i h d) := by
  refine congrArg f (funext fun x => Fin.ext ?_)
  match x with
  | ⟨0, _⟩ =>
    show Layout.meshLin [2, 2, 4] c.val [0] * 256 + a.val = b.val
    rw [side_coord, hb]
  | ⟨1, _⟩ => exact (show 0 * 32 + i.val = i.val by omega)
  | ⟨2, _⟩ => exact (show 0 * 16 + h.val = h.val by omega)
  | ⟨3, _⟩ => exact (show 0 * 128 + d.val = d.val by omega)

theorem half_nat (c : Dev nD) : (half c).toNat = side c * 256 := by revert c; decide

theorem side_lt (c : Dev nD) : side c < 2 := Nat.mod_lt _ (by decide)

/-- A page number less the device's first one, as a number. -/
theorem local_nat (c : Dev nD) (b : BitVec 32) (hb : b.toNat < 512) (h : b.toNat / 256 = side c) : (b - half c).toNat = b.toNat - side c * 256 := by
  have := side_lt c
  rw [BitVec.toNat_sub, half_nat]
  omega

/-- A page in use is a device's own exactly if it is on the device's side. -/
theorem mine_iff (c : Dev nD) (b len : BitVec 32) (j : ℕ) (hb : IntOp.cmpi .slt (BitVec.ofNat 32 j) len = 1#1 → b.toNat < 512) :
    isMine c b len j = 1#1 ↔ IntOp.cmpi .slt (BitVec.ofNat 32 j) len = 1#1 ∧ b.toNat / 256 = side c := by
  have hs := side_lt c
  constructor
  · intro h
    obtain ⟨h1, h2⟩ := andi_one h
    obtain ⟨h3, h4⟩ := andi_one h1
    have h5 := small_word _ h3 h4
    have h6 := hb h2
    rw [BitVec.toNat_sub, half_nat] at h5
    exact ⟨h2, by omega⟩
  · rintro ⟨h1, h2⟩
    have h3 := hb h1
    have h4 := local_nat c b h3 h2
    have e1 : IntOp.cmpi .sge (b - half c) 0#32 = 1#1 :=
      (StableHlo.Predicate.sge_iff_toNat (by omega) (by decide)).mpr (Nat.zero_le _)
    have e2 : IntOp.cmpi .slt (b - half c) 256#32 = 1#1 :=
      (StableHlo.Predicate.slt_iff_toNat (by omega) (by decide)).mpr (by rw [h4]; show _ < 256; omega)
    unfold isMine
    rw [e1, e2, h1]
    decide

/-- A device's block read at a page of its own. -/
theorem read_block (f : Whole) (c : Dev nD) (b : BitVec 32) (hb : b.toNat < 512) (hc : b.toNat / 256 = side c) (i : Fin 32) (h : Fin 16) (d : Fin 128) :
    readAt (blockOf f c) (b - half c) i.val h d = f (ix4 (Ref.pg b) i h d) := by
  have e : place i.val = i := Fin.ext (Nat.mod_eq_of_lt i.isLt)
  unfold readAt
  rw [e]
  refine block_at f c _ _ ?_ i h d
  show b.toNat % 512 = side c * 256 + (b - half c).toNat % 256
  rw [local_nat c b hb hc]
  omega

/-- Two sums over the entries naming pages of either device of a pair make one over the entries in use. -/
theorem sum_sides (c : Dev nD) (b : Fin 256 → BitVec 32) (len : BitVec 32)
    (hb : ∀ j : Fin 256, IntOp.cmpi .slt (BitVec.ofNat 32 j.val) len = 1#1 → (b j).toNat < 512) (A : Dev nD → Fin 256 → EReal) (S : Fin 256 → EReal)
    (hA : ∀ c j, IntOp.cmpi .slt (BitVec.ofNat 32 j.val) len = 1#1 → (b j).toNat / 256 = side c → A c j = S j) :
    (∑ j, if isMine c (b j) len j.val = 1#1 then A c j else 0) + (∑ j, if isMine (pr c) (b j) len j.val = 1#1 then A (pr c) j else 0)
      = ∑ j : Fin 256, if IntOp.cmpi .slt (BitVec.ofNat 32 j.val) len = 1#1 then S j else 0 := by
  rw [← Finset.sum_add_distrib]
  refine Finset.sum_congr rfl fun j _ => ?_
  have h1 := mine_iff c (b j) len j.val (hb j)
  have h2 := mine_iff (pr c) (b j) len j.val (hb j)
  by_cases hl : IntOp.cmpi .slt (BitVec.ofNat 32 j.val) len = 1#1
  · rw [if_pos hl]
    have hs := side_lt c
    have hj := hb j hl
    rw [side_pr] at h2
    by_cases hc : (b j).toNat / 256 = side c
    · rw [if_pos (h1.mpr ⟨hl, hc⟩), if_neg fun h => by have := (h2.mp h).2; omega, hA c j hl hc, add_zero]
    · have hc' : (b j).toNat / 256 = 1 - side c := by omega
      rw [if_neg fun h => hc (h1.mp h).2, if_pos (h2.mpr ⟨hl, hc'⟩), hA (pr c) j hl (hc'.trans (side_pr c).symm), zero_add]
  · rw [if_neg hl, if_neg fun h => hl (h1.mp h).1, if_neg fun h => hl (h2.mp h).1, add_zero]

end Cert.Proof
-- ==== Proof.Value.lean ====
/- What a device's result is: the weighted mean the reference takes. -/
module

public import proofs.«01_k».proof.Proof.Blocks
public import Idealize.ShloMosaic.Lib.Pointwise.IndexBridge

@[expose] public section

set_option maxRecDepth 16384

noncomputable section

namespace Cert.Proof

open Cert.KernelIdeal Cert.KernelIdeal.Gen
open Idealize.ShloMosaic Idealize.ShloMosaic.TcCoe

variable (m : (ℓ : Loc nD τ sig) → Buf (Elt Ideal) ℓ)
variable (Q : S32x1x16x128.Idx → EReal) (K V : Whole) (bt : S32x256.Idx → BitVec 32) (lens : S32.Idx → BitVec 32)

/-- The initial memory holds the queries, the page table and the lengths on every device, and each device's blocks of the keys and values. -/
def Laid : Prop := ∀ c : Dev nD,
  m ((c : Thread nD τ).loc main_arg0) = Q ∧ m ((c : Thread nD τ).loc main_arg1) = blockOf K c ∧ m ((c : Thread nD τ).loc main_arg2) = blockOf V c
    ∧ m ((c : Thread nD τ).loc main_arg3) = bt ∧ m ((c : Thread nD τ).loc main_arg4) = lens

variable {m Q K V bt lens} (hL : Laid m Q K V bt lens) (hbt : ∀ r k, Ref.inUse lens r k → (bt (ix2 r k.1)).toNat < 512)

include hL in
theorem key_laid (c : Dev nD) : keyOf (mid m) c = blockOf K c :=
  (mid_arg m c main_arg1 (by decide) (by decide) (by decide) (by decide) (by decide) (by decide)).trans (hL c).2.1

include hL in
theorem val_laid (c : Dev nD) : valOf (mid m) c = blockOf V c :=
  (mid_arg m c main_arg2 (by decide) (by decide) (by decide) (by decide) (by decide) (by decide)).trans (hL c).2.2.1

include hL in
theorem qry_laid (c : Dev nD) : qryOf (mid m) c = Q :=
  (mid_arg m c main_arg0 (by decide) (by decide) (by decide) (by decide) (by decide) (by decide)).trans (hL c).1

include hL in
theorem mine_laid (c : Dev nD) (r : Fin 32) (j : Fin 256) : mineOf m c (entry r j) = isMine c (bt (ix2 r j)) (lens (ix1 r)) j.val := by
  rw [mask_of, ix2_eq_valueIdx, ix1_eq_valueIdx]
  unfold pagesOf lensOf
  rw [(hL c).2.2.2.1, (hL c).2.2.2.2]
  rfl

include hL in
theorem page_laid (c : Dev nD) (r : Fin 32) (j : Fin 256) : pagesOf m c (entry r j) = bt (ix2 r j) := by
  rw [ix2_eq_valueIdx]
  exact congrFun (hL c).2.2.2.1 _

include hL in
/-- The weight of a place of a page of the device's own is that of the reference's score there. -/
theorem weight_laid (c : Dev nD) (r : Fin 32) (h : Fin 16) (j : Fin 256) (i : Fin 32) (hb : (bt (ix2 r j)).toNat < 512)
    (hc : (bt (ix2 r j)).toNat / 256 = side c) :
    weightOf (qRow (mid m) c r) (keyOf (mid m) c) h (bt (ix2 r j) - half c) i.val = Ideal.exp (Ref.scores Q K bt r h (j, i)) := by
  rw [key_laid hL]
  refine congrArg (fun x => Ideal.exp (x * _)) (Finset.sum_congr rfl fun d _ => ?_)
  rw [read_block K c _ hb hc, mul_comm]
  refine congrArg (· * _) ?_
  show qryOf (mid m) c (ValueIdx.ix4 r 0 h d) = _
  rw [qry_laid hL, ix4_eq_valueIdx]

include hL hbt in
/-- The sums of the weights of a device and of its partner make the whole sum. -/
theorem sum_pair (c : Dev nD) (r : Fin 32) (h : Fin 16) :
    sumOf (mid m) c (ValueIdx.ix2 r h) + sumOf (mid m) (pr c) (ValueIdx.ix2 r h) = mass (Ref.inUse lens r) (Ref.scores Q K bt r h) := by
  rw [sum_at, sum_at]
  simp only [mine_laid hL, page_laid hL]
  refine (sum_sides c (fun j => bt (ix2 r j)) (lens (ix1 r)) (fun j hj => hbt r (j, 0) hj)
    (fun c j => ∑ i : Fin 32, weightOf (qRow (mid m) c r) (keyOf (mid m) c) h (bt (ix2 r j) - half c) i.val)
    (fun j => ∑ i : Fin 32, Ideal.exp (Ref.scores Q K bt r h (j, i))) fun c j hj hc => ?_).trans ?_
  · exact Finset.sum_congr rfl fun i _ => weight_laid hL c r h j i (hbt r (j, 0) hj) hc
  · unfold mass
    rw [Fintype.sum_prod_type]
    refine Finset.sum_congr rfl fun j _ => ?_
    by_cases hj : IntOp.cmpi .slt (BitVec.ofNat 32 j.val) (lens (ix1 r)) = 1#1
    · rw [if_pos hj]
      exact Finset.sum_congr rfl fun i _ => (if_pos (show Ref.inUse lens r (j, i) from hj)).symm
    · rw [if_neg hj]
      exact (Finset.sum_eq_zero fun i _ => if_neg (show ¬ Ref.inUse lens r (j, i) from hj)).symm

include hL hbt in
/-- The same of the weighted sums of the values. -/
theorem acc_pair (c : Dev nD) (r : Fin 32) (h : Fin 16) (d : Fin 128) :
    accOf (mid m) c (ValueIdx.ix3 r h d) + accOf (mid m) (pr c) (ValueIdx.ix3 r h d)
      = moment (Ref.inUse lens r) (Ref.scores Q K bt r h) (Ref.values V bt r h d) := by
  rw [acc_at, acc_at]
  simp only [mine_laid hL, page_laid hL]
  refine (sum_sides c (fun j => bt (ix2 r j)) (lens (ix1 r)) (fun j hj => hbt r (j, 0) hj)
    (fun c j => ∑ i : Fin 32, readAt (valOf (mid m) c) (bt (ix2 r j) - half c) i.val h d
      * weightOf (qRow (mid m) c r) (keyOf (mid m) c) h (bt (ix2 r j) - half c) i.val)
    (fun j => ∑ i : Fin 32, Ref.values V bt r h d (j, i) * Ideal.exp (Ref.scores Q K bt r h (j, i))) fun c j hj hc => ?_).trans ?_
  · refine Finset.sum_congr rfl fun i _ => ?_
    rw [weight_laid hL c r h j i (hbt r (j, 0) hj) hc, val_laid hL, read_block V c _ (hbt r (j, 0) hj) hc]
    rfl
  · unfold moment
    rw [Fintype.sum_prod_type]
    refine Finset.sum_congr rfl fun j _ => ?_
    by_cases hj : IntOp.cmpi .slt (BitVec.ofNat 32 j.val) (lens (ix1 r)) = 1#1
    · rw [if_pos hj]
      exact Finset.sum_congr rfl fun i _ => (if_pos (show Ref.inUse lens r (j, i) from hj)).symm
    · rw [if_neg hj]
      exact (Finset.sum_eq_zero fun i _ => if_neg (show ¬ Ref.inUse lens r (j, i) from hj)).symm

include hL hbt in
/-- Each device's result, at an entry. -/
theorem res_at (c : Dev nD) (r : Fin 32) (h : Fin 16) (d : Fin 128) :
    resOf (mid m) c (ix4 r 0 h d) = Ref.mean Q K V bt lens r h d := by
  refine (quotient _ _ _ _ r h d).trans ?_
  rw [ix3_eq_valueIdx, ix2_eq_valueIdx]
  unfold Ref.mean
  rw [acc_pair hL hbt, sum_pair hL hbt]

end Cert.Proof
-- ==== Proof.Given.lean ====
/- What the precondition says of an entry. -/
module

public import proofs.«01_k».proof.Pre_inputs_ok_KernelIdeal
public import proofs.«01_k».proof.Pre_inputs_ok_ReferenceIdeal
public import proofs.«01_k».proof.Proof.Softmax
public import Idealize.ShloMosaic.Lib.Pointwise
public import Idealize.ShloMosaic.Lib.StableHlo.Predicate

@[expose] public section

set_option maxRecDepth 16384

noncomputable section

namespace Cert.Proof

open Idealize.ShloMosaic

/-- The side conditions of the precondition's operations, over a device's shapes. -/
theorem given_facts : Cert.Pre_inputs_ok_KernelIdeal.Facts where
  bcast_S256_S1x256_1 := by decide
  bcast_S32_S32x1_0 := by decide
  bcast_S1x256_S32x256_0_1 := by decide
  bcast_S32x1_S32x256_0_1 := by decide
  bcast_S_S32x1x16x128 := by decide
  bcast_S_S256x32x16x128 := by decide
  bcast_S_S32 := by decide
  bcast_S_S32x256 := by decide

/-- The same over the shapes of the whole arrays. -/
theorem given_facts_whole : Cert.Pre_inputs_ok_ReferenceIdeal.Facts where
  bcast_S256_S1x256_1 := by decide
  bcast_S32_S32x1_0 := by decide
  bcast_S1x256_S32x256_0_1 := by decide
  bcast_S32x1_S32x256_0_1 := by decide
  bcast_S_S32x1x16x128 := by decide
  bcast_S_S512x32x16x128 := by decide
  bcast_S_S32 := by decide
  bcast_S_S32x256 := by decide

theorem ofBits_top : Ideal.ofBits .f32 0x7F800000#32 = ⊤ := by
  simp [Ideal.ofBits, Ideal.ieee]

theorem ofBool_one {b : Bool} (h : BitVec.ofBool b = 1#1) : b = true := by revert h; cases b <;> decide

/-- A number whose absolute value is below infinity is real. -/
theorem finite_of_abs {x : EReal} (h : Ideal.cmp .olt (max x (-x)) (Ideal.ofBits .f32 0x7F800000#32) = 1#1) : Finite x := by
  have h' : max x (-x) < Ideal.ofBits .f32 0x7F800000#32 := of_decide_eq_true (ofBool_one h)
  rw [ofBits_top] at h'
  induction x using EReal.rec with
  | bot => exact absurd h' (by simp)
  | coe s => exact ⟨s, rfl⟩
  | top => exact absurd h' (by simp)

/-- A word not below zero and below `n`, both read signed, is below `n`. -/
theorem word_bound {w n : BitVec 32} (hn : n.toNat < 2 ^ 31) (h : IntOp.cmpi .sge w 0#32 = 1#1) (h' : IntOp.cmpi .slt w n = 1#1) :
    w.toNat < n.toNat := by
  have g := BitVec.sle_iff_toInt_le.mp (ofBool_one h)
  have e0 : (0#32 : BitVec 32).toInt = 0 := by decide
  rw [e0] at g
  have e := BitVec.toInt_eq_toNat_cond w
  have hw : w.toNat < 2 ^ 31 := by split at e <;> omega
  exact (StableHlo.Predicate.slt_iff_toNat hw hn).mp h'

/-- A word not below one is above zero. -/
theorem above_zero {w : BitVec 32} (h : IntOp.cmpi .sge w 1#32 = 1#1) : IntOp.cmpi .slt 0#32 w = 1#1 := by
  have g := BitVec.sle_iff_toInt_le.mp (ofBool_one h)
  have e0 : (0#32 : BitVec 32).toInt = 0 := by decide
  have e1 : (1#32 : BitVec 32).toInt = 1 := by decide
  rw [e1] at g
  have g' : (0#32).slt w = true := BitVec.slt_iff_toInt_lt.mpr (by omega)
  show BitVec.ofBool ((0#32).slt w) = 1#1
  rw [g']
  rfl

theorem or_one {a b c : BitVec 1} (h : IntOp.ori (~~~a) (IntOp.andi b c) = 1#1) (ha : a = 1#1) : b = 1#1 ∧ c = 1#1 := by
  revert a b c; decide

section

open Cert.Pre_inputs_ok_KernelIdeal

variable [Cert.Pre_inputs_ok_KernelIdeal.Facts]
variable {Q : FVec Ideal S32x1x16x128 .f32} {K V : FVec Ideal S256x32x16x128 .f32} {bt : IVec S32x256 32} {lens : IVec S32 32}

theorem query_real (h : (fn (F := Ideal) Q K V bt lens).1 = fun _ => 1#1) (i : S32x1x16x128.Idx) : Finite (Q i) := by
  have e := congrFun h i
  pointwise [fn, fn_part1] at e
  exact finite_of_abs e

theorem key_real (h : (fn (F := Ideal) Q K V bt lens).2.1 = fun _ => 1#1) (i : S256x32x16x128.Idx) : Finite (K i) := by
  have e := congrFun h i
  pointwise [fn, fn_part1] at e
  exact finite_of_abs e

theorem length_pos (h : (fn (F := Ideal) Q K V bt lens).2.2.1 = fun _ => 1#1) (r : Fin 32) : IntOp.cmpi .slt 0#32 (lens (ix1 r)) = 1#1 := by
  have e := congrFun h (ix1 r)
  pointwise [fn, fn_part1] at e
  exact above_zero e

theorem page_bound (h : (fn (F := Ideal) Q K V bt lens).2.2.2 = fun _ => 1#1) (r : Fin 32) (t : Fin 256)
    (hl : IntOp.cmpi .slt (BitVec.ofNat 32 t.val) (lens (ix1 r)) = 1#1) : (bt (ix2 r t)).toNat < 512 := by
  have e := congrFun h (ix2 r t)
  pointwise [fn, fn_part1] at e
  exact word_bound (by decide) (or_one e hl).1 (or_one e hl).2

end

end Cert.Proof
-- ==== Proof.Algebraic.lean ====
/- The kernel's result over the reals is the reference's, on every device. -/
module

public import proofs.«01_k».proof.Proof.Value
public import proofs.«01_k».proof.Proof.Given
public import proofs.«01_k».proof.Proof.Frames
public import proofs.«01_k».proof.Proof.RefFrame

@[expose] public section

set_option maxRecDepth 16384

noncomputable section

namespace Cert.Proof

open Idealize.ShloMosaic Idealize.ShloMosaic.TcCoe
open Idealize.SL.Sem

/-- An index of the result is a row, a head and a column. -/
theorem out_index (j : Cert.KernelIdeal.S32x1x16x128.Idx) : ∃ (r : Fin 32) (h : Fin 16) (d : Fin 128), j = ix4 r 0 h d :=
  ⟨j 0, j 2, j 3, funext fun a => by
    match a with
    | ⟨0, _⟩ => rfl
    | ⟨1, _⟩ => exact Subsingleton.elim (α := Fin 1) _ _
    | ⟨2, _⟩ => rfl
    | ⟨3, _⟩ => rfl⟩

/-- Every key is in the block of some device. -/
theorem key_covered (K : Whole) (i : (⟨4, ![512, 32, 16, 128]⟩ : Shape).Idx) :
    ∃ (c : Dev Cert.KernelIdeal.nD) (x : Cert.KernelIdeal.S256x32x16x128.Idx), K i = blockOf K c x := by
  have hp : (i 0).val < 512 := (i 0).isLt
  refine ⟨⟨8 * ((i 0).val / 256), by show _ < 16; omega⟩, ValueIdx.ix4 ⟨(i 0).val % 256, Nat.mod_lt _ (by decide)⟩ (i 1) (i 2) (i 3), ?_⟩
  refine Eq.trans ?_ (block_at K _ _ (i 0) ?_ (i 1) (i 2) (i 3)).symm
  · exact congrArg K (funext fun a => by
      match a with
      | ⟨0, _⟩ => rfl
      | ⟨1, _⟩ => rfl
      | ⟨2, _⟩ => rfl
      | ⟨3, _⟩ => rfl)
  · show (i 0).val = 8 * ((i 0).val / 256) / 8 % 2 * 256 + (i 0).val % 256
    omega

/-- The one constant that is named has the value that its name has. -/
theorem preserved : Cert.preserves_Kernel_KernelIdeal :=
  IdealRules.named_const.statement Cert.KernelIdeal.κ "scale" .f32 0x3DB504F3#32 (((Real.sqrt 128)⁻¹ : ℝ) : EReal) rfl

theorem algebraic : Cert.algebraic_KernelIdeal_ReferenceIdeal_pre_inputs_ok_KernelIdeal (hKernelIdeal := Cert.KernelIdeal.Gen.facts)
    (hReferenceIdeal := Cert.ReferenceIdeal.Gen.facts) (hPre_inputs_ok_KernelIdeal := given_facts) := by
  intro m g m' g' hpre hL
  haveI := given_facts
  have hpos : ∀ r : Fin 32, IntOp.cmpi .slt 0#32 (m' (((0 : Dev Cert.ReferenceIdeal.nD).tc : Thread Cert.ReferenceIdeal.nD Cert.ReferenceIdeal.τ).loc Cert.ReferenceIdeal.main_arg4) (ix1 r)) = 1#1 := fun r => by
    rw [← (hL 0).2.2.2.2]
    exact length_pos (hpre 0).2.2.1 r
  have hbt : ∀ (r : Fin 32) k, Ref.inUse (m' (((0 : Dev Cert.ReferenceIdeal.nD).tc : Thread Cert.ReferenceIdeal.nD Cert.ReferenceIdeal.τ).loc Cert.ReferenceIdeal.main_arg4)) r k →
      (m' (((0 : Dev Cert.ReferenceIdeal.nD).tc : Thread Cert.ReferenceIdeal.nD Cert.ReferenceIdeal.τ).loc Cert.ReferenceIdeal.main_arg3) (ix2 r k.1)).toNat < 512 := fun r k hk => by
    rw [← (hL 0).2.2.2.1]
    refine page_bound (hpre 0).2.2.2 r k.1 ?_
    rw [(hL 0).2.2.2.2]
    exact hk
  have hQ : ∀ i, Finite (m' (((0 : Dev Cert.ReferenceIdeal.nD).tc : Thread Cert.ReferenceIdeal.nD Cert.ReferenceIdeal.τ).loc Cert.ReferenceIdeal.main_arg0) i) := fun i => by
    rw [← (hL 0).1]
    exact query_real (hpre 0).1 i
  have hK : ∀ i, Finite (m' (((0 : Dev Cert.ReferenceIdeal.nD).tc : Thread Cert.ReferenceIdeal.nD Cert.ReferenceIdeal.τ).loc Cert.ReferenceIdeal.main_arg1) i) := fun i => by
    obtain ⟨c, x, e⟩ := key_covered (m' (((0 : Dev Cert.ReferenceIdeal.nD).tc : Thread Cert.ReferenceIdeal.nD Cert.ReferenceIdeal.τ).loc Cert.ReferenceIdeal.main_arg1)) i
    rw [e]
    have h := key_real (hpre c).2.1 x
    rw [(hL c).2.1] at h
    exact h
  have hres : ∀ c : Dev Cert.KernelIdeal.nD, resOf (mid m) c = Cert.ReferenceIdeal.Value.res_out0 (F := Ideal) m' 0 := fun c => by
    rw [Ref.result_eq]
    refine funext fun j => ?_
    obtain ⟨r, h, d, rfl⟩ := out_index j
    exact (res_at hL hbt c r h d).trans (Ref.mean_at _ hQ hK hbt r h d ⟨(0, 0), hpos r⟩).symm
  refine ⟨Cert.ReferenceIdeal.Value.res_out0 (F := Ideal) m' 0, ?_, ?_⟩
  · exact (θ_run Cert.KernelIdeal.defs _ _).mono (fun r h c => ⟨(h.1 c).2.1.trans (hres c), ends_args m c _ (h.1 c)⟩) (run_main m g)
  · exact (θ_run Cert.ReferenceIdeal.defs _ _).mono (fun r h => h 0) (Cert.ReferenceIdeal.Value.run (F := Ideal) m' g')

end Cert.Proof
-- ==== Proof.lean ====
/- The claims, put together from the modules under Proof/. -/
module

public import proofs.«01_k».proof.Proof.Frames
public import proofs.«01_k».proof.Proof.RefFrame
public import proofs.«01_k».proof.Proof.Algebraic
public import proofs.«01_k».proof.Proof.Gen.ReferenceIdeal
public import proofs.«01_k».proof.Proof.Gen.ReferenceIdeal.Run

@[expose] public section

noncomputable section

namespace Cert.Proof

open Cert.Kernel.Gen Cert.KernelIdeal.Gen Cert.ReferenceIdeal.Gen

/-- Every claim: a precondition is used by the last one only. -/
theorem claim : Cert.Claim := ⟨Cert.Kernel.Gen.facts, Cert.KernelIdeal.Gen.facts, Cert.ReferenceIdeal.Gen.facts, given_facts, given_facts_whole,
  frame_kernel, frame_ideal, fun m g _ => frame_ideal m g trivial, frame_reference, fun m g _ => frame_reference m g trivial, preserved, algebraic⟩

end Cert.Proof

end
